-- ==== Defs.lean ====
def Pre_Kernel [hPre_pos_names_rows : Cert.Pre_pos_names_rows.Facts] (m : (ℓ : Loc Cert.Kernel.nD Cert.Kernel.τ Cert.Kernel.sig) → Buf (Elt Bits) ℓ) : Prop :=
  ∀ c : Dev Cert.Kernel.nD,
    (Cert.Pre_pos_names_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pos_names_rows : Cert.Pre_pos_names_rows.Facts] (m : (ℓ : Loc Cert.KernelIdeal.nD Cert.KernelIdeal.τ Cert.KernelIdeal.sig) → Buf (Elt Ideal) ℓ) : Prop :=
  ∀ c : Dev Cert.KernelIdeal.nD,
    (Cert.Pre_pos_names_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pos_names_rows [hPre_pos_names_rows : Cert.Pre_pos_names_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pos_names_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_pos_names_rows : Cert.Pre_pos_names_rows.Facts] (m : (ℓ : Loc Cert.Reference.nD Cert.Reference.τ Cert.Reference.sig) → Buf (Elt Bits) ℓ) : Prop :=
  ∀ c : Dev Cert.Reference.nD,
    (Cert.Pre_pos_names_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_tiles_name_groups : Cert.Pre_tiles_name_groups.Facts] (m : (ℓ : Loc Cert.Kernel2.nD Cert.Kernel2.τ Cert.Kernel2.sig) → Buf (Elt Bits) ℓ) : Prop :=
  ∀ c : Dev Cert.Kernel2.nD,
    (Cert.Pre_tiles_name_groups.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_tiles_name_groups : Cert.Pre_tiles_name_groups.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_name_groups.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles_name_groups [hPre_tiles_name_groups : Cert.Pre_tiles_name_groups.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_name_groups.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3 (m : (ℓ : Loc Cert.Reference3.nD Cert.Reference3.τ Cert.Reference3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] [hPre_pos_names_rows : Cert.Pre_pos_names_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pos_names_rows : Cert.Pre_pos_names_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pos_names_rows [hReferenceIdeal : Cert.ReferenceIdeal.Facts] [hPre_pos_names_rows : Cert.Pre_pos_names_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pos_names_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_pos_names_rows : Cert.Pre_pos_names_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_tiles_name_groups : Cert.Pre_tiles_name_groups.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tiles_name_groups : Cert.Pre_tiles_name_groups.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_tiles_name_groups [hReference2Ideal : Cert.Reference2Ideal.Facts] [hPre_tiles_name_groups : Cert.Pre_tiles_name_groups.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles_name_groups m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pos_names_rows : Cert.Pre_pos_names_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_pos_names_rows : Cert.Pre_pos_names_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v11)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v11) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] [hPre_tiles_name_groups : Cert.Pre_tiles_name_groups.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def bitexact_Kernel3_Reference3 [hKernel3 : Cert.Kernel3.Facts] [hReference3 : Cert.Reference3.Facts] : Prop :=
  ∀ (m : (ℓ : Loc Cert.Kernel3.nD Cert.Kernel3.τ Cert.Kernel3.sig) → Buf (Elt Bits) ℓ) (g : Dev Cert.Kernel3.nD → PrngReg)
    (m' : (ℓ : Loc Cert.Reference3.nD Cert.Reference3.τ Cert.Reference3.sig) → Buf (Elt Bits) ℓ) (g' : Dev Cert.Reference3.nD → PrngReg), Pre_Kernel3 m →
    (∀ c : Dev Cert.Kernel3.nD,
      m' ((c.tc : Thread Cert.Reference3.nD Cert.Reference3.τ).loc Cert.Reference3.main_arg0) = m ((c.tc : Thread Cert.Kernel3.nD Cert.Kernel3.τ).loc Cert.Kernel3.main_arg0)
      ∧ m' ((c.tc : Thread Cert.Reference3.nD Cert.Reference3.τ).loc Cert.Reference3.main_arg1) = m ((c.tc : Thread Cert.Kernel3.nD Cert.Kernel3.τ).loc Cert.Kernel3.main_arg1)
      ∧ m' ((c.tc : Thread Cert.Reference3.nD Cert.Reference3.τ).loc Cert.Reference3.main_arg2) = m ((c.tc : Thread Cert.Kernel3.nD Cert.Kernel3.τ).loc Cert.Kernel3.main_arg2)) →
    ∃ (v0 : (c : Dev Cert.Kernel3.nD) → Buf (Elt Bits) ((c.tc : Thread Cert.Kernel3.nD Cert.Kernel3.τ).loc Cert.Kernel3.main_v0)),
      θ_run (Cert.Kernel3.defs (F := Bits)) (onTc (τ := Cert.Kernel3.τ) (Cert.Kernel3.main (F := Bits))) ⟨m, fun _ => 0, g⟩ (fun r => ∀ c : Dev Cert.Kernel3.nD,
          r.2.mem ((c.tc : Thread Cert.Kernel3.nD Cert.Kernel3.τ).loc Cert.Kernel3.main_v0) = v0 c
          ∧ r.2.mem ((c.tc : Thread Cert.Kernel3.nD Cert.Kernel3.τ).loc Cert.Kernel3.main_arg0) = m ((c.tc : Thread Cert.Kernel3.nD Cert.Kernel3.τ).loc Cert.Kernel3.main_arg0)
          ∧ r.2.mem ((c.tc : Thread Cert.Kernel3.nD Cert.Kernel3.τ).loc Cert.Kernel3.main_arg1) = m ((c.tc : Thread Cert.Kernel3.nD Cert.Kernel3.τ).loc Cert.Kernel3.main_arg1)
          ∧ r.2.mem ((c.tc : Thread Cert.Kernel3.nD Cert.Kernel3.τ).loc Cert.Kernel3.main_arg2) = m ((c.tc : Thread Cert.Kernel3.nD Cert.Kernel3.τ).loc Cert.Kernel3.main_arg2))
      ∧ θ_run (Cert.Reference3.defs (F := Bits)) (onTc (τ := Cert.Reference3.τ) (Cert.Reference3.main (F := Bits))) ⟨m', fun _ => 0, g'⟩ (fun r => ∀ c : Dev Cert.Reference3.nD,
          r.2.mem ((c.tc : Thread Cert.Reference3.nD Cert.Reference3.τ).loc Cert.Reference3.main_v6) = v0 c
          ∧ r.2.mem ((c.tc : Thread Cert.Reference3.nD Cert.Reference3.τ).loc Cert.Reference3.main_arg0) = m' ((c.tc : Thread Cert.Reference3.nD Cert.Reference3.τ).loc Cert.Reference3.main_arg0)
          ∧ r.2.mem ((c.tc : Thread Cert.Reference3.nD Cert.Reference3.τ).loc Cert.Reference3.main_arg1) = m' ((c.tc : Thread Cert.Reference3.nD Cert.Reference3.τ).loc Cert.Reference3.main_arg1)
          ∧ r.2.mem ((c.tc : Thread Cert.Reference3.nD Cert.Reference3.τ).loc Cert.Reference3.main_arg2) = m' ((c.tc : Thread Cert.Reference3.nD Cert.Reference3.τ).loc Cert.Reference3.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)) (v4 : (c : Dev Cert.Kernel4Ideal.nD) → Buf (Elt Ideal) ((c.tc : Thread Cert.Kernel4Ideal.nD Cert.Kernel4Ideal.τ).loc Cert.Kernel4Ideal.main_v8_4)) (v5 : (c : Dev Cert.Kernel4Ideal.nD) → Buf (Elt Ideal) ((c.tc : Thread Cert.Kernel4Ideal.nD Cert.Kernel4Ideal.τ).loc Cert.Kernel4Ideal.main_v8_5)) (v6 : (c : Dev Cert.Kernel4Ideal.nD) → Buf (Elt Ideal) ((c.tc : Thread Cert.Kernel4Ideal.nD Cert.Kernel4Ideal.τ).loc Cert.Kernel4Ideal.main_v8_6)) (v7 : (c : Dev Cert.Kernel4Ideal.nD) → Buf (Elt Ideal) ((c.tc : Thread Cert.Kernel4Ideal.nD Cert.Kernel4Ideal.τ).loc Cert.Kernel4Ideal.main_v8_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_v8_4) = v4 c
          ∧ r.2.mem ((c.tc : Thread Cert.Kernel4Ideal.nD Cert.Kernel4Ideal.τ).loc Cert.Kernel4Ideal.main_v8_5) = v5 c
          ∧ r.2.mem ((c.tc : Thread Cert.Kernel4Ideal.nD Cert.Kernel4Ideal.τ).loc Cert.Kernel4Ideal.main_v8_6) = v6 c
          ∧ r.2.mem ((c.tc : Thread Cert.Kernel4Ideal.nD Cert.Kernel4Ideal.τ).loc Cert.Kernel4Ideal.main_v8_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v74) = v0 c
          ∧ r.2.mem ((c.tc : Thread Cert.Reference4Ideal.nD Cert.Reference4Ideal.τ).loc Cert.Reference4Ideal.main_v75) = v1 c
          ∧ r.2.mem ((c.tc : Thread Cert.Reference4Ideal.nD Cert.Reference4Ideal.τ).loc Cert.Reference4Ideal.main_v79) = v2 c
          ∧ r.2.mem ((c.tc : Thread Cert.Reference4Ideal.nD Cert.Reference4Ideal.τ).loc Cert.Reference4Ideal.main_v84) = v3 c
          ∧ r.2.mem ((c.tc : Thread Cert.Reference4Ideal.nD Cert.Reference4Ideal.τ).loc Cert.Reference4Ideal.main_v82) = v4 c
          ∧ r.2.mem ((c.tc : Thread Cert.Reference4Ideal.nD Cert.Reference4Ideal.τ).loc Cert.Reference4Ideal.main_v86) = v5 c
          ∧ r.2.mem ((c.tc : Thread Cert.Reference4Ideal.nD Cert.Reference4Ideal.τ).loc Cert.Reference4Ideal.main_v88) = v6 c
          ∧ r.2.mem ((c.tc : Thread Cert.Reference4Ideal.nD Cert.Reference4Ideal.τ).loc Cert.Reference4Ideal.main_v89) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)) (v2 : (c : Dev Cert.Kernel5Ideal.nD) → Buf (Elt Ideal) ((c.tc : Thread Cert.Kernel5Ideal.nD Cert.Kernel5Ideal.τ).loc Cert.Kernel5Ideal.main_v15_2)) (v3 : (c : Dev Cert.Kernel5Ideal.nD) → Buf (Elt Ideal) ((c.tc : Thread Cert.Kernel5Ideal.nD Cert.Kernel5Ideal.τ).loc Cert.Kernel5Ideal.main_v15_3)) (v4 : (c : Dev Cert.Kernel5Ideal.nD) → Buf (Elt Ideal) ((c.tc : Thread Cert.Kernel5Ideal.nD Cert.Kernel5Ideal.τ).loc Cert.Kernel5Ideal.main_v15_4)) (v5 : (c : Dev Cert.Kernel5Ideal.nD) → Buf (Elt Ideal) ((c.tc : Thread Cert.Kernel5Ideal.nD Cert.Kernel5Ideal.τ).loc Cert.Kernel5Ideal.main_v15_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_v15_2) = v2 c
          ∧ r.2.mem ((c.tc : Thread Cert.Kernel5Ideal.nD Cert.Kernel5Ideal.τ).loc Cert.Kernel5Ideal.main_v15_3) = v3 c
          ∧ r.2.mem ((c.tc : Thread Cert.Kernel5Ideal.nD Cert.Kernel5Ideal.τ).loc Cert.Kernel5Ideal.main_v15_4) = v4 c
          ∧ r.2.mem ((c.tc : Thread Cert.Kernel5Ideal.nD Cert.Kernel5Ideal.τ).loc Cert.Kernel5Ideal.main_v15_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v75) = v0 c
          ∧ r.2.mem ((c.tc : Thread Cert.Reference5Ideal.nD Cert.Reference5Ideal.τ).loc Cert.Reference5Ideal.main_v76) = v1 c
          ∧ r.2.mem ((c.tc : Thread Cert.Reference5Ideal.nD Cert.Reference5Ideal.τ).loc Cert.Reference5Ideal.main_v80) = v2 c
          ∧ r.2.mem ((c.tc : Thread Cert.Reference5Ideal.nD Cert.Reference5Ideal.τ).loc Cert.Reference5Ideal.main_v82) = v3 c
          ∧ r.2.mem ((c.tc : Thread Cert.Reference5Ideal.nD Cert.Reference5Ideal.τ).loc Cert.Reference5Ideal.main_v84) = v4 c
          ∧ r.2.mem ((c.tc : Thread Cert.Reference5Ideal.nD Cert.Reference5Ideal.τ).loc Cert.Reference5Ideal.main_v86) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hReference3 : Cert.Reference3.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_pos_names_rows : Cert.Pre_pos_names_rows.Facts) (hPre_tiles_name_groups : Cert.Pre_tiles_name_groups.Facts),
    quiescent_Kernel (hKernel := hKernel) (hPre_pos_names_rows := hPre_pos_names_rows)
    ∧ quiescent_KernelIdeal (hKernelIdeal := hKernelIdeal) (hPre_pos_names_rows := hPre_pos_names_rows)
    ∧ quiescent_ReferenceIdeal (hReferenceIdeal := hReferenceIdeal)
    ∧ quiescent_ReferenceIdeal_pre_pos_names_rows (hReferenceIdeal := hReferenceIdeal) (hPre_pos_names_rows := hPre_pos_names_rows)
    ∧ quiescent_Reference (hReference := hReference) (hPre_pos_names_rows := hPre_pos_names_rows)
    ∧ quiescent_Kernel2 (hKernel2 := hKernel2) (hPre_tiles_name_groups := hPre_tiles_name_groups)
    ∧ quiescent_Kernel2Ideal (hKernel2Ideal := hKernel2Ideal) (hPre_tiles_name_groups := hPre_tiles_name_groups)
    ∧ quiescent_Reference2Ideal (hReference2Ideal := hReference2Ideal)
    ∧ quiescent_Reference2Ideal_pre_tiles_name_groups (hReference2Ideal := hReference2Ideal) (hPre_tiles_name_groups := hPre_tiles_name_groups)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference3 (hReference3 := hReference3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal) (hPre_pos_names_rows := hPre_pos_names_rows)
    ∧ bitexact_Kernel_Reference (hKernel := hKernel) (hReference := hReference) (hPre_pos_names_rows := hPre_pos_names_rows)
    ∧ preserves_Kernel2_Kernel2Ideal
    ∧ algebraic_Kernel2Ideal_Reference2Ideal (hKernel2Ideal := hKernel2Ideal) (hReference2Ideal := hReference2Ideal) (hPre_tiles_name_groups := hPre_tiles_name_groups)
    ∧ preserves_Kernel3_Kernel3Ideal
    ∧ algebraic_Kernel3Ideal_Reference3Ideal (hKernel3Ideal := hKernel3Ideal) (hReference3Ideal := hReference3Ideal)
    ∧ bitexact_Kernel3_Reference3 (hKernel3 := hKernel3) (hReference3 := hReference3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_pos_names_rows.lean ====
abbrev S8x18432x128 : Shape := ⟨3, ![8, 18432, 128]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S8x18432x128 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 18432#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Pre_tiles_name_groups.lean ====
abbrev S5x18432x128 : Shape := ⟨3, ![5, 18432, 128]⟩
abbrev S36 : Shape := ⟨1, ![36]⟩
abbrev S1 : Shape := ⟨1, ![1]⟩
abbrev S1024 : Shape := ⟨1, ![1024]⟩
abbrev S16x1024x512 : Shape := ⟨3, ![16, 1024, 512]⟩
abbrev S16x512x1024 : Shape := ⟨3, ![16, 512, 1024]⟩
abbrev S_ : Shape := ⟨0, ![]⟩

class Facts : Prop where
  bcast_S_S36 : S_.BroadcastsInDim S36 (![] : Fin 0 → Fin S36.rank)
  reducesTo_S36_S_d0 : S36.ReducesTo [0] S_
  h_S_ : 0 < S_.numel

variable [Facts]

def fn {F : FTy → Type} [FloatOps F] (main_arg0 : IVec S5x18432x128 32) (main_arg1 : IVec S36 32) (main_arg2 : IVec S1 32) (main_arg3 : FVec F S1024 .f32) (main_arg4 : FVec F S16x1024x512 .f32) (main_arg5 : FVec F S16x1024x512 .f32) (main_arg6 : FVec F S16x512x1024 .f32) : IVec S_ 1 :=
  let main_c : IVec S_ 32 := constantI S_ 32 0#32
  let main_v0 : IVec S36 32 := broadcastInDim S36 ![] bcast_S_S36 main_c
  let main_v1 : IVec S36 1 := cmpi .sge main_arg1 main_v0
  let main_c_0 : IVec S_ 32 := constantI S_ 32 4#32
  let main_v2 : IVec S36 32 := broadcastInDim S36 ![] bcast_S_S36 main_c_0
  let main_v3 : IVec S36 1 := cmpi .slt main_arg1 main_v2
  let main_v4 : IVec S36 1 := andi main_v1 main_v3
  let main_c_1 : IVec S_ 1 := constantI S_ 1 1#1
  let main_v5 : IVec S_ 1 := (fun x v => Host.reduce IntOp.andi x v reducesTo_S36_S_d0 h_S_) main_v4 main_c_1
  main_v5
-- ==== Kernel.lean ====
abbrev S8x18432x128 : Shape := ⟨3, ![8, 18432, 128]⟩
abbrev S16384 : Shape := ⟨1, ![16384]⟩
abbrev S147456x128 : Shape := ⟨2, ![147456, 128]⟩
abbrev S8 : Shape := ⟨1, ![8]⟩
abbrev S8x1 : Shape := ⟨2, ![8, 1]⟩
abbrev S_ : Shape := ⟨0, ![]⟩
abbrev S1x16384 : Shape := ⟨2, ![1, 16384]⟩
abbrev S8x16384 : Shape := ⟨2, ![8, 16384]⟩
abbrev S131072 : Shape := ⟨1, ![131072]⟩
abbrev S1x131072 : Shape := ⟨2, ![1, 131072]⟩
abbrev S131072x128 : Shape := ⟨2, ![131072, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩

abbrev nBuf : Table → Nat
  | .hbm => 15
  | .local .scVector .vmem => 2
  | _ => 0

abbrev bufTy : (tb : Table) → Fin (nBuf tb) → BufTy
  | .hbm, ⟨0, _⟩ => ⟨S8x18432x128, .f32⟩
  | .hbm, ⟨1, _⟩ => ⟨S16384, .i32⟩
  | .hbm, ⟨2, _⟩ => ⟨S147456x128, .f32⟩
  | .hbm, ⟨3, _⟩ => ⟨S8, .i32⟩
  | .hbm, ⟨4, _⟩ => ⟨S8x1, .i32⟩
  | .hbm, ⟨5, _⟩ => ⟨S_, .i32⟩
  | .hbm, ⟨6, _⟩ => ⟨S8x1, .i32⟩
  | .hbm, ⟨7, _⟩ => ⟨S8x1, .i32⟩
  | .hbm, ⟨8, _⟩ => ⟨S1x16384, .i32⟩
  | .hbm, ⟨9, _⟩ => ⟨S8x16384, .i32⟩
  | .hbm, ⟨10, _⟩ => ⟨S8x16384, .i32⟩
  | .hbm, ⟨11, _⟩ => ⟨S8x16384, .i32⟩
  | .hbm, ⟨12, _⟩ => ⟨S131072, .i32⟩
  | .hbm, ⟨13, _⟩ => ⟨S1x131072, .i32⟩
  | .hbm, ⟨14, _⟩ => ⟨S131072x128, .f32⟩
  | .local .scVector .vmem, ⟨0, _⟩ => ⟨S2x1x128, .i32⟩
  | .local .scVector .vmem, ⟨1, _⟩ => ⟨S2x128x128, .f32⟩
  | _, _ => ⟨S8x18432x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v0_scv : Ref sig .scVector := ⟨.hbm, 2, rfl⟩
abbrev main_v10_scv : Ref sig .scVector := ⟨.hbm, 13, rfl⟩
abbrev main_v11_scv : Ref sig .scVector := ⟨.hbm, 14, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_68_r0 : BitVec 32 := 31#32
  let v83_r0 : BitVec 1 := Scalar.cmpi .sge arg5_r0 c31_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_55_r0 : BitVec 32 := 31#32
  let v65_r0 : BitVec 1 := Scalar.cmpi .eq arg5_r0 c31_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x131072.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x131072.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S131072x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S131072x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x131072.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x131072.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S131072x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S131072x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S131072x128.size a)
theorem k0_off19_inb : ∀ (i : grid0.Coords) (v33_4_r0 : BitVec 32) (k0_hw5 : k0_chk5 i v33_4_r0), ∀ a, (k0_off19 i v33_4_r0) a + S128x128.size a ≤ S131072x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S8x18432x128 : Shape := ⟨3, ![8, 18432, 128]⟩
abbrev S16384 : Shape := ⟨1, ![16384]⟩
abbrev S_ : Shape := ⟨0, ![]⟩
abbrev S16384x1 : Shape := ⟨2, ![16384, 1]⟩
abbrev S8x16384x128 : Shape := ⟨3, ![8, 16384, 128]⟩
abbrev S131072x128 : Shape := ⟨2, ![131072, 128]⟩

abbrev nBuf : Space → Nat
  | .hbm => 12
  | .vmem => 0
  | .smem => 0
  | _ => 0

abbrev bufTy : (tb : Table) → Fin (tcTables nBuf tb) → BufTy
  | .hbm, ⟨0, _⟩ => ⟨S8x18432x128, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S8x16384x128, .f32⟩
  | .hbm, ⟨11, _⟩ => ⟨S131072x128, .f32⟩
  | _, _ => ⟨S8x18432x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel2.lean ====
abbrev S5x18432x128 : Shape := ⟨3, ![5, 18432, 128]⟩
abbrev S36 : Shape := ⟨1, ![36]⟩
abbrev S1 : Shape := ⟨1, ![1]⟩
abbrev S1024 : Shape := ⟨1, ![1024]⟩
abbrev S16x1024x512 : Shape := ⟨3, ![16, 1024, 512]⟩
abbrev S16x512x1024 : Shape := ⟨3, ![16, 512, 1024]⟩
abbrev S1x1024 : Shape := ⟨2, ![1, 1024]⟩
abbrev S8x18432x128 : Shape := ⟨3, ![8, 18432, 128]⟩
abbrev S5x512x128 : Shape := ⟨3, ![5, 512, 128]⟩
abbrev S4x1024x512 : Shape := ⟨3, ![4, 1024, 512]⟩
abbrev S4x512x1024 : Shape := ⟨3, ![4, 512, 1024]⟩
abbrev S8x512x128 : Shape := ⟨3, ![8, 512, 128]⟩
abbrev S1x512x128 : Shape := ⟨3, ![1, 512, 128]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 10
  | .vmem => 11
  | .smem => 2
  | _ => 0

abbrev bufTy : (tb : Table) → Fin (tcTables nBuf tb) → BufTy
  | .hbm, ⟨0, _⟩ => ⟨S5x18432x128, .i32⟩
  | .hbm, ⟨1, _⟩ => ⟨S1024, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S16x1024x512, .bf16⟩
  | .hbm, ⟨6, _⟩ => ⟨S16x1024x512, .bf16⟩
  | .hbm, ⟨7, _⟩ => ⟨S16x512x1024, .bf16⟩
  | .hbm, ⟨8, _⟩ => ⟨S1x1024, .f32⟩
  | .hbm, ⟨9, _⟩ => ⟨S8x18432x128, .f32⟩
  | .local _ .vmem, ⟨0, _⟩ => ⟨S5x512x128, .i32⟩
  | .local _ .vmem, ⟨1, _⟩ => ⟨S5x512x128, .i32⟩
  | .local _ .vmem, ⟨2, _⟩ => ⟨S1x1024, .f32⟩
  | .local _ .vmem, ⟨3, _⟩ => ⟨S4x1024x512, .bf16⟩
  | .local _ .vmem, ⟨4, _⟩ => ⟨S4x1024x512, .bf16⟩
  | .local _ .vmem, ⟨5, _⟩ => ⟨S4x1024x512, .bf16⟩
  | .local _ .vmem, ⟨6, _⟩ => ⟨S4x1024x512, .bf16⟩
  | .local _ .vmem, ⟨7, _⟩ => ⟨S4x512x1024, .bf16⟩
  | .local _ .vmem, ⟨8, _⟩ => ⟨S4x512x1024, .bf16⟩
  | .local _ .vmem, ⟨9, _⟩ => ⟨S8x512x128, .f32⟩
  | .local _ .vmem, ⟨10, _⟩ => ⟨S8x512x128, .f32⟩
  | .local _ .smem, ⟨0, _⟩ => ⟨S36, .i32⟩
  | .local _ .smem, ⟨1, _⟩ => ⟨S1, .i32⟩
  | _, _ => ⟨S5x18432x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![36], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v46 : Index := Scalar.indexCast arg0
  ![v46.toNat]
def k0_cond1 (i : grid0.Coords) (v0 : BitVec 32) : BitVec 1 :=
  let arg0 : BitVec 32 := BitVec.ofNat 32 (i 0).val
  let v1 : BitVec 1 := Scalar.cmpi .sge arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .slt arg0 v4
  let v6 : BitVec 32 := Scalar.extui v5
  let c0_i32_1 : BitVec 32 := 0#32
  let v7 : BitVec 1 := Scalar.cmpi .ne v6 c0_i32_1
  v7

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S5x512x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S5x18432x128 : Shape := ⟨3, ![5, 18432, 128]⟩
abbrev S36 : Shape := ⟨1, ![36]⟩
abbrev S1 : Shape := ⟨1, ![1]⟩
abbrev S1024 : Shape := ⟨1, ![1024]⟩
abbrev S16x1024x512 : Shape := ⟨3, ![16, 1024, 512]⟩
abbrev S16x512x1024 : Shape := ⟨3, ![16, 512, 1024]⟩
abbrev S4x18432x128 : Shape := ⟨3, ![4, 18432, 128]⟩
abbrev S4x18432x128x2 : Shape := ⟨4, ![4, 18432, 128, 2]⟩
abbrev S18432x2x4x128 : Shape := ⟨4, ![18432, 2, 4, 128]⟩
abbrev S18432x1024 : Shape := ⟨2, ![18432, 1024]⟩
abbrev S1x18432x128 : Shape := ⟨3, ![1, 18432, 128]⟩
abbrev S18432x128 : Shape := ⟨2, ![18432, 128]⟩
abbrev S18432x16 : Shape := ⟨2, ![18432, 16]⟩
abbrev S36x1 : Shape := ⟨2, ![36, 1]⟩
abbrev S36x512 : Shape := ⟨2, ![36, 512]⟩
abbrev S18432 : Shape := ⟨1, ![18432]⟩
abbrev S16 : Shape := ⟨1, ![16]⟩
abbrev S1x16 : Shape := ⟨2, ![1, 16]⟩
abbrev S_ : Shape := ⟨0, ![]⟩
abbrev S18432x1 : Shape := ⟨2, ![18432, 1]⟩
abbrev S16x512x18432 : Shape := ⟨3, ![16, 512, 18432]⟩
abbrev S16x18432x512 : Shape := ⟨3, ![16, 18432, 512]⟩
abbrev S16x18432 : Shape := ⟨2, ![16, 18432]⟩
abbrev S16x18432x1 : Shape := ⟨3, ![16, 18432, 1]⟩
abbrev S16x18432x1024 : Shape := ⟨3, ![16, 18432, 1024]⟩
abbrev S1x1024 : Shape := ⟨2, ![1, 1024]⟩
abbrev S18432x8x128 : Shape := ⟨3, ![18432, 8, 128]⟩
abbrev S8x18432x128 : Shape := ⟨3, ![8, 18432, 128]⟩

abbrev nBuf : Space → Nat
  | .hbm => 99
  | .vmem => 0
  | .smem => 0
  | _ => 0

abbrev bufTy : (tb : Table) → Fin (tcTables nBuf tb) → BufTy
  | .hbm, ⟨0, _⟩ => ⟨S5x18432x128, .i32⟩
  | .hbm, ⟨1, _⟩ => ⟨S36, .i32⟩
  | .hbm, ⟨2, _⟩ => ⟨S1, .i32⟩
  | .hbm, ⟨3, _⟩ => ⟨S1024, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S4x18432x128, .i32⟩
  | .hbm, ⟨8, _⟩ => ⟨S4x18432x128x2, .bf16⟩
  | .hbm, ⟨9, _⟩ => ⟨S4x18432x128x2, .f32⟩
  | .hbm, ⟨10, _⟩ => ⟨S18432x2x4x128, .f32⟩
  | .hbm, ⟨11, _⟩ => ⟨S18432x1024, .f32⟩
  | .hbm, ⟨12, _⟩ => ⟨S1x18432x128, .i32⟩
  | .hbm, ⟨13, _⟩ => ⟨S18432x128, .i32⟩
  | .hbm, ⟨14, _⟩ => ⟨S18432x128, .f32⟩
  | .hbm, ⟨15, _⟩ => ⟨S18432x16, .f32⟩
  | .hbm, ⟨16, _⟩ => ⟨S36x1, .i32⟩
  | .hbm, ⟨17, _⟩ => ⟨S36x512, .i32⟩
  | .hbm, ⟨18, _⟩ => ⟨S18432, .i32⟩
  | .hbm, ⟨19, _⟩ => ⟨S16, .i32⟩
  | .hbm, ⟨20, _⟩ => ⟨S1x16, .i32⟩
  | .hbm, ⟨21, _⟩ => ⟨S_, .i32⟩
  | .hbm, ⟨22, _⟩ => ⟨S_, .i32⟩
  | .hbm, ⟨23, _⟩ => ⟨S1x16, .i32⟩
  | .hbm, ⟨24, _⟩ => ⟨S1x16, .i32⟩
  | .hbm, ⟨25, _⟩ => ⟨S1x16, .i32⟩
  | .hbm, ⟨26, _⟩ => ⟨S_, .i32⟩
  | .hbm, ⟨27, _⟩ => ⟨S1x16, .i32⟩
  | .hbm, ⟨28, _⟩ => ⟨S1x16, .i1⟩
  | .hbm, ⟨29, _⟩ => ⟨S1x16, .i32⟩
  | .hbm, ⟨30, _⟩ => ⟨S1x16, .i32⟩
  | .hbm, ⟨31, _⟩ => ⟨S_, .i32⟩
  | .hbm, ⟨32, _⟩ => ⟨S1x16, .i32⟩
  | .hbm, ⟨33, _⟩ => ⟨S1x16, .i1⟩
  | .hbm, ⟨34, _⟩ => ⟨S1x16, .i1⟩
  | .hbm, ⟨35, _⟩ => ⟨S_, .i32⟩
  | .hbm, ⟨36, _⟩ => ⟨S1x16, .i32⟩
  | .hbm, ⟨37, _⟩ => ⟨S1x16, .i32⟩
  | .hbm, ⟨38, _⟩ => ⟨S1x16, .i32⟩
  | .hbm, ⟨39, _⟩ => ⟨S18432x1, .i32⟩
  | .hbm, ⟨40, _⟩ => ⟨S18432x16, .i32⟩
  | .hbm, ⟨41, _⟩ => ⟨S18432x16, .i32⟩
  | .hbm, ⟨42, _⟩ => ⟨S18432x16, .i1⟩
  | .hbm, ⟨43, _⟩ => ⟨S_, .f32⟩
  | .hbm, ⟨44, _⟩ => ⟨S_, .f32⟩
  | .hbm, ⟨45, _⟩ => ⟨S18432x16, .f32⟩
  | .hbm, ⟨46, _⟩ => ⟨S18432x16, .f32⟩
  | .hbm, ⟨47, _⟩ => ⟨S16x512x18432, .f32⟩
  | .hbm, ⟨48, _⟩ => ⟨S16x18432x512, .f32⟩
  | .hbm, ⟨49, _⟩ => ⟨S16x18432x512, .f32⟩
  | .hbm, ⟨50, _⟩ => ⟨S16x18432x512, .f32⟩
  | .hbm, ⟨51, _⟩ => ⟨S_, .f32⟩
  | .hbm, ⟨52, _⟩ => ⟨S16x18432x512, .f32⟩
  | .hbm, ⟨53, _⟩ => ⟨S16x18432x512, .f32⟩
  | .hbm, ⟨54, _⟩ => ⟨S_, .f32⟩
  | .hbm, ⟨55, _⟩ => ⟨S16x18432x512, .f32⟩
  | .hbm, ⟨56, _⟩ => ⟨S16x18432x512, .f32⟩
  | .hbm, ⟨57, _⟩ => ⟨S16x18432x512, .f32⟩
  | .hbm, ⟨58, _⟩ => ⟨S16x512x18432, .f32⟩
  | .hbm, ⟨59, _⟩ => ⟨S16x18432x512, .f32⟩
  | .hbm, ⟨60, _⟩ => ⟨S16x18432x512, .f32⟩
  | .hbm, ⟨61, _⟩ => ⟨S16x18432, .f32⟩
  | .hbm, ⟨62, _⟩ => ⟨S16x18432x1, .f32⟩
  | .hbm, ⟨63, _⟩ => ⟨S16x18432x1024, .f32⟩
  | .hbm, ⟨64, _⟩ => ⟨S16x18432x1024, .f32⟩
  | .hbm, ⟨65, _⟩ => ⟨S16x18432x1024, .f32⟩
  | .hbm, ⟨66, _⟩ => ⟨S_, .f32⟩
  | .hbm, ⟨67, _⟩ => ⟨S18432x1024, .f32⟩
  | .hbm, ⟨68, _⟩ => ⟨S18432x1024, .f32⟩
  | .hbm, ⟨69, _⟩ => ⟨S_, .f32⟩
  | .hbm, ⟨70, _⟩ => ⟨S18432, .f32⟩
  | .hbm, ⟨71, _⟩ => ⟨S18432x1, .f32⟩
  | .hbm, ⟨72, _⟩ => ⟨S_, .f32⟩
  | .hbm, ⟨73, _⟩ => ⟨S18432x1, .f32⟩
  | .hbm, ⟨74, _⟩ => ⟨S18432x1, .f32⟩
  | .hbm, ⟨75, _⟩ => ⟨S_, .f32⟩
  | .hbm, ⟨76, _⟩ => ⟨S18432x1, .f32⟩
  | .hbm, ⟨77, _⟩ => ⟨S18432x1, .f32⟩
  | .hbm, ⟨78, _⟩ => ⟨S18432x1, .f32⟩
  | .hbm, ⟨79, _⟩ => ⟨S18432x1024, .f32⟩
  | .hbm, ⟨80, _⟩ => ⟨S18432x1024, .f32⟩
  | .hbm, ⟨81, _⟩ => ⟨S1x1024, .f32⟩
  | .hbm, ⟨82, _⟩ => ⟨S18432x1024, .f32⟩
  | .hbm, ⟨83, _⟩ => ⟨S18432x1024, .f32⟩
  | .hbm, ⟨84, _⟩ => ⟨S36, .i32⟩
  | .hbm, ⟨85, _⟩ => ⟨S_, .i32⟩
  | .hbm, ⟨86, _⟩ => ⟨S36, .i32⟩
  | .hbm, ⟨87, _⟩ => ⟨S36, .i1⟩
  | .hbm, ⟨88, _⟩ => ⟨S36x1, .i1⟩
  | .hbm, ⟨89, _⟩ => ⟨S36x512, .i1⟩
  | .hbm, ⟨90, _⟩ => ⟨S18432, .i1⟩
  | .hbm, ⟨91, _⟩ => ⟨S18432x1, .i1⟩
  | .hbm, ⟨92, _⟩ => ⟨S_, .f32⟩
  | .hbm, ⟨93, _⟩ => ⟨S_, .f32⟩
  | .hbm, ⟨94, _⟩ => ⟨S18432x1024, .i1⟩
  | .hbm, ⟨95, _⟩ => ⟨S18432x1024, .f32⟩
  | .hbm, ⟨96, _⟩ => ⟨S18432x1024, .f32⟩
  | .hbm, ⟨97, _⟩ => ⟨S18432x8x128, .f32⟩
  | .hbm, ⟨98, _⟩ => ⟨S8x18432x128, .f32⟩
  | _, _ => ⟨S5x18432x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst : Ref sig .tc := ⟨.hbm, 43, rfl⟩
abbrev main_call1_v0 : Ref sig .tc := ⟨.hbm, 44, rfl⟩
abbrev main_call1_v1 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_call2_v0 : Ref sig .tc := ⟨.hbm, 49, rfl⟩
abbrev main_call2_v1 : Ref sig .tc := ⟨.hbm, 50, rfl⟩
abbrev main_call2_cst : Ref sig .tc := ⟨.hbm, 51, rfl⟩
abbrev main_call2_v2 : Ref sig .tc := ⟨.hbm, 52, rfl⟩
abbrev main_call2_v3 : Ref sig .tc := ⟨.hbm, 53, rfl⟩
abbrev main_call2_cst_0 : Ref sig .tc := ⟨.hbm, 54, rfl⟩
abbrev main_call2_v4 : Ref sig .tc := ⟨.hbm, 55, rfl⟩
abbrev main_call2_v5 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_0 : Ref sig .tc := ⟨.hbm, 66, rfl⟩
abbrev main_v31 : Ref sig .tc := ⟨.hbm, 67, rfl⟩
abbrev main_v32 : Ref sig .tc := ⟨.hbm, 68, rfl⟩
abbrev main_cst_1 : Ref sig .tc := ⟨.hbm, 69, rfl⟩
abbrev main_v33 : Ref sig .tc := ⟨.hbm, 70, rfl⟩
abbrev main_v34 : Ref sig .tc := ⟨.hbm, 71, rfl⟩
abbrev main_cst_2 : Ref sig .tc := ⟨.hbm, 72, rfl⟩
abbrev main_v35 : Ref sig .tc := ⟨.hbm, 73, rfl⟩
abbrev main_v36 : Ref sig .tc := ⟨.hbm, 74, rfl⟩
abbrev main_cst_3 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩

abbrev nD : Nat := 1
abbrev τ : Topo := Topo.v7x

variable {F : FTy → Type} [FloatOps F]
-- ==== Kernel3.lean ====
abbrev S16384x1024 : Shape := ⟨2, ![16384, 1024]⟩
abbrev S4x1x1024 : Shape := ⟨3, ![4, 1, 1024]⟩
abbrev S8x16384x128 : Shape := ⟨3, ![8, 16384, 128]⟩
abbrev S512x1024 : Shape := ⟨2, ![512, 1024]⟩
abbrev S1x1x1024 : Shape := ⟨3, ![1, 1, 1024]⟩
abbrev S8x512x128 : Shape := ⟨3, ![8, 512, 128]⟩
abbrev S1x512x128 : Shape := ⟨3, ![1, 512, 128]⟩
abbrev S512x128 : Shape := ⟨2, ![512, 128]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S4x1x1024, .f32⟩
  | .hbm, ⟨2, _⟩ => ⟨S8x16384x128, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S8x512x128, .f32⟩
  | .local _ .vmem, ⟨5, _⟩ => ⟨S8x512x128, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3.lean ====
abbrev S16384x1024 : Shape := ⟨2, ![16384, 1024]⟩
abbrev S4x1x1024 : Shape := ⟨3, ![4, 1, 1024]⟩
abbrev S8x16384x128 : Shape := ⟨3, ![8, 16384, 128]⟩
abbrev S16384x8x128 : Shape := ⟨3, ![16384, 8, 128]⟩
abbrev S4x4096x1024 : Shape := ⟨3, ![4, 4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1x1024, .f32⟩
  | .hbm, ⟨2, _⟩ => ⟨S8x16384x128, .f32⟩
  | .hbm, ⟨3, _⟩ => ⟨S16384x8x128, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S16384x1024 : Shape := ⟨2, ![16384, 1024]⟩
abbrev S4x1x1024 : Shape := ⟨3, ![4, 1, 1024]⟩
abbrev S1024 : Shape := ⟨1, ![1024]⟩
abbrev S1024x2560 : Shape := ⟨2, ![1024, 2560]⟩
abbrev S512 : Shape := ⟨1, ![512]⟩
abbrev S1024x512 : Shape := ⟨2, ![1024, 512]⟩
abbrev S1024x1024 : Shape := ⟨2, ![1024, 1024]⟩
abbrev S1x1024 : Shape := ⟨2, ![1, 1024]⟩
abbrev S1x512 : Shape := ⟨2, ![1, 512]⟩
abbrev S4x512x4096 : Shape := ⟨3, ![4, 512, 4096]⟩
abbrev S16384x512 : Shape := ⟨2, ![16384, 512]⟩
abbrev S4x8x512x512 : Shape := ⟨4, ![4, 8, 512, 512]⟩
abbrev S4x128x512 : Shape := ⟨3, ![4, 128, 512]⟩
abbrev S512x1024 : Shape := ⟨2, ![512, 1024]⟩
abbrev S1x1x1024 : Shape := ⟨3, ![1, 1, 1024]⟩
abbrev S1x512x512 : Shape := ⟨3, ![1, 512, 512]⟩
abbrev S512x512 : Shape := ⟨2, ![512, 512]⟩
abbrev S1x1x512x512 : Shape := ⟨4, ![1, 1, 512, 512]⟩
abbrev S1x128x512 : Shape := ⟨3, ![1, 128, 512]⟩
abbrev S512x1 : Shape := ⟨2, ![512, 1]⟩
abbrev S128x512 : Shape := ⟨2, ![128, 512]⟩

abbrev nBuf : Space → Nat
  | .hbm => 23
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x2560, .f32⟩
  | .hbm, ⟨5, _⟩ => ⟨S512, .f32⟩
  | .hbm, ⟨6, _⟩ => ⟨S512, .f32⟩
  | .hbm, ⟨7, _⟩ => ⟨S1024x2560, .bf16⟩
  | .hbm, ⟨8, _⟩ => ⟨S1024x512, .bf16⟩
  | .hbm, ⟨9, _⟩ => ⟨S1024x512, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1x512, .f32⟩
  | .hbm, ⟨14, _⟩ => ⟨S1x512, .f32⟩
  | .hbm, ⟨15, _⟩ => ⟨S4x512x4096, .f32⟩
  | .hbm, ⟨16, _⟩ => ⟨S4x512x4096, .f32⟩
  | .hbm, ⟨17, _⟩ => ⟨S4x512x4096, .bf16⟩
  | .hbm, ⟨18, _⟩ => ⟨S16384x512, .bf16⟩
  | .hbm, ⟨19, _⟩ => ⟨S4x8x512x512, .bf16⟩
  | .hbm, ⟨20, _⟩ => ⟨S16384x512, .bf16⟩
  | .hbm, ⟨21, _⟩ => ⟨S16384x512, .bf16⟩
  | .hbm, ⟨22, _⟩ => ⟨S4x128x512, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2560, .bf16⟩
  | .local _ .vmem, ⟨8, _⟩ => ⟨S1024x1024, .bf16⟩
  | .local _ .vmem, ⟨9, _⟩ => ⟨S1x512, .f32⟩
  | .local _ .vmem, ⟨10, _⟩ => ⟨S1x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .bf16⟩
  | .local _ .vmem, ⟨16, _⟩ => ⟨S1x512x512, .bf16⟩
  | .local _ .vmem, ⟨17, _⟩ => ⟨S512x512, .bf16⟩
  | .local _ .vmem, ⟨18, _⟩ => ⟨S512x512, .bf16⟩
  | .local _ .vmem, ⟨19, _⟩ => ⟨S1x1x512x512, .bf16⟩
  | .local _ .vmem, ⟨20, _⟩ => ⟨S1x1x512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S1x128x512, .f32⟩
  | .local _ .vmem, ⟨26, _⟩ => ⟨S1x128x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev main_v8_6 : Ref sig .tc := ⟨.hbm, 21, rfl⟩
abbrev main_v8_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S16384x1024 : Shape := ⟨2, ![16384, 1024]⟩
abbrev S4x1x1024 : Shape := ⟨3, ![4, 1, 1024]⟩
abbrev S1024 : Shape := ⟨1, ![1024]⟩
abbrev S1024x2560 : Shape := ⟨2, ![1024, 2560]⟩
abbrev S512 : Shape := ⟨1, ![512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S4x4096x1024 : Shape := ⟨3, ![4, 4096, 1024]⟩
abbrev S4x4096x2560 : Shape := ⟨3, ![4, 4096, 2560]⟩
abbrev S4x4096x512 : Shape := ⟨3, ![4, 4096, 512]⟩
abbrev S4x4096 : Shape := ⟨2, ![4, 4096]⟩
abbrev S4x4096x1 : Shape := ⟨3, ![4, 4096, 1]⟩
abbrev S1x1x512 : Shape := ⟨3, ![1, 1, 512]⟩
abbrev S4x512x4096 : Shape := ⟨3, ![4, 512, 4096]⟩
abbrev S4x8x512x512 : Shape := ⟨4, ![4, 8, 512, 512]⟩
abbrev S16384x512 : Shape := ⟨2, ![16384, 512]⟩
abbrev S4x128x512 : Shape := ⟨3, ![4, 128, 512]⟩

abbrev nBuf : Space → Nat
  | .hbm => 115
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x2560, .f32⟩
  | .hbm, ⟨5, _⟩ => ⟨S512, .f32⟩
  | .hbm, ⟨6, _⟩ => ⟨S512, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S4x4096x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x2560, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .hbm, ⟨35, _⟩ => ⟨S4x4096x512, .f32⟩
  | .hbm, ⟨36, _⟩ => ⟨S4x4096x512, .f32⟩
  | .hbm, ⟨37, _⟩ => ⟨S4x4096x512, .f32⟩
  | .hbm, ⟨38, _⟩ => ⟨S4x4096x512, .f32⟩
  | .hbm, ⟨39, _⟩ => ⟨S_, .f32⟩
  | .hbm, ⟨40, _⟩ => ⟨S4x4096x512, .f32⟩
  | .hbm, ⟨41, _⟩ => ⟨S4x4096x512, .f32⟩
  | .hbm, ⟨42, _⟩ => ⟨S4x4096x512, .f32⟩
  | .hbm, ⟨43, _⟩ => ⟨S_, .f32⟩
  | .hbm, ⟨44, _⟩ => ⟨S4x4096x512, .f32⟩
  | .hbm, ⟨45, _⟩ => ⟨S4x4096x512, .f32⟩
  | .hbm, ⟨46, _⟩ => ⟨S4x4096x512, .f32⟩
  | .hbm, ⟨47, _⟩ => ⟨S_, .f32⟩
  | .hbm, ⟨48, _⟩ => ⟨S4x4096x512, .f32⟩
  | .hbm, ⟨49, _⟩ => ⟨S4x4096x512, .f32⟩
  | .hbm, ⟨50, _⟩ => ⟨S_, .f32⟩
  | .hbm, ⟨51, _⟩ => ⟨S4x4096x512, .f32⟩
  | .hbm, ⟨52, _⟩ => ⟨S4x4096x512, .f32⟩
  | .hbm, ⟨53, _⟩ => ⟨S4x4096x512, .f32⟩
  | .hbm, ⟨54, _⟩ => ⟨S4x4096x512, .f32⟩
  | .hbm, ⟨55, _⟩ => ⟨S4x4096x512, .f32⟩
  | .hbm, ⟨56, _⟩ => ⟨S_, .f32⟩
  | .hbm, ⟨57, _⟩ => ⟨S4x4096x512, .f32⟩
  | .hbm, ⟨58, _⟩ => ⟨S4x4096x512, .f32⟩
  | .hbm, ⟨59, _⟩ => ⟨S4x4096x512, .f32⟩
  | .hbm, ⟨60, _⟩ => ⟨S_, .f32⟩
  | .hbm, ⟨61, _⟩ => ⟨S4x4096x512, .f32⟩
  | .hbm, ⟨62, _⟩ => ⟨S4x4096x512, .f32⟩
  | .hbm, ⟨63, _⟩ => ⟨S4x4096x512, .f32⟩
  | .hbm, ⟨64, _⟩ => ⟨S_, .f32⟩
  | .hbm, ⟨65, _⟩ => ⟨S4x4096x512, .f32⟩
  | .hbm, ⟨66, _⟩ => ⟨S4x4096x512, .f32⟩
  | .hbm, ⟨67, _⟩ => ⟨S_, .f32⟩
  | .hbm, ⟨68, _⟩ => ⟨S4x4096x512, .f32⟩
  | .hbm, ⟨69, _⟩ => ⟨S4x4096x512, .f32⟩
  | .hbm, ⟨70, _⟩ => ⟨S4x4096x512, .f32⟩
  | .hbm, ⟨71, _⟩ => ⟨S_, .f32⟩
  | .hbm, ⟨72, _⟩ => ⟨S4x4096, .f32⟩
  | .hbm, ⟨73, _⟩ => ⟨S4x4096x1, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S4x4096x512, .f32⟩
  | .hbm, ⟨78, _⟩ => ⟨S4x4096x512, .f32⟩
  | .hbm, ⟨79, _⟩ => ⟨S4x4096x512, .f32⟩
  | .hbm, ⟨80, _⟩ => ⟨S_, .f32⟩
  | .hbm, ⟨81, _⟩ => ⟨S4x4096, .f32⟩
  | .hbm, ⟨82, _⟩ => ⟨S4x4096x1, .f32⟩
  | .hbm, ⟨83, _⟩ => ⟨S_, .f32⟩
  | .hbm, ⟨84, _⟩ => ⟨S4x4096x1, .f32⟩
  | .hbm, ⟨85, _⟩ => ⟨S4x4096x1, .f32⟩
  | .hbm, ⟨86, _⟩ => ⟨S_, .f32⟩
  | .hbm, ⟨87, _⟩ => ⟨S4x4096x1, .f32⟩
  | .hbm, ⟨88, _⟩ => ⟨S4x4096x1, .f32⟩
  | .hbm, ⟨89, _⟩ => ⟨S4x4096x1, .f32⟩
  | .hbm, ⟨90, _⟩ => ⟨S4x4096x512, .f32⟩
  | .hbm, ⟨91, _⟩ => ⟨S4x4096x512, .f32⟩
  | .hbm, ⟨92, _⟩ => ⟨S1x1x512, .f32⟩
  | .hbm, ⟨93, _⟩ => ⟨S4x4096x512, .f32⟩
  | .hbm, ⟨94, _⟩ => ⟨S4x4096x512, .f32⟩
  | .hbm, ⟨95, _⟩ => ⟨S1x1x512, .f32⟩
  | .hbm, ⟨96, _⟩ => ⟨S4x4096x512, .f32⟩
  | .hbm, ⟨97, _⟩ => ⟨S4x4096x512, .f32⟩
  | .hbm, ⟨98, _⟩ => ⟨S4x512x4096, .f32⟩
  | .hbm, ⟨99, _⟩ => ⟨S4x512x4096, .f32⟩
  | .hbm, ⟨100, _⟩ => ⟨S4x512x4096, .f32⟩
  | .hbm, ⟨101, _⟩ => ⟨S_, .f32⟩
  | .hbm, ⟨102, _⟩ => ⟨S4x512x4096, .f32⟩
  | .hbm, ⟨103, _⟩ => ⟨S4x512x4096, .f32⟩
  | .hbm, ⟨104, _⟩ => ⟨S4x512x4096, .bf16⟩
  | .hbm, ⟨105, _⟩ => ⟨S4x8x512x512, .f32⟩
  | .hbm, ⟨106, _⟩ => ⟨S4x8x512x512, .f32⟩
  | .hbm, ⟨107, _⟩ => ⟨S4x8x512x512, .bf16⟩
  | .hbm, ⟨108, _⟩ => ⟨S16384x512, .f32⟩
  | .hbm, ⟨109, _⟩ => ⟨S16384x512, .bf16⟩
  | .hbm, ⟨110, _⟩ => ⟨S16384x512, .f32⟩
  | .hbm, ⟨111, _⟩ => ⟨S16384x512, .bf16⟩
  | .hbm, ⟨112, _⟩ => ⟨S16384x512, .f32⟩
  | .hbm, ⟨113, _⟩ => ⟨S16384x512, .bf16⟩
  | .hbm, ⟨114, _⟩ => ⟨S4x128x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_cst_14 : Ref sig .tc := ⟨.hbm, 83, rfl⟩
abbrev main_v61 : Ref sig .tc := ⟨.hbm, 84, rfl⟩
abbrev main_v62 : Ref sig .tc := ⟨.hbm, 85, rfl⟩
abbrev main_cst_15 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_16 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]
-- ==== Kernel5.lean ====
abbrev S32x8x1024 : Shape := ⟨3, ![32, 8, 1024]⟩
abbrev S32x1024 : Shape := ⟨2, ![32, 1024]⟩
abbrev S1024 : Shape := ⟨1, ![1024]⟩
abbrev S1024x2560 : Shape := ⟨2, ![1024, 2560]⟩
abbrev S512 : Shape := ⟨1, ![512]⟩
abbrev S1024x512 : Shape := ⟨2, ![1024, 512]⟩
abbrev S1024x1024 : Shape := ⟨2, ![1024, 1024]⟩
abbrev S256x1024 : Shape := ⟨2, ![256, 1024]⟩
abbrev S1x256x1024 : Shape := ⟨3, ![1, 256, 1024]⟩
abbrev S1x1024 : Shape := ⟨2, ![1, 1024]⟩
abbrev S1x512 : Shape := ⟨2, ![1, 512]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩

abbrev nBuf : Space → Nat
  | .hbm => 28
  | .vmem => 14
  | .smem => 0
  | _ => 0

abbrev bufTy : (tb : Table) → Fin (tcTables nBuf tb) → BufTy
  | .hbm, ⟨0, _⟩ => ⟨S32x8x1024, .f32⟩
  | .hbm, ⟨1, _⟩ => ⟨S32x1024, .f32⟩
  | .hbm, ⟨2, _⟩ => ⟨S32x1024, .f32⟩
  | .hbm, ⟨3, _⟩ => ⟨S1024, .f32⟩
  | .hbm, ⟨4, _⟩ => ⟨S1024x2560, .f32⟩
  | .hbm, ⟨5, _⟩ => ⟨S512, .f32⟩
  | .hbm, ⟨6, _⟩ => ⟨S512, .f32⟩
  | .hbm, ⟨7, _⟩ => ⟨S1024x2560, .bf16⟩
  | .hbm, ⟨8, _⟩ => ⟨S1024x512, .bf16⟩
  | .hbm, ⟨9, _⟩ => ⟨S1024x512, .bf16⟩
  | .hbm, ⟨10, _⟩ => ⟨S1024x1024, .bf16⟩
  | .hbm, ⟨11, _⟩ => ⟨S1024x1024, .bf16⟩
  | .hbm, ⟨12, _⟩ => ⟨S256x1024, .f32⟩
  | .hbm, ⟨13, _⟩ => ⟨S32x8x1024, .f32⟩
  | .hbm, ⟨14, _⟩ => ⟨S256x1024, .f32⟩
  | .hbm, ⟨15, _⟩ => ⟨S1x256x1024, .f32⟩
  | .hbm, ⟨16, _⟩ => ⟨S32x8x1024, .f32⟩
  | .hbm, ⟨17, _⟩ => ⟨S256x1024, .f32⟩
  | .hbm, ⟨18, _⟩ => ⟨S1x256x1024, .f32⟩
  | .hbm, ⟨19, _⟩ => ⟨S1x1024, .f32⟩
  | .hbm, ⟨20, _⟩ => ⟨S1x512, .f32⟩
  | .hbm, ⟨21, _⟩ => ⟨S1x512, .f32⟩
  | .hbm, ⟨22, _⟩ => ⟨S256x512, .f32⟩
  | .hbm, ⟨23, _⟩ => ⟨S256x512, .f32⟩
  | .hbm, ⟨24, _⟩ => ⟨S256x512, .bf16⟩
  | .hbm, ⟨25, _⟩ => ⟨S256x512, .bf16⟩
  | .hbm, ⟨26, _⟩ => ⟨S256x512, .bf16⟩
  | .hbm, ⟨27, _⟩ => ⟨S1x256x512, .f32⟩
  | .local _ .vmem, ⟨0, _⟩ => ⟨S256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x1024, .f32⟩
  | .local _ .vmem, ⟨4, _⟩ => ⟨S1024x2560, .bf16⟩
  | .local _ .vmem, ⟨5, _⟩ => ⟨S1024x1024, .bf16⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S1x256x512, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev main_v15_4 : Ref sig .tc := ⟨.hbm, 26, rfl⟩
abbrev main_v15_5 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference5Ideal.lean ====
abbrev S32x8x1024 : Shape := ⟨3, ![32, 8, 1024]⟩
abbrev S32x1024 : Shape := ⟨2, ![32, 1024]⟩
abbrev S1024 : Shape := ⟨1, ![1024]⟩
abbrev S1024x2560 : Shape := ⟨2, ![1024, 2560]⟩
abbrev S512 : Shape := ⟨1, ![512]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x1x1024 : Shape := ⟨3, ![32, 1, 1024]⟩
abbrev S32x8x2560 : Shape := ⟨3, ![32, 8, 2560]⟩
abbrev S32x8x512 : Shape := ⟨3, ![32, 8, 512]⟩
abbrev S1x1x512 : Shape := ⟨3, ![1, 1, 512]⟩
abbrev S256x512 : Shape := ⟨2, ![256, 512]⟩
abbrev S1x256x512 : Shape := ⟨3, ![1, 256, 512]⟩

abbrev nBuf : Space → Nat
  | .hbm => 112
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x1024, .f32⟩
  | .hbm, ⟨2, _⟩ => ⟨S32x1024, .f32⟩
  | .hbm, ⟨3, _⟩ => ⟨S1024, .f32⟩
  | .hbm, ⟨4, _⟩ => ⟨S1024x2560, .f32⟩
  | .hbm, ⟨5, _⟩ => ⟨S512, .f32⟩
  | .hbm, ⟨6, _⟩ => ⟨S512, .f32⟩
  | .hbm, ⟨7, _⟩ => ⟨S32x8x1024, .f32⟩
  | .hbm, ⟨8, _⟩ => ⟨S_, .f32⟩
  | .hbm, ⟨9, _⟩ => ⟨S32x8, .f32⟩
  | .hbm, ⟨10, _⟩ => ⟨S32x8x1, .f32⟩
  | .hbm, ⟨11, _⟩ => ⟨S_, .f32⟩
  | .hbm, ⟨12, _⟩ => ⟨S32x8x1, .f32⟩
  | .hbm, ⟨13, _⟩ => ⟨S32x8x1, .f32⟩
  | .hbm, ⟨14, _⟩ => ⟨S_, .f32⟩
  | .hbm, ⟨15, _⟩ => ⟨S32x8x1, .f32⟩
  | .hbm, ⟨16, _⟩ => ⟨S32x8x1, .f32⟩
  | .hbm, ⟨17, _⟩ => ⟨S32x8x1, .f32⟩
  | .hbm, ⟨18, _⟩ => ⟨S32x8x1024, .f32⟩
  | .hbm, ⟨19, _⟩ => ⟨S32x8x1024, .f32⟩
  | .hbm, ⟨20, _⟩ => ⟨S1x1x1024, .f32⟩
  | .hbm, ⟨21, _⟩ => ⟨S32x8x1024, .f32⟩
  | .hbm, ⟨22, _⟩ => ⟨S32x8x1024, .f32⟩
  | .hbm, ⟨23, _⟩ => ⟨S32x1x1024, .f32⟩
  | .hbm, ⟨24, _⟩ => ⟨S_, .f32⟩
  | .hbm, ⟨25, _⟩ => ⟨S32x1x1024, .f32⟩
  | .hbm, ⟨26, _⟩ => ⟨S32x1x1024, .f32⟩
  | .hbm, ⟨27, _⟩ => ⟨S32x8x1024, .f32⟩
  | .hbm, ⟨28, _⟩ => ⟨S32x8x1024, .f32⟩
  | .hbm, ⟨29, _⟩ => ⟨S32x1x1024, .f32⟩
  | .hbm, ⟨30, _⟩ => ⟨S32x8x1024, .f32⟩
  | .hbm, ⟨31, _⟩ => ⟨S32x8x1024, .f32⟩
  | .hbm, ⟨32, _⟩ => ⟨S32x8x2560, .f32⟩
  | .hbm, ⟨33, _⟩ => ⟨S32x8x512, .f32⟩
  | .hbm, ⟨34, _⟩ => ⟨S32x8x512, .f32⟩
  | .hbm, ⟨35, _⟩ => ⟨S32x8x512, .f32⟩
  | .hbm, ⟨36, _⟩ => ⟨S32x8x512, .f32⟩
  | .hbm, ⟨37, _⟩ => ⟨S32x8x512, .f32⟩
  | .hbm, ⟨38, _⟩ => ⟨S32x8x512, .f32⟩
  | .hbm, ⟨39, _⟩ => ⟨S32x8x512, .f32⟩
  | .hbm, ⟨40, _⟩ => ⟨S_, .f32⟩
  | .hbm, ⟨41, _⟩ => ⟨S32x8x512, .f32⟩
  | .hbm, ⟨42, _⟩ => ⟨S32x8x512, .f32⟩
  | .hbm, ⟨43, _⟩ => ⟨S32x8x512, .f32⟩
  | .hbm, ⟨44, _⟩ => ⟨S_, .f32⟩
  | .hbm, ⟨45, _⟩ => ⟨S32x8x512, .f32⟩
  | .hbm, ⟨46, _⟩ => ⟨S32x8x512, .f32⟩
  | .hbm, ⟨47, _⟩ => ⟨S32x8x512, .f32⟩
  | .hbm, ⟨48, _⟩ => ⟨S_, .f32⟩
  | .hbm, ⟨49, _⟩ => ⟨S32x8x512, .f32⟩
  | .hbm, ⟨50, _⟩ => ⟨S32x8x512, .f32⟩
  | .hbm, ⟨51, _⟩ => ⟨S_, .f32⟩
  | .hbm, ⟨52, _⟩ => ⟨S32x8x512, .f32⟩
  | .hbm, ⟨53, _⟩ => ⟨S32x8x512, .f32⟩
  | .hbm, ⟨54, _⟩ => ⟨S32x8x512, .f32⟩
  | .hbm, ⟨55, _⟩ => ⟨S32x8x512, .f32⟩
  | .hbm, ⟨56, _⟩ => ⟨S32x8x512, .f32⟩
  | .hbm, ⟨57, _⟩ => ⟨S_, .f32⟩
  | .hbm, ⟨58, _⟩ => ⟨S32x8x512, .f32⟩
  | .hbm, ⟨59, _⟩ => ⟨S32x8x512, .f32⟩
  | .hbm, ⟨60, _⟩ => ⟨S32x8x512, .f32⟩
  | .hbm, ⟨61, _⟩ => ⟨S_, .f32⟩
  | .hbm, ⟨62, _⟩ => ⟨S32x8x512, .f32⟩
  | .hbm, ⟨63, _⟩ => ⟨S32x8x512, .f32⟩
  | .hbm, ⟨64, _⟩ => ⟨S32x8x512, .f32⟩
  | .hbm, ⟨65, _⟩ => ⟨S_, .f32⟩
  | .hbm, ⟨66, _⟩ => ⟨S32x8x512, .f32⟩
  | .hbm, ⟨67, _⟩ => ⟨S32x8x512, .f32⟩
  | .hbm, ⟨68, _⟩ => ⟨S_, .f32⟩
  | .hbm, ⟨69, _⟩ => ⟨S32x8x512, .f32⟩
  | .hbm, ⟨70, _⟩ => ⟨S32x8x512, .f32⟩
  | .hbm, ⟨71, _⟩ => ⟨S32x8x512, .f32⟩
  | .hbm, ⟨72, _⟩ => ⟨S_, .f32⟩
  | .hbm, ⟨73, _⟩ => ⟨S32x8, .f32⟩
  | .hbm, ⟨74, _⟩ => ⟨S32x8x1, .f32⟩
  | .hbm, ⟨75, _⟩ => ⟨S_, .f32⟩
  | .hbm, ⟨76, _⟩ => ⟨S32x8x1, .f32⟩
  | .hbm, ⟨77, _⟩ => ⟨S32x8x1, .f32⟩
  | .hbm, ⟨78, _⟩ => ⟨S32x8x512, .f32⟩
  | .hbm, ⟨79, _⟩ => ⟨S32x8x512, .f32⟩
  | .hbm, ⟨80, _⟩ => ⟨S32x8x512, .f32⟩
  | .hbm, ⟨81, _⟩ => ⟨S_, .f32⟩
  | .hbm, ⟨82, _⟩ => ⟨S32x8, .f32⟩
  | .hbm, ⟨83, _⟩ => ⟨S32x8x1, .f32⟩
  | .hbm, ⟨84, _⟩ => ⟨S_, .f32⟩
  | .hbm, ⟨85, _⟩ => ⟨S32x8x1, .f32⟩
  | .hbm, ⟨86, _⟩ => ⟨S32x8x1, .f32⟩
  | .hbm, ⟨87, _⟩ => ⟨S_, .f32⟩
  | .hbm, ⟨88, _⟩ => ⟨S32x8x1, .f32⟩
  | .hbm, ⟨89, _⟩ => ⟨S32x8x1, .f32⟩
  | .hbm, ⟨90, _⟩ => ⟨S32x8x1, .f32⟩
  | .hbm, ⟨91, _⟩ => ⟨S32x8x512, .f32⟩
  | .hbm, ⟨92, _⟩ => ⟨S32x8x512, .f32⟩
  | .hbm, ⟨93, _⟩ => ⟨S1x1x512, .f32⟩
  | .hbm, ⟨94, _⟩ => ⟨S32x8x512, .f32⟩
  | .hbm, ⟨95, _⟩ => ⟨S32x8x512, .f32⟩
  | .hbm, ⟨96, _⟩ => ⟨S1x1x512, .f32⟩
  | .hbm, ⟨97, _⟩ => ⟨S32x8x512, .f32⟩
  | .hbm, ⟨98, _⟩ => ⟨S32x8x512, .f32⟩
  | .hbm, ⟨99, _⟩ => ⟨S256x512, .f32⟩
  | .hbm, ⟨100, _⟩ => ⟨S256x512, .f32⟩
  | .hbm, ⟨101, _⟩ => ⟨S256x512, .f32⟩
  | .hbm, ⟨102, _⟩ => ⟨S_, .f32⟩
  | .hbm, ⟨103, _⟩ => ⟨S256x512, .f32⟩
  | .hbm, ⟨104, _⟩ => ⟨S256x512, .f32⟩
  | .hbm, ⟨105, _⟩ => ⟨S256x512, .bf16⟩
  | .hbm, ⟨106, _⟩ => ⟨S256x512, .f32⟩
  | .hbm, ⟨107, _⟩ => ⟨S256x512, .bf16⟩
  | .hbm, ⟨108, _⟩ => ⟨S256x512, .f32⟩
  | .hbm, ⟨109, _⟩ => ⟨S256x512, .bf16⟩
  | .hbm, ⟨110, _⟩ => ⟨S256x512, .f32⟩
  | .hbm, ⟨111, _⟩ => ⟨S1x256x512, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_16 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩

abbrev nD : Nat := 1
abbrev τ : Topo := Topo.v7x

variable {F : FTy → Type} [FloatOps F]
-- ==== Kernel6.lean ====
abbrev S256x1024 : Shape := ⟨2, ![256, 1024]⟩
abbrev S256x16 : Shape := ⟨2, ![256, 16]⟩
abbrev S32x1024 : Shape := ⟨2, ![32, 1024]⟩
abbrev S1024 : Shape := ⟨1, ![1024]⟩
abbrev S16x1024x512 : Shape := ⟨3, ![16, 1024, 512]⟩
abbrev S16x512x1024 : Shape := ⟨3, ![16, 512, 1024]⟩
abbrev S32x8x1024 : Shape := ⟨3, ![32, 8, 1024]⟩
abbrev S1x256x1024 : Shape := ⟨3, ![1, 256, 1024]⟩
abbrev S1x1024 : Shape := ⟨2, ![1, 1024]⟩
abbrev S4x1024x512 : Shape := ⟨3, ![4, 1024, 512]⟩
abbrev S4x512x1024 : Shape := ⟨3, ![4, 512, 1024]⟩
abbrev S1x1024x512 : Shape := ⟨3, ![1, 1024, 512]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩
abbrev S1x512x1024 : Shape := ⟨3, ![1, 512, 1024]⟩
abbrev S512x1024 : Shape := ⟨2, ![512, 1024]⟩

abbrev nBuf : Space → Nat
  | .hbm => 17
  | .vmem => 13
  | .smem => 0
  | _ => 0

abbrev bufTy : (tb : Table) → Fin (tcTables nBuf tb) → BufTy
  | .hbm, ⟨0, _⟩ => ⟨S256x1024, .f32⟩
  | .hbm, ⟨1, _⟩ => ⟨S256x16, .f32⟩
  | .hbm, ⟨2, _⟩ => ⟨S256x1024, .f32⟩
  | .hbm, ⟨3, _⟩ => ⟨S32x1024, .f32⟩
  | .hbm, ⟨4, _⟩ => ⟨S1024, .f32⟩
  | .hbm, ⟨5, _⟩ => ⟨S16x1024x512, .f32⟩
  | .hbm, ⟨6, _⟩ => ⟨S16x1024x512, .f32⟩
  | .hbm, ⟨7, _⟩ => ⟨S16x512x1024, .f32⟩
  | .hbm, ⟨8, _⟩ => ⟨S16x1024x512, .bf16⟩
  | .hbm, ⟨9, _⟩ => ⟨S16x1024x512, .bf16⟩
  | .hbm, ⟨10, _⟩ => ⟨S16x512x1024, .bf16⟩
  | .hbm, ⟨11, _⟩ => ⟨S256x1024, .bf16⟩
  | .hbm, ⟨12, _⟩ => ⟨S32x8x1024, .f32⟩
  | .hbm, ⟨13, _⟩ => ⟨S256x1024, .f32⟩
  | .hbm, ⟨14, _⟩ => ⟨S1x256x1024, .f32⟩
  | .hbm, ⟨15, _⟩ => ⟨S1x1024, .f32⟩
  | .hbm, ⟨16, _⟩ => ⟨S256x1024, .f32⟩
  | .local _ .vmem, ⟨0, _⟩ => ⟨S256x1024, .bf16⟩
  | .local _ .vmem, ⟨1, _⟩ => ⟨S256x16, .f32⟩
  | .local _ .vmem, ⟨2, _⟩ => ⟨S256x1024, .f32⟩
  | .local _ .vmem, ⟨3, _⟩ => ⟨S1x256x1024, .f32⟩
  | .local _ .vmem, ⟨4, _⟩ => ⟨S1x1024, .f32⟩
  | .local _ .vmem, ⟨5, _⟩ => ⟨S4x1024x512, .bf16⟩
  | .local _ .vmem, ⟨6, _⟩ => ⟨S4x1024x512, .bf16⟩
  | .local _ .vmem, ⟨7, _⟩ => ⟨S4x1024x512, .bf16⟩
  | .local _ .vmem, ⟨8, _⟩ => ⟨S4x1024x512, .bf16⟩
  | .local _ .vmem, ⟨9, _⟩ => ⟨S4x512x1024, .bf16⟩
  | .local _ .vmem, ⟨10, _⟩ => ⟨S4x512x1024, .bf16⟩
  | .local _ .vmem, ⟨11, _⟩ => ⟨S256x1024, .f32⟩
  | .local _ .vmem, ⟨12, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32_71 : BitVec 32 := 3#32
  let v112 : BitVec 1 := Scalar.cmpi .eq arg1 c3_i32_71
  let v113 : BitVec 32 := Scalar.extui v112
  let c0_i32_72 : BitVec 32 := 0#32
  let v114 : BitVec 1 := Scalar.cmpi .ne v113 c0_i32_72
  v114

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== Reference6Ideal.lean ====
abbrev S256x1024 : Shape := ⟨2, ![256, 1024]⟩
abbrev S256x16 : Shape := ⟨2, ![256, 16]⟩
abbrev S32x1024 : Shape := ⟨2, ![32, 1024]⟩
abbrev S1024 : Shape := ⟨1, ![1024]⟩
abbrev S16x1024x512 : Shape := ⟨3, ![16, 1024, 512]⟩
abbrev S16x512x1024 : Shape := ⟨3, ![16, 512, 1024]⟩
abbrev S16x512x256 : Shape := ⟨3, ![16, 512, 256]⟩
abbrev S16x256x512 : Shape := ⟨3, ![16, 256, 512]⟩
abbrev S_ : Shape := ⟨0, ![]⟩
abbrev S16x256 : Shape := ⟨2, ![16, 256]⟩
abbrev S16x256x1 : Shape := ⟨3, ![16, 256, 1]⟩
abbrev S16x256x1024 : Shape := ⟨3, ![16, 256, 1024]⟩
abbrev S256 : Shape := ⟨1, ![256]⟩
abbrev S256x1 : Shape := ⟨2, ![256, 1]⟩
abbrev S1x1024 : Shape := ⟨2, ![1, 1024]⟩
abbrev S32x8x1024 : Shape := ⟨3, ![32, 8, 1024]⟩
abbrev S32x1x1024 : Shape := ⟨3, ![32, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x16, .f32⟩
  | .hbm, ⟨2, _⟩ => ⟨S256x1024, .f32⟩
  | .hbm, ⟨3, _⟩ => ⟨S32x1024, .f32⟩
  | .hbm, ⟨4, _⟩ => ⟨S1024, .f32⟩
  | .hbm, ⟨5, _⟩ => ⟨S16x1024x512, .f32⟩
  | .hbm, ⟨6, _⟩ => ⟨S16x1024x512, .f32⟩
  | .hbm, ⟨7, _⟩ => ⟨S16x512x1024, .f32⟩
  | .hbm, ⟨8, _⟩ => ⟨S16x512x256, .f32⟩
  | .hbm, ⟨9, _⟩ => ⟨S16x256x512, .f32⟩
  | .hbm, ⟨10, _⟩ => ⟨S16x256x512, .f32⟩
  | .hbm, ⟨11, _⟩ => ⟨S16x256x512, .f32⟩
  | .hbm, ⟨12, _⟩ => ⟨S_, .f32⟩
  | .hbm, ⟨13, _⟩ => ⟨S16x256x512, .f32⟩
  | .hbm, ⟨14, _⟩ => ⟨S16x256x512, .f32⟩
  | .hbm, ⟨15, _⟩ => ⟨S_, .f32⟩
  | .hbm, ⟨16, _⟩ => ⟨S16x256x512, .f32⟩
  | .hbm, ⟨17, _⟩ => ⟨S16x256x512, .f32⟩
  | .hbm, ⟨18, _⟩ => ⟨S16x256x512, .f32⟩
  | .hbm, ⟨19, _⟩ => ⟨S16x512x256, .f32⟩
  | .hbm, ⟨20, _⟩ => ⟨S16x256x512, .f32⟩
  | .hbm, ⟨21, _⟩ => ⟨S16x256x512, .f32⟩
  | .hbm, ⟨22, _⟩ => ⟨S16x256, .f32⟩
  | .hbm, ⟨23, _⟩ => ⟨S16x256x1, .f32⟩
  | .hbm, ⟨24, _⟩ => ⟨S16x256x1024, .f32⟩
  | .hbm, ⟨25, _⟩ => ⟨S16x256x1024, .f32⟩
  | .hbm, ⟨26, _⟩ => ⟨S16x256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256, .f32⟩
  | .hbm, ⟨32, _⟩ => ⟨S256x1, .f32⟩
  | .hbm, ⟨33, _⟩ => ⟨S_, .f32⟩
  | .hbm, ⟨34, _⟩ => ⟨S256x1, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S256x1, .f32⟩
  | .hbm, ⟨40, _⟩ => ⟨S256x1024, .f32⟩
  | .hbm, ⟨41, _⟩ => ⟨S256x1024, .f32⟩
  | .hbm, ⟨42, _⟩ => ⟨S1x1024, .f32⟩
  | .hbm, ⟨43, _⟩ => ⟨S256x1024, .f32⟩
  | .hbm, ⟨44, _⟩ => ⟨S256x1024, .f32⟩
  | .hbm, ⟨45, _⟩ => ⟨S32x8x1024, .f32⟩
  | .hbm, ⟨46, _⟩ => ⟨S32x1x1024, .f32⟩
  | .hbm, ⟨47, _⟩ => ⟨S32x8x1024, .f32⟩
  | .hbm, ⟨48, _⟩ => ⟨S32x8x1024, .f32⟩
  | .hbm, ⟨49, _⟩ => ⟨S32x8x1024, .f32⟩
  | .hbm, ⟨50, _⟩ => ⟨S32x8x1024, .f32⟩
  | .hbm, ⟨51, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel7.lean ====
abbrev S4x1024 : Shape := ⟨2, ![4, 1024]⟩
abbrev S32x1024 : Shape := ⟨2, ![32, 1024]⟩
abbrev S1024x6144 : Shape := ⟨2, ![1024, 6144]⟩
abbrev S6144 : Shape := ⟨1, ![6144]⟩
abbrev S36x1024 : Shape := ⟨2, ![36, 1024]⟩
abbrev S1x6144 : Shape := ⟨2, ![1, 6144]⟩
abbrev S36x6144 : Shape := ⟨2, ![36, 6144]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S32x1024, .f32⟩
  | .hbm, ⟨2, _⟩ => ⟨S1024x6144, .f32⟩
  | .hbm, ⟨3, _⟩ => ⟨S6144, .f32⟩
  | .hbm, ⟨4, _⟩ => ⟨S36x1024, .f32⟩
  | .hbm, ⟨5, _⟩ => ⟨S1x6144, .f32⟩
  | .hbm, ⟨6, _⟩ => ⟨S36x6144, .f32⟩
  | .local _ .vmem, ⟨0, _⟩ => ⟨S36x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S36x1024, .f32⟩
  | .local _ .vmem, ⟨6, _⟩ => ⟨S36x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S36x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S36x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4x1024 : Shape := ⟨2, ![4, 1024]⟩
abbrev S32x1024 : Shape := ⟨2, ![32, 1024]⟩
abbrev S1024x6144 : Shape := ⟨2, ![1024, 6144]⟩
abbrev S6144 : Shape := ⟨1, ![6144]⟩
abbrev S36x1024 : Shape := ⟨2, ![36, 1024]⟩
abbrev S_ : Shape := ⟨0, ![]⟩
abbrev S36x6144 : Shape := ⟨2, ![36, 6144]⟩
abbrev S1x6144 : Shape := ⟨2, ![1, 6144]⟩

abbrev nBuf : Space → Nat
  | .hbm => 18
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S32x1024, .f32⟩
  | .hbm, ⟨2, _⟩ => ⟨S1024x6144, .f32⟩
  | .hbm, ⟨3, _⟩ => ⟨S6144, .f32⟩
  | .hbm, ⟨4, _⟩ => ⟨S36x1024, .f32⟩
  | .hbm, ⟨5, _⟩ => ⟨S36x1024, .f32⟩
  | .hbm, ⟨6, _⟩ => ⟨S36x1024, .f32⟩
  | .hbm, ⟨7, _⟩ => ⟨S_, .f32⟩
  | .hbm, ⟨8, _⟩ => ⟨S36x1024, .f32⟩
  | .hbm, ⟨9, _⟩ => ⟨S36x1024, .f32⟩
  | .hbm, ⟨10, _⟩ => ⟨S_, .f32⟩
  | .hbm, ⟨11, _⟩ => ⟨S36x1024, .f32⟩
  | .hbm, ⟨12, _⟩ => ⟨S36x1024, .f32⟩
  | .hbm, ⟨13, _⟩ => ⟨S36x1024, .f32⟩
  | .hbm, ⟨14, _⟩ => ⟨S36x6144, .f32⟩
  | .hbm, ⟨15, _⟩ => ⟨S1x6144, .f32⟩
  | .hbm, ⟨16, _⟩ => ⟨S36x6144, .f32⟩
  | .hbm, ⟨17, _⟩ => ⟨S36x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Proof.Words.lean ====
/-
  The words the gather's loop carries on a vector subcore, and what they say at each trip: which branches are taken,
  that every access is in range, and where it lies.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Ring
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it, and the resource algebra -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "xV" => (Memref.whole Cert.KernelIdeal.main_v0_scv : Memref Cert.KernelIdeal.sig Kind.scVector Space.hbm Cert.KernelIdeal.S147456x128 EltTy.f32)
local notation "iV" => (Memref.whole Cert.KernelIdeal.main_v10_scv : Memref Cert.KernelIdeal.sig Kind.scVector Space.hbm Cert.KernelIdeal.S1x131072 EltTy.i32)
local notation "oV" => (Memref.whole Cert.KernelIdeal.main_v11_scv : Memref Cert.KernelIdeal.sig Kind.scVector Space.hbm Cert.KernelIdeal.S131072x128 EltTy.f32)
local notation "lV" => (Memref.whole Cert.KernelIdeal.cc0_scoped0 : Memref Cert.KernelIdeal.sig Kind.scVector Space.vmem Cert.KernelIdeal.S2x1x128 EltTy.i32)
local notation "tV" => (Memref.whole Cert.KernelIdeal.cc0_scoped2 : Memref Cert.KernelIdeal.sig Kind.scVector Space.vmem Cert.KernelIdeal.S2x128x128 EltTy.f32)

/-! ## The loop's words -/

/-- The five words the loop carries, before trip `k`: windows fetched, windows taken from the fetch buffer, windows put
    in the row buffer, windows sent, and the window's number (back at zero after the last). -/
def w6 (k : ℕ) : BitVec 32 := BitVec.ofNat 32 (min (k + 1) 32)
def w7 (k : ℕ) : BitVec 32 := BitVec.ofNat 32 k
def w9 (k : ℕ) : BitVec 32 := BitVec.ofNat 32 (k - 1)
def w10 (k : ℕ) : BitVec 32 := if k = 32 then 0#32 else BitVec.ofNat 32 k
def words (k : ℕ) : BitVec 32 × BitVec 32 × BitVec 32 × BitVec 32 × BitVec 32 := (w6 k, w7 k, w7 k, w9 k, w10 k)

theorem trips_eq : k0_t1_loop.trips = 32 := by decide

/-- Window `k` of the task on tile `i`, among the 1024. -/
def win (i : grid0.Coords) (k : ℕ) : ℕ := 32 * ((i 1).val + 16 * (i 0).val) + k

theorem win_lt (i : grid0.Coords) (k : Fin 32) : win i k < 1024 := by
  have h0 : (i 0).val < 2 := (i 0).isLt; have h1 : (i 1).val < 16 := (i 1).isLt; have := k.isLt
  unfold win; omega

section Words

theorem cond1_pos : ∀ (i : grid0.Coords) (k : Fin k0_t1_loop.trips), k.val < 31 → k0_cond1 i k (w10 k.val) = 1#1 := by decide +kernel
theorem cond1_neg : ∀ (i : grid0.Coords) (k : Fin k0_t1_loop.trips), ¬ k.val < 31 → ¬ k0_cond1 i k (w10 k.val) = 1#1 := by decide +kernel
theorem cond2_pos : ∀ (i : grid0.Coords) (k : Fin k0_t1_loop.trips), k0_cond2 i k (w10 k.val) = 1#1 := by decide +kernel
theorem cond5_pos : ∀ (i : grid0.Coords) (k : Fin k0_t1_loop.trips), k0_cond5 i k (w10 k.val) = 1#1 := by decide +kernel
theorem cond7_pos : ∀ (i : grid0.Coords) (k : Fin k0_t1_loop.trips), 0 < k.val → k0_cond7 i k (w10 k.val) = 1#1 := by decide +kernel
theorem cond7_neg : ∀ (i : grid0.Coords) (k : Fin k0_t1_loop.trips), ¬ 0 < k.val → ¬ k0_cond7 i k (w10 k.val) = 1#1 := by decide +kernel
theorem chk1_w : ∀ (i : grid0.Coords) (k : Fin k0_t1_loop.trips), k0_chk1 i k (w6 k.val) (w7 k.val) (w7 k.val) (w9 k.val) (w10 k.val) := by decide +kernel
theorem chk2_w : ∀ (k : Fin k0_t1_loop.trips), k0_chk2 (w7 k.val) := by decide +kernel
theorem chk3_w : ∀ (k : Fin k0_t1_loop.trips), k0_chk3 (w7 k.val) := by decide +kernel
theorem chk4_w : k0_chk4 (w9 32) := by decide +kernel
theorem chk5_w : ∀ (i : grid0.Coords), k0_chk5 i (w10 32) := by decide +kernel

theorem coff4 : ∀ k : Fin k0_t1_loop.trips, k0_off4 (w6 k.val) = ![(Ring.sl 2 (k.val + 1)).val, 0, 0] := by decide +kernel
theorem coff5 : ∀ (i : grid0.Coords) (k : Fin k0_t1_loop.trips), k.val < 31 → k0_off5 i (w10 k.val) = ![0, 128 * win i (k.val + 1)] := by decide +kernel
theorem coff6 : ∀ k : Fin k0_t1_loop.trips, k0_off6 (w6 k.val) = ![(Ring.sl 2 (k.val + 1)).val] := by decide +kernel
theorem coff7 : ∀ k : Fin k0_t1_loop.trips, k0_off7 (w7 k.val) = ![(Ring.sl 2 k.val).val, 0, 0] := by decide +kernel
theorem coff8 : ∀ (i : grid0.Coords) (k : Fin k0_t1_loop.trips), k0_off8 i (w10 k.val) = ![0, 128 * win i k.val] := by decide +kernel
theorem coff9 : ∀ k : Fin k0_t1_loop.trips, k0_off9 (w7 k.val) = ![(Ring.sl 2 k.val).val] := by decide +kernel
theorem coff10 : ∀ k : Fin k0_t1_loop.trips, k0_off10 (w7 k.val) = ![(Ring.sl 2 k.val).val, 0, 0] := by decide +kernel
theorem coff11 : ∀ k : Fin k0_t1_loop.trips, k0_off11 (w7 k.val) = ![(Ring.sl 2 k.val).val, 0, 0] := by decide +kernel
theorem coff12 : ∀ k : Fin k0_t1_loop.trips, k0_off12 (w7 k.val) = ![(Ring.sl 2 k.val).val, 0, 0] := by decide +kernel
theorem coff13 : ∀ (i : grid0.Coords) (k : Fin k0_t1_loop.trips), k0_off13 i (w10 k.val) = ![128 * win i k.val, 0] := by decide +kernel
theorem coff14 : ∀ k : Fin k0_t1_loop.trips, k0_off14 (w7 k.val) = ![(Ring.sl 2 k.val).val] := by decide +kernel
theorem coff15 : ∀ k : Fin k0_t1_loop.trips, 0 < k.val → k0_off15 (w9 k.val) = ![(Ring.sl 2 (k.val + 1)).val, 0, 0] := by decide +kernel
theorem coff16 : ∀ (i : grid0.Coords) (k : Fin k0_t1_loop.trips), 0 < k.val → k0_off16 i (w10 k.val) = ![128 * win i (k.val - 1), 0] := by decide +kernel
theorem coff17 : ∀ k : Fin k0_t1_loop.trips, 0 < k.val → k0_off17 (w9 k.val) = ![(Ring.sl 2 (k.val + 1)).val] := by decide +kernel
theorem coff18 : k0_off18 (w9 32) = ![1, 0, 0] := by decide +kernel
theorem coff19 : ∀ (i : grid0.Coords), k0_off19 i (w10 32) = ![128 * win i 31, 0] := by decide +kernel
theorem coff20 : k0_off20 (w9 32) = ![1] := by decide +kernel
theorem coff21 : k0_off21 (w9 32) = ![1, 0, 0] := by decide +kernel

end Words

end Cert.Proof.Gather

end
-- ==== Proof.Tile.lean ====
/-
  The gather's task on one vector subcore: the 32 windows of 128 row numbers it is dealt, each fetched one trip ahead
  into a two-deep buffer, the rows of `x` they name gathered into a two-deep buffer, and that window of rows sent
  to its block of the result while the next is gathered. Proved over any `F`, with the contents the blocks end at.
-/
module

public import proofs.«01_k».proof.Proof.Words

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S147456x128 EltTy.f32)
local notation "iV" => (Memref.whole Cert.KernelIdeal.main_v10_scv : Memref Cert.KernelIdeal.sig Kind.scVector Space.hbm Cert.KernelIdeal.S1x131072 EltTy.i32)
local notation "oV" => (Memref.whole Cert.KernelIdeal.main_v11_scv : Memref Cert.KernelIdeal.sig Kind.scVector Space.hbm Cert.KernelIdeal.S131072x128 EltTy.f32)
local notation "lV" => (Memref.whole Cert.KernelIdeal.cc0_scoped0 : Memref Cert.KernelIdeal.sig Kind.scVector Space.vmem Cert.KernelIdeal.S2x1x128 EltTy.i32)
local notation "tV" => (Memref.whole Cert.KernelIdeal.cc0_scoped2 : Memref Cert.KernelIdeal.sig Kind.scVector Space.vmem Cert.KernelIdeal.S2x128x128 EltTy.f32)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-! ## The windows, the slots, the cells -/

theorem inb_iblk (n : Fin 1024) : ∀ a, (![0, 128 * n.val] : Fin 2 → Nat) a + S1x128.size a ≤ S1x131072.size a := by
  have := n.isLt; intro a; fin_cases a
  · show 0 + 1 ≤ 1; omega
  · show 128 * n.val + 128 ≤ 131072; omega
theorem inb_oblk (n : Fin 1024) : ∀ a, (![128 * n.val, 0] : Fin 2 → Nat) a + S128x128.size a ≤ S131072x128.size a := by
  have := n.isLt; intro a; fin_cases a
  · show 128 * n.val + 128 ≤ 131072; omega
  · show 0 + 128 ≤ 128; omega
theorem inb_il (j : Fin 2) : ∀ a, (![j.val, 0, 0] : Fin 3 → Nat) a + S1x1x128.size a ≤ S2x1x128.size a := by
  have := j.isLt; intro a; fin_cases a <;> simp <;> omega
theorem inb_ol (j : Fin 2) : ∀ a, (![j.val, 0, 0] : Fin 3 → Nat) a + S1x128x128.size a ≤ S2x128x128.size a := by
  have := j.isLt; intro a; fin_cases a <;> simp <;> omega
theorem inb_cl (j : Fin 2) : ∀ a, (![j.val] : Fin 1 → Nat) a + S1.size a ≤ S2.size a := by
  have := j.isLt; intro a; fin_cases a; simp; omega

/-- Window `n` of the row numbers and block `n` of the result (of 1024 each). -/
def iblk (n : Fin 1024) : Memref sig .scVector .hbm S1x128 .i32 :=
  (iV).slice (Rect.unit (s := S1x131072) ![0, 128 * n.val] S1x128.size (inb_iblk n)) (fun _ => rfl)
def oblk (n : Fin 1024) : Memref sig .scVector .hbm S128x128 .f32 :=
  (oV).slice (Rect.unit (s := S131072x128) ![128 * n.val, 0] S128x128.size (inb_oblk n)) (fun _ => rfl)
/-- Slot `j` of the fetch buffer and of the row buffer. -/
def islot (j : Fin 2) : Memref sig .scVector .vmem S1x128 .i32 :=
  ((lV).slice (Rect.unit (s := S2x1x128) ![j.val, 0, 0] S1x1x128.size (inb_il j)) (fun _ => rfl)).squeeze S1x128 squeezes_S1x1x128_S1x128
def oslot (j : Fin 2) : Memref sig .scVector .vmem S128x128 .f32 :=
  ((tV).slice (Rect.unit (s := S2x128x128) ![j.val, 0, 0] S1x128x128.size (inb_ol j)) (fun _ => rfl)).squeeze S128x128 squeezes_S1x128x128_S128x128
/-- The fetch cell and the send cell of slot `j`. -/
def inA (j : Fin 2) : DmaSems sig S_ := (cc0_scoped1.slice (Rect.unit (s := S2) ![j.val] S1.size (inb_cl j))).squeeze S_ squeezes_S1_S_
def outA (j : Fin 2) : DmaSems sig S_ := (cc0_scoped3.slice (Rect.unit (s := S2) ![j.val] S1.size (inb_cl j))).squeeze S_ squeezes_S1_S_
abbrev inR (j : Fin 2) : SemLoc sig := .dma (inA j).sem
abbrev outR (j : Fin 2) : SemLoc sig := .dma (outA j).sem
abbrev gR : SemLoc sig := .dma cc0_scoped4.sem

/-- Slot `j` of the fetch buffer as the gather's list; all of `x` as its source. -/
def ilist (j : Fin 2) : Memref sig .scVector .vmem S128 .i32 :=
  ((islot j).slice (Rect.unit (s := S1x128) ![0, 0] S1x128.size inb_S1x128_S1x128_0_0) (fun _ => rfl)).squeeze S128 squeezes_S1x128_S128
def xAll : Memref sig .scVector .hbm S147456x128 .f32 :=
  (xV).slice (Rect.unit (s := S147456x128) ![0, 0] S147456x128.size inb_S147456x128_S147456x128_0_0) (fun _ => rfl)

/-- The task's window `k`. -/
def wn (i : grid0.Coords) (k : Fin 32) : Fin 1024 := ⟨win i k, win_lt i k⟩

theorem islot_canon {o : Fin 3 → Nat} (j : Fin 2) (h : o = ![j.val, 0, 0]) (p) :
    ((lV).slice (Rect.unit (s := S2x1x128) o S1x1x128.size p) (fun _ => rfl)).squeeze S1x128 squeezes_S1x1x128_S1x128 = islot j :=
  congrArg (fun M : Memref sig .scVector .vmem S1x1x128 .i32 => M.squeeze S1x128 squeezes_S1x1x128_S1x128)
    (Memref.slice_unit_congr _ h _ _ (fun _ => rfl) (fun _ => rfl))
theorem oslot_canon {o : Fin 3 → Nat} (j : Fin 2) (h : o = ![j.val, 0, 0]) (p) :
    ((tV).slice (Rect.unit (s := S2x128x128) o S1x128x128.size p) (fun _ => rfl)).squeeze S128x128 squeezes_S1x128x128_S128x128 = oslot j :=
  congrArg (fun M : Memref sig .scVector .vmem S1x128x128 .f32 => M.squeeze S128x128 squeezes_S1x128x128_S128x128)
    (Memref.slice_unit_congr _ h _ _ (fun _ => rfl) (fun _ => rfl))
theorem iblk_canon {o : Fin 2 → Nat} (n : Fin 1024) (h : o = ![0, 128 * n.val]) (p) :
    (iV).slice (Rect.unit (s := S1x131072) o S1x128.size p) (fun _ => rfl) = iblk n :=
  Memref.slice_unit_congr _ h _ _ (fun _ => rfl) (fun _ => rfl)
theorem oblk_canon {o : Fin 2 → Nat} (n : Fin 1024) (h : o = ![128 * n.val, 0]) (p) :
    (oV).slice (Rect.unit (s := S131072x128) o S128x128.size p) (fun _ => rfl) = oblk n :=
  Memref.slice_unit_congr _ h _ _ (fun _ => rfl) (fun _ => rfl)
theorem inA_canon {o : Fin 1 → Nat} (j : Fin 2) (h : o = ![j.val]) (p) :
    (cc0_scoped1.slice (Rect.unit (s := S2) o S1.size p)).squeeze S_ squeezes_S1_S_ = inA j :=
  congrArg (fun A : DmaSems sig S1 => A.squeeze S_ squeezes_S1_S_) (SemArray.slice_unit_congr _ h _ _)
theorem outA_canon {o : Fin 1 → Nat} (j : Fin 2) (h : o = ![j.val]) (p) :
    (cc0_scoped3.slice (Rect.unit (s := S2) o S1.size p)).squeeze S_ squeezes_S1_S_ = outA j :=
  congrArg (fun A : DmaSems sig S1 => A.squeeze S_ squeezes_S1_S_) (SemArray.slice_unit_congr _ h _ _)

section Canon
variable (i : grid0.Coords) (k : Fin k0_t1_loop.trips)

theorem k_lt (k : Fin k0_t1_loop.trips) : k.val < 32 := lt_of_lt_of_eq k.isLt trips_eq
/-- Trip `k`'s window, the next one, the one before. -/
def wk (i : grid0.Coords) (k : Fin k0_t1_loop.trips) : Fin 1024 := wn i ⟨k.val, k_lt k⟩
def wk1 (i : grid0.Coords) (k : Fin k0_t1_loop.trips) (h : k.val < 31) : Fin 1024 := wn i ⟨k.val + 1, by omega⟩
def wk0 (i : grid0.Coords) (k : Fin k0_t1_loop.trips) : Fin 1024 := wn i ⟨k.val - 1, by have := k_lt k; omega⟩

/-! ### Before the loop -/
@[sl_canon] theorem canon1 (p) : ((lV).slice (Rect.unit (s := S2x1x128) k0_off1 S1x1x128.size p) (fun _ => rfl)).squeeze S1x128 squeezes_S1x1x128_S1x128 = islot 0 :=
  islot_canon 0 k0_off1_eq p
@[sl_canon] theorem canon2 (p) : (iV).slice (Rect.unit (s := S1x131072) (k0_off2 i) S1x128.size p) (fun _ => rfl) = iblk (wn i 0) :=
  iblk_canon (wn i 0) ((k0_off2_eq i).trans (by congr 1; unfold wn win; simp; omega)) p
@[sl_canon] theorem canon3 (p) : (cc0_scoped1.slice (Rect.unit (s := S2) k0_off3 S1.size p)).squeeze S_ squeezes_S1_S_ = inA 0 :=
  inA_canon 0 k0_off3_eq p

/-! ### Trip `k` -/
@[sl_canon] theorem canon4 (p) : ((lV).slice (Rect.unit (s := S2x1x128) (k0_off4 (w6 k.val)) S1x1x128.size p) (fun _ => rfl)).squeeze S1x128 squeezes_S1x1x128_S1x128 = islot (Ring.sl 2 (k.val + 1)) :=
  islot_canon _ (coff4 k) p
@[sl_canon] theorem canon5 (h : k.val < 31) (p) : (iV).slice (Rect.unit (s := S1x131072) (k0_off5 i (w10 k.val)) S1x128.size p) (fun _ => rfl) = iblk (wk1 i k h) :=
  iblk_canon _ (coff5 i k h) p
@[sl_canon] theorem canon6 (p) : (cc0_scoped1.slice (Rect.unit (s := S2) (k0_off6 (w6 k.val)) S1.size p)).squeeze S_ squeezes_S1_S_ = inA (Ring.sl 2 (k.val + 1)) :=
  inA_canon _ (coff6 k) p
@[sl_canon] theorem canon7 (p) : ((lV).slice (Rect.unit (s := S2x1x128) (k0_off7 (w7 k.val)) S1x1x128.size p) (fun _ => rfl)).squeeze S1x128 squeezes_S1x1x128_S1x128 = islot (Ring.sl 2 k.val) :=
  islot_canon _ (coff7 k) p
@[sl_canon] theorem canon8 (p) : (iV).slice (Rect.unit (s := S1x131072) (k0_off8 i (w10 k.val)) S1x128.size p) (fun _ => rfl) = iblk (wk i k) :=
  iblk_canon _ (coff8 i k) p
@[sl_canon] theorem canon9 (p) : (cc0_scoped1.slice (Rect.unit (s := S2) (k0_off9 (w7 k.val)) S1.size p)).squeeze S_ squeezes_S1_S_ = inA (Ring.sl 2 k.val) :=
  inA_canon _ (coff9 k) p
@[sl_canon] theorem canon10 (p) : ((tV).slice (Rect.unit (s := S2x128x128) (k0_off10 (w7 k.val)) S1x128x128.size p) (fun _ => rfl)).squeeze S128x128 squeezes_S1x128x128_S128x128 = oslot (Ring.sl 2 k.val) :=
  oslot_canon _ (coff10 k) p
@[sl_canon] theorem canon11 (p) : ((lV).slice (Rect.unit (s := S2x1x128) (k0_off11 (w7 k.val)) S1x1x128.size p) (fun _ => rfl)).squeeze S1x128 squeezes_S1x1x128_S1x128 = islot (Ring.sl 2 k.val) :=
  islot_canon _ (coff11 k) p
@[sl_canon] theorem canon12 (p) : ((tV).slice (Rect.unit (s := S2x128x128) (k0_off12 (w7 k.val)) S1x128x128.size p) (fun _ => rfl)).squeeze S128x128 squeezes_S1x128x128_S128x128 = oslot (Ring.sl 2 k.val) :=
  oslot_canon _ (coff12 k) p
@[sl_canon] theorem canon13 (p) : (oV).slice (Rect.unit (s := S131072x128) (k0_off13 i (w10 k.val)) S128x128.size p) (fun _ => rfl) = oblk (wk i k) :=
  oblk_canon _ (coff13 i k) p
@[sl_canon] theorem canon14 (p) : (cc0_scoped3.slice (Rect.unit (s := S2) (k0_off14 (w7 k.val)) S1.size p)).squeeze S_ squeezes_S1_S_ = outA (Ring.sl 2 k.val) :=
  outA_canon _ (coff14 k) p
@[sl_canon] theorem canon15 (h : 0 < k.val) (p) : ((tV).slice (Rect.unit (s := S2x128x128) (k0_off15 (w9 k.val)) S1x128x128.size p) (fun _ => rfl)).squeeze S128x128 squeezes_S1x128x128_S128x128 = oslot (Ring.sl 2 (k.val + 1)) :=
  oslot_canon _ (coff15 k h) p
@[sl_canon] theorem canon16 (h : 0 < k.val) (p) : (oV).slice (Rect.unit (s := S131072x128) (k0_off16 i (w10 k.val)) S128x128.size p) (fun _ => rfl) = oblk (wk0 i k) :=
  oblk_canon _ (coff16 i k h) p
@[sl_canon] theorem canon17 (h : 0 < k.val) (p) : (cc0_scoped3.slice (Rect.unit (s := S2) (k0_off17 (w9 k.val)) S1.size p)).squeeze S_ squeezes_S1_S_ = outA (Ring.sl 2 (k.val + 1)) :=
  outA_canon _ (coff17 k h) p

/-! ### After it -/
@[sl_canon] theorem canon18 (p) : ((tV).slice (Rect.unit (s := S2x128x128) (k0_off18 (w9 32)) S1x128x128.size p) (fun _ => rfl)).squeeze S128x128 squeezes_S1x128x128_S128x128 = oslot 1 :=
  oslot_canon 1 coff18 p
@[sl_canon] theorem canon19 (p) : (oV).slice (Rect.unit (s := S131072x128) (k0_off19 i (w10 32)) S128x128.size p) (fun _ => rfl) = oblk (wn i 31) :=
  oblk_canon _ (coff19 i) p
@[sl_canon] theorem canon20 (p) : (cc0_scoped3.slice (Rect.unit (s := S2) (k0_off20 (w9 32)) S1.size p)).squeeze S_ squeezes_S1_S_ = outA 1 :=
  outA_canon 1 coff20 p
@[sl_canon] theorem canon21 (p) : ((tV).slice (Rect.unit (s := S2x128x128) (k0_off21 (w9 32)) S1x128x128.size p) (fun _ => rfl)).squeeze S128x128 squeezes_S1x128x128_S128x128 = oslot 1 :=
  oslot_canon 1 coff21 p
end Canon

/-! ## What the task computes -/

section Run

variable [FloatOps F] (d : Dev nD) (L : grid0.Coords)
variable (X : Buf (Elt F) ((xV).view.loc (VT d L))) (I : Buf (Elt F) ((iV).view.loc (VT d L))) (O₀ : Buf (Elt F) ((oV).view.loc (VT d L)))

/-- The result: row `r` is the row of `x` that the `r`-th row number names. -/
def rowsOf (X : S147456x128.Idx → Elt F .f32) (I : S1x131072.Idx → BitVec 32) : S131072x128.Idx → Elt F .f32 := fun j =>
  X (fun | 0 => ⟨(I (fun | 0 => ⟨0, Nat.one_pos⟩ | 1 => ⟨(j 0).val, (j 0).isLt⟩)).toNat % 147456, Nat.mod_lt _ (by decide)⟩ | 1 => ⟨(j 1).val, (j 1).isLt⟩)

abbrev G : Buf (Elt F) ((oV).view.loc (VT d L)) := rowsOf (F := F) X I

/-- What slot `j` of the fetch buffer holds of window `n`, and slot `j` of the row buffer of block `n`. -/
def IB (j : Fin 2) (n : Fin 1024) : Buf (Elt F) ((islot j).view.loc (VT d L)) :=
  (islot j).view.write (Elt F) (fun _ => (0#32 : BitVec 32)) ((iblk n).view.read (Elt F) I) Finset.univ
def OB (j : Fin 2) (n : Fin 1024) : Buf (Elt F) ((oslot j).view.loc (VT d L)) :=
  (oslot j).view.write (Elt F) (fun _ => rowsOf (F := F) X I (fun | 0 => ⟨0, by decide⟩ | 1 => ⟨0, by decide⟩) : S2x128x128.Idx → Elt F .f32) ((oblk n).view.read (Elt F) (G d L X I)) Finset.univ

abbrev iP (n : Fin 1024) : sProp 𝕄 := (iblk n).view.loc (VT d L) ↦[(iblk n).view.set]{fullShare} I
abbrev oP (f : Buf (Elt F) ((oV).view.loc (VT d L))) (n : Fin 1024) : sProp 𝕄 := (oblk n).view.loc (VT d L) ↦[(oblk n).view.set]{fullShare} f
abbrev ilP (j : Fin 2) (f : Buf (Elt F) ((islot j).view.loc (VT d L))) : sProp 𝕄 := (islot j).view.loc (VT d L) ↦[(islot j).view.set]{fullShare} f
abbrev olP (j : Fin 2) (f : Buf (Elt F) ((oslot j).view.loc (VT d L))) : sProp 𝕄 := (oslot j).view.loc (VT d L) ↦[(oslot j).view.set]{fullShare} f

abbrev iFree (j : Fin 2) : sProp 𝕄 := iprop(semVal (VT d L, inR j) 0 ∗ ∃ f, ilP (F := F) d L j f)
abbrev oFree (j : Fin 2) : sProp 𝕄 := iprop(semVal (VT d L, outR j) 0 ∗ ∃ f, olP (F := F) d L j f)
/-- The fetch of window `n` into slot `j` in flight; the sending of block `n` from slot `j` in flight. -/
abbrev iFly (j : Fin 2) (n : Fin 1024) : sProp 𝕄 :=
  Transfers.Flight countersEmb (VT d L) (inR j) (default : HIx 1) ((islot j).view.amount (inR j)) iprop(ilP d L j (IB d L I j n) ∗ iP d L I n)
abbrev oFly (j : Fin 2) (n : Fin 1024) : sProp 𝕄 :=
  Transfers.Flight countersEmb (VT d L) (outR j) (default : HIx 1) ((oblk n).view.amount (outR j)) iprop(oP d L (G d L X I) n ∗ olP d L j (OB d L X I j n))

/-- The fetch of trip `k`'s window; the sending of the block before. -/
def sI (k : ℕ) : sProp 𝕄 := if h : k < 32 then iFly d L I (Ring.sl 2 k) (wn L ⟨k, h⟩) else iFree d L (Ring.sl 2 k)
def sO (k : ℕ) : sProp 𝕄 := if h : 0 < k ∧ k - 1 < 32 then oFly d L X I (Ring.sl 2 (k + 1)) (wn L ⟨k - 1, h.2⟩) else oFree d L (Ring.sl 2 (k + 1))

def inv (q : PosShare TreeShare) (O : CellTallies nD τ sig (HIx 1)) (k : ℕ) (acc : BitVec 32 × BitVec 32 × BitVec 32 × BitVec 32 × BitVec 32) : sProp 𝕄 :=
  iprop(⌜acc = words k⌝ ∗ Transfers.MayWaits (VT d L) (default : HIx 1) O
    ∗ ((xV).view.loc (VT d L) ↦{q} X)
    ∗ (bigSep (Ring.rangeSet 32 (k + 1) 32) fun n => iP d L I (wn L n)) ∗ (bigSep (Ring.rangeSet 32 0 k) fun n => iP d L I (wn L n))
    ∗ sI d L I k ∗ iFree d L (Ring.sl 2 (k + 1))
    ∗ sO d L X I k ∗ oFree d L (Ring.sl 2 k)
    ∗ semVal (VT d L, gR) 0
    ∗ (bigSep (Ring.rangeSet 32 k 32) fun n => oP d L O₀ (wn L n)) ∗ (bigSep (Ring.rangeSet 32 0 (k - 1)) fun n => oP d L (G d L X I) (wn L n))
    ∗ ∃ W', owes (VT d L) O W')

theorem iblk_read (n : Fin 1024) (x : S1x128.Idx) :
    (iblk n).view.read (Elt F) I x = (show S1x131072.Idx → BitVec 32 from I) (fun | 0 => ⟨0, Nat.one_pos⟩ | 1 => ⟨128 * n.val + (x 1).val, by have h1 := n.isLt; have h2 : (x 1).val < 128 := (x 1).isLt; show _ < 131072; omega⟩) := by
  refine ((View.read_apply _ _).trans (cast_eq _ _)).trans (congrArg I (funext fun a => ?_))
  fin_cases a
  · exact Subsingleton.elim (α := Fin 1) _ _
  · apply Fin.ext; show 128 * n.val + 1 * (x 1).val = 128 * n.val + (x 1).val; omega
theorem oblk_read (f : Buf (Elt F) ((oV).view.loc (VT d L))) (n : Fin 1024) (x : S128x128.Idx) :
    (oblk n).view.read (Elt F) f x = (show S131072x128.Idx → Elt F .f32 from f) (fun | 0 => ⟨128 * n.val + (x 0).val, by have h1 := n.isLt; have h2 : (x 0).val < 128 := (x 0).isLt; show _ < 131072; omega⟩ | 1 => ⟨(x 1).val, (x 1).isLt⟩) := by
  refine ((View.read_apply _ _).trans (cast_eq _ _)).trans (congrArg f (funext fun a => ?_))
  fin_cases a
  · apply Fin.ext; show 128 * n.val + 1 * (x 0).val = 128 * n.val + (x 0).val; omega
  · apply Fin.ext; show 0 + 1 * (x 1).val = (x 1).val; omega
theorem ilist_read (j : Fin 2) (f : Buf (Elt F) ((islot j).view.loc (VT d L))) (x : S128.Idx) :
    (ilist j).view.read (Elt F) f x = (islot j).view.read (Elt F) f (fun | 0 => ⟨0, Nat.one_pos⟩ | 1 => ⟨(x 0).val, (x 0).isLt⟩) := by
  have e : (ilist j).view.emb x = (islot j).view.emb (fun | 0 => ⟨0, Nat.one_pos⟩ | 1 => ⟨(x 0).val, (x 0).isLt⟩) := by
    show (islot j).view.emb _ = _
    refine congrArg (islot j).view.emb (funext fun a => ?_)
    have hx : Shape.reshapeEquiv (s := S1x128) (s' := S128) squeezes_S1x128_S128.numel_eq x = (fun | 0 => ⟨0, Nat.one_pos⟩ | 1 => ⟨(x 0).val, (x 0).isLt⟩) :=
      Shape.reshapeEquiv_eq_of_rowMajor _ (by rw [Shape.rowMajor_val_two, Shape.rowMajor_val_one]; show 0 * 128 + (x 0).val = _; omega)
    have hu : ∀ y, (Rect.unit (s := S1x128) ![0, 0] S1x128.size inb_S1x128_S1x128_0_0).emb y a = y a := by
      intro y; apply Fin.ext; fin_cases a
      · show 0 + 1 * (y 0).val = (y 0).val; omega
      · show 0 + 1 * (y 1).val = (y 1).val; omega
    exact (hu _).trans (congrFun hx a)
  exact (View.read_apply _ _).trans ((congrArg (cast _) (congrArg f e)).trans (View.read_apply _ _).symm)
theorem list_read (j : Fin 2) (n : Fin 1024) (x : S128.Idx) :
    (ilist j).view.read (Elt F) (IB d L I j n) x = (show S1x131072.Idx → BitVec 32 from I) (fun | 0 => ⟨0, Nat.one_pos⟩ | 1 => ⟨128 * n.val + (x 0).val, by have h1 := n.isLt; have h2 : (x 0).val < 128 := (x 0).isLt; show _ < 131072; omega⟩) := by
  refine (ilist_read d L j _ x).trans ?_
  refine (congrFun (View.read_write_univ _ _) _).trans ?_
  exact iblk_read d L I n _
theorem xAll_read (x : S147456x128.Idx) : (xAll).view.read (Elt F) X x = X x := by
  refine ((View.read_apply _ _).trans (cast_eq _ _)).trans (congrArg X (funext fun a => ?_))
  fin_cases a
  · apply Fin.ext; show 0 + 1 * (x 0).val = (x 0).val; omega
  · apply Fin.ext; show 0 + 1 * (x 1).val = (x 1).val; omega

theorem list_lt (hI : ∀ j, ((show S1x131072.Idx → BitVec 32 from I) j).toNat < 147456) (j : Fin 2) (n : Fin 1024) :
    ∀ x, ((ilist j).view.read (Elt F) (IB d L I j n) x).toNat < S147456x128.size gathers_S147456x128_S128x128.axis := by
  intro x; rw [list_read]; exact hI _

/-- What the gather of window `n` lands is block `n` of the result. -/
theorem payload_eq (hI : ∀ j, ((show S1x131072.Idx → BitVec 32 from I) j).toNat < 147456) (j : Fin 2) (n : Fin 1024) (hn) (hin) :
    SparseCore.gatherPayload (F := F) (e := .f32) gathers_S147456x128_S128x128 ((xAll).view.read (Elt F) X)
      (SparseCore.rows (si := S128) ((ilist j).view.read (Elt F) (IB d L I j n)) hn hin) = (oblk n).view.read (Elt F) (G d L X I) := by
  funext x
  rw [oblk_read]
  unfold SparseCore.gatherPayload
  rw [xAll_read]
  show X _ = rowsOf (F := F) X I _
  unfold rowsOf
  refine congrArg X (funext fun a => ?_)
  fin_cases a
  · apply Fin.ext
    refine (congrArg Fin.val (Shape.Gathers.idx_axis gathers_S147456x128_S128x128 _ x)).trans ?_
    refine Eq.trans ?_ (Nat.mod_eq_of_lt (hI _)).symm
    refine (congrArg (fun b : BitVec 32 => b.toNat) (list_read d L I j n _)).trans ?_
    refine congrArg (fun b : BitVec 32 => b.toNat) ?_
    refine congrArg (show S1x131072.Idx → BitVec 32 from I) (funext fun a => ?_)
    fin_cases a
    · rfl
    · apply Fin.ext
      have hs : ∀ (r : Fin S128.numel), ((S128.rowMajor.symm r) 0).val = r.val := fun r => by
        rw [← Shape.rowMajor_val_one, Equiv.apply_symm_apply]
      exact congrArg (fun t => 128 * n.val + t) (hs _)
  · apply Fin.ext
    exact Shape.Gathers.idx_of_ne gathers_S147456x128_S128x128 _ x (1 : Fin 2) Nat.one_ne_zero

theorem gN (j : Fin 2) : ∀ h : S147456x128.Gathers 0 S128x128,
    ∑ r, ((oslot j).slice (S128x128.rowRect h.axis' r) (S128x128.stride_rowRect h.axis' r)).view.dmaCredit = (oslot j).view.dmaCredit := by
  revert j; decide +kernel

theorem rect_full {S : Shape} (r : Rect S) (hs : ∀ y : S.Idx, ∃ x, r.emb x = y) : r.set = Finset.univ := by
  rw [← Rect.map_emb_univ]
  refine Finset.eq_univ_iff_forall.mpr fun y => ?_
  obtain ⟨x, hx⟩ := hs y
  exact Finset.mem_map.mpr ⟨x, Finset.mem_univ _, hx⟩
theorem ilist_set (j : Fin 2) : (ilist j).view.set = (islot j).view.set := by
  have h : (ilist j).view.set = ((islot j).view.slice (Rect.unit (s := S1x128) ![0, 0] S1x128.size inb_S1x128_S1x128_0_0)).set := View.set_reshape _ _
  rw [h, View.set_slice, rect_full _ fun y => ⟨y, funext fun a => Fin.ext (by
    fin_cases a
    · show 0 + 1 * (y 0).val = (y 0).val; omega
    · show 0 + 1 * (y 1).val = (y 1).val; omega)⟩]
  rfl
theorem xAll_set : (xAll).view.set = Finset.univ :=
  (View.set_slice_whole main_v0_scv _).trans (rect_full (S := S147456x128) _ fun (y : S147456x128.Idx) => ⟨y, funext fun (a : Fin 2) => Fin.ext (by
    fin_cases a
    · show 0 + 1 * (y 0).val = (y 0).val; omega
    · show 0 + 1 * (y 1).val = (y 1).val; omega)⟩)

theorem gather_step (hI : ∀ j, ((show S1x131072.Idx → BitVec 32 from I) j).toNat < 147456) (q : PosShare TreeShare) (j : Fin 2) (n : Fin 1024)
    (fo : Buf (Elt F) ((oslot j).view.loc (VT d L))) {α : Type} (h₁ h₂ h₃ h₄ h₅ h₆) (k : PUnit → Prog (TpuEff nD τ sig (Elt F) Λ₀ (VT d L).2) α) (Q : α → sProp 𝕄) :
    iprop(((xV).view.loc (VT d L) ↦{q} X) ∗ olP d L j fo ∗ ilP d L j (IB d L I j n) ∗ semVal (VT d L, gR) 0)
      ⊢ iprop((Transfers.Flight countersEmb (VT d L) gR (default : HIx 1) (oslot j).view.dmaCredit
                iprop(olP d L j (OB d L X I j n) ∗ ((xV).view.loc (VT d L) ↦{q} X) ∗ ilP d L j (IB d L I j n))
              -∗ wp frame (wpE (defs₀ (F := F)) 𝒱₀ (VT d L) none) Set.univ (k ⟨⟩) Q)
          -∗ wp frame (wpE (defs₀ (F := F)) 𝒱₀ (VT d L) none) Set.univ
            (SparseCore.enqueueIndirectGather h₁ xAll (oslot j) gathers_S147456x128_S128x128 (ilist j) h₂ cc0_scoped4.sem h₃ h₄ h₅ h₆ >>= k) Q) := by
  have ex : ((xV).view.loc (VT d L) ↦{q} X : sProp 𝕄) = ((xAll).view.loc (VT d L) ↦[(xAll).view.set]{q} X) := by rw [xAll_set]; rfl
  have ei : ilP d L j (IB d L I j n) = ((ilist j).view.loc (VT d L) ↦[(ilist j).view.set]{fullShare} (IB d L I j n) : sProp 𝕄) := by rw [ilist_set]; rfl
  have eo : (olP d L j ((oslot j).view.write (Elt F) fo (SparseCore.gatherPayload (F := F) (e := .f32) gathers_S147456x128_S128x128 ((xAll).view.read (Elt F) X)
      (SparseCore.rows (si := S128) ((ilist j).view.read (Elt F) (IB d L I j n)) h₂ (list_lt d L I hI j n))) Finset.univ) : sProp 𝕄) = olP d L j (OB d L X I j n) := by
    rw [payload_eq d L X I hI]
    refine pointsTo_congr fun i hi => ?_
    unfold OB
    exact View.write_congr (fun _ _ _ => rfl) (fun h => absurd (by rw [View.setOn_univ]; exact hi) h)
  iintro ⟨Hx, Ho, Hl, Hg⟩ Hk
  ihave Hx := (Entails.of_eq ex) $$ Hx
  ihave Hl := (Entails.of_eq ei) $$ Hl
  iapply (SparseCore.wp_indirectGatherLocal countersEmb 𝒱₀ (VT d L) none (hg := gathers_S147456x128_S128x128) (default : HIx 1)
      (oslot j).view.dmaCredit (gN j _) (by decide) (list_lt d L I hI j n)) $$ [Hx Ho Hl Hg]
  · isplitl [Hx]; · iexact Hx
    isplitl [Ho]; · iexact Ho
    isplitl [Hl]; · iexact Hl
    iexact Hg
  iintro Hf
  iapply Hk
  iapply (Transfers.Flight_mono countersEmb (VT d L) ?_) $$ Hf
  iintro ⟨Ho, Hx, Hl⟩
  isplitl [Ho]; · iapply (Entails.of_eq eo); iexact Ho
  isplitl [Hx]; · iapply (Entails.of_eq ex.symm); iexact Hx
  iapply (Entails.of_eq ei.symm); iexact Hl

end Run

end Cert.Proof.Gather

end
-- ==== Proof.Trips.lean ====
/-
  The gather's task on one vector subcore: the 32 windows of 128 row numbers it is dealt, each fetched one trip ahead
  into a two-deep buffer, the rows of `x` they name gathered into a two-deep buffer, and that window of rows sent
  to its block of the result while the next is gathered. Proved over any `F`, with the contents the blocks end at.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S147456x128 EltTy.f32)
local notation "iV" => (Memref.whole Cert.KernelIdeal.main_v10_scv : Memref Cert.KernelIdeal.sig Kind.scVector Space.hbm Cert.KernelIdeal.S1x131072 EltTy.i32)
local notation "oV" => (Memref.whole Cert.KernelIdeal.main_v11_scv : Memref Cert.KernelIdeal.sig Kind.scVector Space.hbm Cert.KernelIdeal.S131072x128 EltTy.f32)
local notation "lV" => (Memref.whole Cert.KernelIdeal.cc0_scoped0 : Memref Cert.KernelIdeal.sig Kind.scVector Space.vmem Cert.KernelIdeal.S2x1x128 EltTy.i32)
local notation "tV" => (Memref.whole Cert.KernelIdeal.cc0_scoped2 : Memref Cert.KernelIdeal.sig Kind.scVector Space.vmem Cert.KernelIdeal.S2x128x128 EltTy.f32)

section Run

variable [FloatOps F] (d : Dev nD) (L : grid0.Coords)
variable (X : Buf (Elt F) ((xV).view.loc (VT d L))) (I : Buf (Elt F) ((iV).view.loc (VT d L))) (O₀ : Buf (Elt F) ((oV).view.loc (VT d L)))

theorem writes_one {κ : Kind} {sp : Space} {S : Shape} {e : EltTy} (v : View sig κ sp S e) (f : v.ty.Contents (Elt F)) (w : S.Idx → Elt F e) :
    v.writes (Elt F) f [⟨Rect.whole S, w⟩] = v.write (Elt F) f w Finset.univ := (View.write_univ_eq_writes_whole v f [] w).symm

theorem il_landed (j : Fin 2) (n : Fin 1024) (f : Buf (Elt F) ((islot j).view.loc (VT d L))) :
    ilP (F := F) d L j ((islot j).view.writes (Elt F) f [⟨Rect.whole S1x128, (iblk n).view.read (Elt F) I⟩]) = ilP d L j (IB d L I j n) := by
  refine pointsTo_congr fun i hi => ?_
  refine (congrFun (writes_one (islot j).view f _) i).trans ?_
  exact View.write_congr (fun _ _ _ => rfl) (fun h => absurd (by rw [View.setOn_univ]; exact hi) h)
theorem o_landed (j : Fin 2) (n : Fin 1024) :
    oP (F := F) d L ((oblk n).view.writes (Elt F) O₀ [⟨Rect.whole S128x128, (oslot j).view.read (Elt F) (OB d L X I j n)⟩]) n = oP d L (G d L X I) n := by
  refine pointsTo_congr fun i hi => ?_
  refine (congrFun (writes_one (oblk n).view O₀ _) i).trans ?_
  rw [show (oslot j).view.read (Elt F) (OB d L X I j n) = (oblk n).view.read (Elt F) (G d L X I) from View.read_write_univ _ _]
  obtain ⟨x, -, rfl⟩ := Finset.mem_map.mp hi
  exact (View.write_emb_of_mem _ _ (Finset.mem_univ x)).trans (by
    refine (congrArg _ (View.read_apply _ _)).trans ?_
    exact cast_cast _ _ _)

/-- The task's first window, as the body computes it. -/
abbrev base (L : grid0.Coords) : BitVec 32 :=
  Scalar.muli (Scalar.addi (Scalar.addi 0#32 (Scalar.muli (BitVec.ofNat 32 (L 1).val) 1#32)) (Scalar.muli (BitVec.ofNat 32 (L 0).val) 16#32)) 32#32

theorem trip_mid (hI : ∀ j, ((show S1x131072.Idx → BitVec 32 from I) j).toNat < 147456) (q : PosShare TreeShare) (O : CellTallies nD τ sig (HIx 1)) (k : Fin k0_t1_loop.trips) (h0 : 0 < k.val) (h31 : k.val < 31)
    (acc) : inv d L X I O₀ q O k.val acc ⊢ wp frame (wpE (defs₀ (F := F)) 𝒱₀ (VT d L) none) Set.univ
      (k0_t1_body L xV (Memref.isWhole_whole _) iV (Memref.isWhole_whole _) oV (Memref.isWhole_whole _) lV (Memref.isWhole_whole _) cc0_scoped1
        tV (Memref.isWhole_whole _) cc0_scoped3 cc0_scoped4 (base L) k acc)
      fun acc' => inv d L X I O₀ q O (k.val + 1) acc' := by
  unfold inv
  have h32 : k.val < 32 := k_lt k
  have e1 : sI (F := F) d L I k.val = iFly d L I (Ring.sl 2 k.val) (wk L k) := by unfold sI; rw [dif_pos h32]; rfl
  have e2 : sO (F := F) d L X I k.val = oFly d L X I (Ring.sl 2 (k.val + 1)) (wk0 L k) := by unfold sO; rw [dif_pos ⟨h0, by omega⟩]; rfl
  rw [e1, e2, Ring.bigSep_rangeSet_head (lo := k.val) (hi := 32) (by omega) (by omega), Ring.bigSep_rangeSet_head (lo := k.val + 1) (hi := 32) (by omega) (by omega)]
  have hc1 := cond1_pos L k h31
  have hc2 := cond2_pos L k
  have hc5 := cond5_pos L k
  have hc7 := cond7_pos L k h0
  have hk1 := chk1_w L k
  have hk2 := chk2_w k
  have hk3 := chk3_w k
  iintro ⟨%hacc, #Hmw, Hx, ⟨Hi1, Hia⟩, Hib, Hfi, ⟨Hci, %fi, Hsi⟩, Hfo, ⟨Hco, %fo, Hso⟩, Hg, ⟨Ho1, Hoa⟩, Hob, %W', HO⟩
  subst hacc
  unfold words
  sl_unfold [k0_t1_body]
  sl_exec (disch := first | exact View.amount_pos _ _ (show 0 < S1x128.numel by decide) | exact View.amount_pos _ _ (show 0 < S128x128.numel by decide))
  iapply (gather_step d L X I hI q (Ring.sl 2 k.val) (wk L k) fo) $$ [Hx Hso Hfi_dst Hg]
  · isplitl [Hx]; · iexact Hx
    isplitl [Hso]; · iexact Hso
    isplitl [Hfi_dst]; · iexact Hfi_dst
    iexact Hg
  iintro Hfg
  sl_exec (disch := first | exact View.amount_pos _ _ (show 0 < S1x128.numel by decide) | exact View.amount_pos _ _ (show 0 < S128x128.numel by decide))
  iapply (Transfers.wp_waitLocalO countersEmb 𝒱₀ (VT d L) none (default : HIx 1) (rfl : (oslot (Ring.sl 2 k.val)).view.dmaCredit = _)) $$ [Hfg HO]
  · isplitl [Hfg]; · iexact Hfg
    isplitl [HO]; · iexact HO
    iapply (Transfers.MayWaits.elim gR) $$ Hmw
  iintro ⟨⟨Hso, Hx, Hsl⟩, Hg, HO⟩
  sl_exec (disch := first | exact View.amount_pos _ _ (show 0 < S1x128.numel by decide) | exact View.amount_pos _ _ (show 0 < S128x128.numel by decide))
  sl_step
  have f1 : sI (F := F) d L I (k.val + 1) = iFly d L I (Ring.sl 2 (k.val + 1)) (wk1 L k h31) := by unfold sI; rw [dif_pos (by omega)]; rfl
  have f2 : sO (F := F) d L X I (k.val + 1) = oFly d L X I (Ring.sl 2 k.val) (wk L k) := by
    unfold sO; rw [dif_pos ⟨by omega, by omega⟩, Ring.sl_add 2 k.val]; rfl
  rw [f1, f2, Ring.sl_add 2 k.val]
  isplitr
  · ipureintro
    exact (show ∀ (L : grid0.Coords) (k : Fin k0_t1_loop.trips), 0 < k.val → k.val < 31 →
      (trip_mid.sl.v91_r0 L k, trip_mid.sl.v139_r0 L k, trip_mid.sl.v121_r0 L k, trip_mid.sl.v135_r0 L k, trip_mid.sl.v143_r0 k)
        = (w6 (k.val + 1), w7 (k.val + 1), w7 (k.val + 1), w9 (k.val + 1), w10 (k.val + 1)) from by decide +kernel) L k h0 h31
  isplitr; · iexact Hmw
  isplitl [Hx]; · iexact Hx
  isplitl [Hia]; · iexact Hia
  isplitl [Hib Hfi_src]
  · iapply (Entails.of_eq (Ring.bigSep_rangeSet_last (Φ := fun n => iP d L I (wn L n)) (lo := 0) (hi := k.val + 1) (by omega) (by omega)).symm)
    isplitl [Hfi_src]; · iexact Hfi_src
    iexact Hib
  isplitl [Hci]
  · iapply (Transfers.Flight_mono countersEmb (VT d L) ?_) $$ Hci
    iintro ⟨Ha, Hb⟩
    isplitl [Ha]; · iapply (Entails.of_eq (il_landed d L I (Ring.sl 2 (k.val + 1)) (wk1 L k h31) fi)); iexact Ha
    iexact Hb
  isplitl [Hfi Hsl]
  · isplitl [Hfi]; · iexact Hfi
    iexists _; iexact Hsl
  isplitl [Hco]
  · iapply (Transfers.Flight_mono countersEmb (VT d L) ?_) $$ Hco
    iintro ⟨Ha, Hb⟩
    isplitl [Ha]; · iapply (Entails.of_eq (o_landed d L X I O₀ (Ring.sl 2 k.val) (wk L k))); iexact Ha
    iexact Hb
  isplitl [Hfo Hfo_src]
  · isplitl [Hfo]; · iexact Hfo
    iexists _; iexact Hfo_src
  isplitl [Hg]; · iexact Hg
  isplitl [Hoa]; · iexact Hoa
  isplitl [Hob Hfo_dst]
  · iapply (Entails.of_eq (Ring.bigSep_rangeSet_last (Φ := fun n => oP d L (G d L X I) (wn L n)) (lo := 0) (hi := k.val + 1 - 1) (by omega) (by omega)).symm)
    isplitl [Hfo_dst]; · iexact Hfo_dst
    iexact Hob
  iexists _; iexact HO

theorem trip_first (hI : ∀ j, ((show S1x131072.Idx → BitVec 32 from I) j).toNat < 147456) (q : PosShare TreeShare) (O : CellTallies nD τ sig (HIx 1)) (k : Fin k0_t1_loop.trips) (h0 : ¬ 0 < k.val)
    (acc) : inv d L X I O₀ q O k.val acc ⊢ wp frame (wpE (defs₀ (F := F)) 𝒱₀ (VT d L) none) Set.univ
      (k0_t1_body L xV (Memref.isWhole_whole _) iV (Memref.isWhole_whole _) oV (Memref.isWhole_whole _) lV (Memref.isWhole_whole _) cc0_scoped1
        tV (Memref.isWhole_whole _) cc0_scoped3 cc0_scoped4 (base L) k acc)
      fun acc' => inv d L X I O₀ q O (k.val + 1) acc' := by
  unfold inv
  have h31 : k.val < 31 := by omega
  have h32 : k.val < 32 := k_lt k
  have e1 : sI (F := F) d L I k.val = iFly d L I (Ring.sl 2 k.val) (wk L k) := by unfold sI; rw [dif_pos h32]; rfl
  have e2 : sO (F := F) d L X I k.val = oFree d L (Ring.sl 2 (k.val + 1)) := by unfold sO; rw [dif_neg (by omega)]
  rw [e1, e2, Ring.bigSep_rangeSet_head (lo := k.val) (hi := 32) (by omega) (by omega), Ring.bigSep_rangeSet_head (lo := k.val + 1) (hi := 32) (by omega) (by omega)]
  have hc1 := cond1_pos L k h31
  have hc2 := cond2_pos L k
  have hc5 := cond5_pos L k
  have hc7 := cond7_neg L k h0
  have hk1 := chk1_w L k
  have hk2 := chk2_w k
  have hk3 := chk3_w k
  iintro ⟨%hacc, #Hmw, Hx, ⟨Hi1, Hia⟩, Hib, Hfi, ⟨Hci, %fi, Hsi⟩, ⟨Hfo, %fp, Hfp⟩, ⟨Hco, %fo, Hso⟩, Hg, ⟨Ho1, Hoa⟩, Hob, %W', HO⟩
  subst hacc
  unfold words
  sl_unfold [k0_t1_body]
  sl_exec (disch := first | exact View.amount_pos _ _ (show 0 < S1x128.numel by decide) | exact View.amount_pos _ _ (show 0 < S128x128.numel by decide))
  iapply (gather_step d L X I hI q (Ring.sl 2 k.val) (wk L k) fo) $$ [Hx Hso Hfi_dst Hg]
  · isplitl [Hx]; · iexact Hx
    isplitl [Hso]; · iexact Hso
    isplitl [Hfi_dst]; · iexact Hfi_dst
    iexact Hg
  iintro Hfg
  sl_exec (disch := first | exact View.amount_pos _ _ (show 0 < S1x128.numel by decide) | exact View.amount_pos _ _ (show 0 < S128x128.numel by decide))
  iapply (Transfers.wp_waitLocalO countersEmb 𝒱₀ (VT d L) none (default : HIx 1) (rfl : (oslot (Ring.sl 2 k.val)).view.dmaCredit = _)) $$ [Hfg HO]
  · isplitl [Hfg]; · iexact Hfg
    isplitl [HO]; · iexact HO
    iapply (Transfers.MayWaits.elim gR) $$ Hmw
  iintro ⟨⟨Hso, Hx, Hsl⟩, Hg, HO⟩
  sl_exec (disch := first | exact View.amount_pos _ _ (show 0 < S1x128.numel by decide) | exact View.amount_pos _ _ (show 0 < S128x128.numel by decide))
  sl_step
  have f1 : sI (F := F) d L I (k.val + 1) = iFly d L I (Ring.sl 2 (k.val + 1)) (wk1 L k h31) := by unfold sI; rw [dif_pos (by omega)]; rfl
  have f2 : sO (F := F) d L X I (k.val + 1) = oFly d L X I (Ring.sl 2 k.val) (wk L k) := by
    unfold sO; rw [dif_pos ⟨by omega, by omega⟩, Ring.sl_add 2 k.val]; rfl
  rw [f1, f2, Ring.sl_add 2 k.val]
  isplitr
  · ipureintro
    exact (show ∀ (L : grid0.Coords) (k : Fin k0_t1_loop.trips), ¬ 0 < k.val →
      (trip_first.sl.v91_r0 L k, trip_first.sl.v139_r0 L k, trip_first.sl.v121_r0 L k, trip_first.sl.v135_r0 L k, trip_first.sl.v143_r0 k)
        = (w6 (k.val + 1), w7 (k.val + 1), w7 (k.val + 1), w9 (k.val + 1), w10 (k.val + 1)) from by decide +kernel) L k h0
  isplitr; · iexact Hmw
  isplitl [Hx]; · iexact Hx
  isplitl [Hia]; · iexact Hia
  isplitl [Hib Hfi_src]
  · iapply (Entails.of_eq (Ring.bigSep_rangeSet_last (Φ := fun n => iP d L I (wn L n)) (lo := 0) (hi := k.val + 1) (by omega) (by omega)).symm)
    isplitl [Hfi_src]; · iexact Hfi_src
    iexact Hib
  isplitl [Hci]
  · iapply (Transfers.Flight_mono countersEmb (VT d L) ?_) $$ Hci
    iintro ⟨Ha, Hb⟩
    isplitl [Ha]; · iapply (Entails.of_eq (il_landed d L I (Ring.sl 2 (k.val + 1)) (wk1 L k h31) fi)); iexact Ha
    iexact Hb
  isplitl [Hfi Hsl]
  · isplitl [Hfi]; · iexact Hfi
    iexists _; iexact Hsl
  isplitl [Hco]
  · iapply (Transfers.Flight_mono countersEmb (VT d L) ?_) $$ Hco
    iintro ⟨Ha, Hb⟩
    isplitl [Ha]; · iapply (Entails.of_eq (o_landed d L X I O₀ (Ring.sl 2 k.val) (wk L k))); iexact Ha
    iexact Hb
  isplitl [Hfo Hfp]
  · isplitl [Hfo]; · iexact Hfo
    iexists _; iexact Hfp
  isplitl [Hg]; · iexact Hg
  isplitl [Hoa]; · iexact Hoa
  isplitl [Hob]
  · rw [show k.val + 1 - 1 = k.val - 1 by omega]; iexact Hob
  iexists _; iexact HO

theorem trip_last (hI : ∀ j, ((show S1x131072.Idx → BitVec 32 from I) j).toNat < 147456) (q : PosShare TreeShare) (O : CellTallies nD τ sig (HIx 1)) (k : Fin k0_t1_loop.trips) (h31 : ¬ k.val < 31)
    (acc) : inv d L X I O₀ q O k.val acc ⊢ wp frame (wpE (defs₀ (F := F)) 𝒱₀ (VT d L) none) Set.univ
      (k0_t1_body L xV (Memref.isWhole_whole _) iV (Memref.isWhole_whole _) oV (Memref.isWhole_whole _) lV (Memref.isWhole_whole _) cc0_scoped1
        tV (Memref.isWhole_whole _) cc0_scoped3 cc0_scoped4 (base L) k acc)
      fun acc' => inv d L X I O₀ q O (k.val + 1) acc' := by
  unfold inv
  have h0 : 0 < k.val := by omega
  have h32 : k.val < 32 := k_lt k
  have e1 : sI (F := F) d L I k.val = iFly d L I (Ring.sl 2 k.val) (wk L k) := by unfold sI; rw [dif_pos h32]; rfl
  have e2 : sO (F := F) d L X I k.val = oFly d L X I (Ring.sl 2 (k.val + 1)) (wk0 L k) := by unfold sO; rw [dif_pos ⟨h0, by omega⟩]; rfl
  rw [e1, e2, Ring.bigSep_rangeSet_head (lo := k.val) (hi := 32) (by omega) (by omega)]
  have hc1 := cond1_neg L k h31
  have hc2 := cond2_pos L k
  have hc5 := cond5_pos L k
  have hc7 := cond7_pos L k h0
  have hk1 := chk1_w L k
  have hk2 := chk2_w k
  have hk3 := chk3_w k
  iintro ⟨%hacc, #Hmw, Hx, Hia, Hib, Hfi, ⟨Hci, %fi, Hsi⟩, Hfo, ⟨Hco, %fo, Hso⟩, Hg, ⟨Ho1, Hoa⟩, Hob, %W', HO⟩
  subst hacc
  unfold words
  sl_unfold [k0_t1_body]
  sl_exec (disch := first | exact View.amount_pos _ _ (show 0 < S1x128.numel by decide) | exact View.amount_pos _ _ (show 0 < S128x128.numel by decide))
  iapply (gather_step d L X I hI q (Ring.sl 2 k.val) (wk L k) fo) $$ [Hx Hso Hfi_dst Hg]
  · isplitl [Hx]; · iexact Hx
    isplitl [Hso]; · iexact Hso
    isplitl [Hfi_dst]; · iexact Hfi_dst
    iexact Hg
  iintro Hfg
  sl_exec (disch := first | exact View.amount_pos _ _ (show 0 < S1x128.numel by decide) | exact View.amount_pos _ _ (show 0 < S128x128.numel by decide))
  iapply (Transfers.wp_waitLocalO countersEmb 𝒱₀ (VT d L) none (default : HIx 1) (rfl : (oslot (Ring.sl 2 k.val)).view.dmaCredit = _)) $$ [Hfg HO]
  · isplitl [Hfg]; · iexact Hfg
    isplitl [HO]; · iexact HO
    iapply (Transfers.MayWaits.elim gR) $$ Hmw
  iintro ⟨⟨Hso, Hx, Hsl⟩, Hg, HO⟩
  sl_exec (disch := first | exact View.amount_pos _ _ (show 0 < S1x128.numel by decide) | exact View.amount_pos _ _ (show 0 < S128x128.numel by decide))
  sl_step
  have f1 : sI (F := F) d L I (k.val + 1) = iFree d L (Ring.sl 2 (k.val + 1)) := by unfold sI; rw [dif_neg (by omega)]
  have f2 : sO (F := F) d L X I (k.val + 1) = oFly d L X I (Ring.sl 2 k.val) (wk L k) := by
    unfold sO; rw [dif_pos ⟨by omega, by omega⟩, Ring.sl_add 2 k.val]; rfl
  rw [f1, f2, Ring.sl_add 2 k.val]
  isplitr
  · ipureintro
    exact (show ∀ (L : grid0.Coords) (k : Fin k0_t1_loop.trips), ¬ k.val < 31 →
      (trip_last.sl.v91_r0 L k, trip_last.sl.v139_r0 L k, trip_last.sl.v121_r0 L k, trip_last.sl.v135_r0 L k, trip_last.sl.v143_r0 k)
        = (w6 (k.val + 1), w7 (k.val + 1), w7 (k.val + 1), w9 (k.val + 1), w10 (k.val + 1)) from by decide +kernel) L k h31
  isplitr; · iexact Hmw
  isplitl [Hx]; · iexact Hx
  isplitl [Hia]
  · iapply (Entails.of_eq ((Ring.bigSep_rangeSet_empty (Φ := fun n => iP d L I (wn L n)) (lo := k.val + 1) (hi := 32) (by omega)).trans
      (Ring.bigSep_rangeSet_empty (lo := k.val + 1 + 1) (hi := 32) (by omega)).symm))
    iexact Hia
  isplitl [Hib Hfi_src]
  · iapply (Entails.of_eq (Ring.bigSep_rangeSet_last (Φ := fun n => iP d L I (wn L n)) (lo := 0) (hi := k.val + 1) (by omega) (by omega)).symm)
    isplitl [Hfi_src]; · iexact Hfi_src
    iexact Hib
  isplitl [Hci Hsi]
  · isplitl [Hci]; · iexact Hci
    iexists _; iexact Hsi
  isplitl [Hfi Hsl]
  · isplitl [Hfi]; · iexact Hfi
    iexists _; iexact Hsl
  isplitl [Hco]
  · iapply (Transfers.Flight_mono countersEmb (VT d L) ?_) $$ Hco
    iintro ⟨Ha, Hb⟩
    isplitl [Ha]; · iapply (Entails.of_eq (o_landed d L X I O₀ (Ring.sl 2 k.val) (wk L k))); iexact Ha
    iexact Hb
  isplitl [Hfo Hfo_src]
  · isplitl [Hfo]; · iexact Hfo
    iexists _; iexact Hfo_src
  isplitl [Hg]; · iexact Hg
  isplitl [Hoa]; · iexact Hoa
  isplitl [Hob Hfo_dst]
  · iapply (Entails.of_eq (Ring.bigSep_rangeSet_last (Φ := fun n => oP d L (G d L X I) (wn L n)) (lo := 0) (hi := k.val + 1 - 1) (by omega) (by omega)).symm)
    isplitl [Hfo_dst]; · iexact Hfo_dst
    iexact Hob
  iexists _; iexact HO

end Run

end Cert.Proof.Gather

end
-- ==== Proof.Run.lean ====
/-
  The whole task of one vector subcore: the first fetch, the 32 trips, the wait for the last block's sending. From the
  windows and blocks dealt to it and its two-deep buffers' slots to the same with each block of the result filled.
-/
module

public import proofs.«01_k».proof.Proof.Trips

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S147456x128 EltTy.f32)
local notation "iV" => (Memref.whole Cert.KernelIdeal.main_v10_scv : Memref Cert.KernelIdeal.sig Kind.scVector Space.hbm Cert.KernelIdeal.S1x131072 EltTy.i32)
local notation "oV" => (Memref.whole Cert.KernelIdeal.main_v11_scv : Memref Cert.KernelIdeal.sig Kind.scVector Space.hbm Cert.KernelIdeal.S131072x128 EltTy.f32)
local notation "lV" => (Memref.whole Cert.KernelIdeal.cc0_scoped0 : Memref Cert.KernelIdeal.sig Kind.scVector Space.vmem Cert.KernelIdeal.S2x1x128 EltTy.i32)
local notation "tV" => (Memref.whole Cert.KernelIdeal.cc0_scoped2 : Memref Cert.KernelIdeal.sig Kind.scVector Space.vmem Cert.KernelIdeal.S2x128x128 EltTy.f32)

section Run

variable [FloatOps F] (d : Dev nD) (L : grid0.Coords)
variable (X : Buf (Elt F) ((xV).view.loc (VT d L))) (I : Buf (Elt F) ((iV).view.loc (VT d L))) (O₀ : Buf (Elt F) ((oV).view.loc (VT d L)))

theorem region (hI : ∀ j, ((show S1x131072.Idx → BitVec 32 from I) j).toNat < 147456) (q : PosShare TreeShare) (O : CellTallies nD τ sig (HIx 1)) (k : Fin k0_t1_loop.trips)
    (acc) : inv d L X I O₀ q O k.val acc ⊢ wp frame (wpE (defs₀ (F := F)) 𝒱₀ (VT d L) none) Set.univ
      (k0_t1_body L xV (Memref.isWhole_whole _) iV (Memref.isWhole_whole _) oV (Memref.isWhole_whole _) lV (Memref.isWhole_whole _) cc0_scoped1
        tV (Memref.isWhole_whole _) cc0_scoped3 cc0_scoped4 (base L) k acc)
      fun acc' => inv d L X I O₀ q O (k.val + 1) acc' := by
  rcases Nat.eq_zero_or_pos k.val with h | h
  · exact trip_first d L X I O₀ hI q O k (by omega) acc
  · rcases Nat.lt_or_ge k.val 31 with h' | h'
    · exact trip_mid d L X I O₀ hI q O k h h' acc
    · exact trip_last d L X I O₀ hI q O k (by omega) acc

/-- The task's body run: each block of the result ends at the rows its window of row numbers names. -/
theorem tile_run (hI : ∀ j, ((show S1x131072.Idx → BitVec 32 from I) j).toNat < 147456) (q : PosShare TreeShare) (O : CellTallies nD τ sig (HIx 1)) (W : Waits sig (HIx 1)) :
    (iprop(Transfers.MayWaits (VT d L) (default : HIx 1) O
        ∗ ((xV).view.loc (VT d L) ↦{q} X)
        ∗ (bigSep (Ring.rangeSet 32 0 32) fun n => iP d L I (wn L n)) ∗ (bigSep (Ring.rangeSet 32 0 32) fun n => oP d L O₀ (wn L n))
        ∗ iFree d L 0 ∗ iFree d L 1 ∗ oFree d L 0 ∗ oFree d L 1 ∗ semVal (VT d L, gR) 0 ∗ owes (VT d L) O W) : sProp 𝕄)
      ⊢ wp frame (wpE (defs₀ (F := F)) 𝒱₀ (VT d L) none) Set.univ
          (cc0_gather L xV (Memref.isWhole_whole _) iV (Memref.isWhole_whole _) oV (Memref.isWhole_whole _) lV (Memref.isWhole_whole _) cc0_scoped1
            tV (Memref.isWhole_whole _) cc0_scoped3 cc0_scoped4)
          fun _ => iprop(((xV).view.loc (VT d L) ↦{q} X)
            ∗ (bigSep (Ring.rangeSet 32 0 32) fun n => iP d L I (wn L n)) ∗ (bigSep (Ring.rangeSet 32 0 32) fun n => oP d L (G d L X I) (wn L n))
            ∗ iFree d L 0 ∗ iFree d L 1 ∗ oFree d L 0 ∗ oFree d L 1 ∗ semVal (VT d L, gR) 0 ∗ ∃ W', owes (VT d L) O W') := by
  have hk4 := chk4_w
  have hk5 := chk5_w L
  conv => lhs; rw [Ring.bigSep_rangeSet_head (Φ := fun n => iP d L I (wn L n)) (lo := 0) (hi := 32) (by omega) (by omega)]
  iintro ⟨#Hmw, Hx, ⟨Hi0, Hia⟩, Ho, ⟨Hc0, %f0, Hs0⟩, Hf1, Hg0, Hg1, Hg, HO⟩
  sl_unfold [cc0_gather]
  sl_exec (disch := first | exact View.amount_pos _ _ (show 0 < S1x128.numel by decide) | exact View.amount_pos _ _ (show 0 < S128x128.numel by decide))
  sl_for (inv d L X I O₀ q O) $$ [Hx Hia Hc0 Ho Hf1 Hg0 Hg1 Hg HO]
  case region => intro k acc; exact region d L X I O₀ hI q O k acc
  · unfold inv
    have g1 : sI (F := F) d L I 0 = iFly d L I 0 (wn L 0) := by unfold sI; rw [dif_pos (by omega)]; rfl
    have g2 : sO (F := F) d L X I 0 = oFree d L 1 := by unfold sO; rw [dif_neg (by omega)]; rfl
    rw [g1, g2, show Ring.sl 2 0 = (0 : Fin 2) from rfl, show Ring.sl 2 (0 + 1) = (1 : Fin 2) from rfl,
      Ring.bigSep_rangeSet_empty (lo := 0) (hi := 0) (by omega), Ring.bigSep_rangeSet_empty (lo := 0) (hi := 0 - 1) (by omega)]
    isplitr; · ipureintro; decide
    isplitr; · iexact Hmw
    isplitl [Hx]; · iexact Hx
    isplitl [Hia]; · iexact Hia
    isplitr; · iempintro
    isplitl [Hc0]
    · iapply (Transfers.Flight_mono countersEmb (VT d L) ?_) $$ Hc0
      iintro ⟨Ha, Hb⟩
      isplitl [Ha]; · iapply (Entails.of_eq (il_landed d L I 0 (wn L 0) f0)); iexact Ha
      iexact Hb
    isplitl [Hf1]; · iexact Hf1
    isplitl [Hg1]; · iexact Hg1
    isplitl [Hg0]; · iexact Hg0
    isplitl [Hg]; · iexact Hg
    isplitl [Ho]; · iexact Ho
    isplitr; · iempintro
    iexists _; iexact HO
  rw [show Scf.trips k0_t1_loop.lb k0_t1_loop.ub k0_t1_loop.st = 32 by decide]
  unfold inv
  have g1 : sI (F := F) d L I 32 = iFree d L 0 := by unfold sI; rw [dif_neg (by omega)]; rfl
  have g2 : sO (F := F) d L X I 32 = oFly d L X I 1 (wn L 31) := by unfold sO; rw [dif_pos (by omega)]; rfl
  rw [g1, g2, show Ring.sl 2 32 = (0 : Fin 2) from rfl, show Ring.sl 2 (32 + 1) = (1 : Fin 2) from rfl]
  iintro %acc ⟨%hacc, -, Hx, -, Hi, Hf0, Hf1, Hg1, Hg0, Hg, -, Ho, %W', HO⟩
  subst hacc
  unfold words
  sl_exec (disch := first | exact View.amount_pos _ _ (show 0 < S1x128.numel by decide) | exact View.amount_pos _ _ (show 0 < S128x128.numel by decide))
  sl_step
  isplitl [Hx]; · iexact Hx
  isplitl [Hi]; · iexact Hi
  isplitl [Ho Hg1_dst]
  · iapply (Entails.of_eq (Ring.bigSep_rangeSet_last (Φ := fun n => oP d L (G d L X I) (wn L n)) (lo := 0) (hi := 32) (by omega) (by omega)).symm)
    isplitl [Hg1_dst]; · iexact Hg1_dst
    iexact Ho
  isplitl [Hf0]; · iexact Hf0
  isplitl [Hf1]; · iexact Hf1
  isplitl [Hg0]; · iexact Hg0
  isplitl [Hg1 Hg1_src]
  · isplitl [Hg1]; · iexact Hg1
    iexists _; iexact Hg1_src
  isplitl [Hg]; · iexact Hg
  iexists _; iexact HO

end Run

end Cert.Proof.Gather

end
-- ==== Proof.Launch.lean ====
/-
  The gather's launch: what each of the 32 vector subcores is dealt (a share of `x`, its 32 windows of row numbers, its 32
  blocks of the result) and hands back, how the whole arrays split into that, and the run of the program: the
  host lines, the call, the result at the rows of `x` that the row numbers name, the arguments unchanged.
-/
module

public import proofs.«01_k».proof.Proof.Run
public import Idealize.ShloMosaic.Lib.StableHlo.RunLoop

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S147456x128 EltTy.f32)
local notation "iV" => (Memref.whole Cert.KernelIdeal.main_v10_scv : Memref Cert.KernelIdeal.sig Kind.scVector Space.hbm Cert.KernelIdeal.S1x131072 EltTy.i32)
local notation "oV" => (Memref.whole Cert.KernelIdeal.main_v11_scv : Memref Cert.KernelIdeal.sig Kind.scVector Space.hbm Cert.KernelIdeal.S131072x128 EltTy.f32)
local notation "lV" => (Memref.whole Cert.KernelIdeal.cc0_scoped0 : Memref Cert.KernelIdeal.sig Kind.scVector Space.vmem Cert.KernelIdeal.S2x1x128 EltTy.i32)
local notation "tV" => (Memref.whole Cert.KernelIdeal.cc0_scoped2 : Memref Cert.KernelIdeal.sig Kind.scVector Space.vmem Cert.KernelIdeal.S2x128x128 EltTy.f32)

variable (m : (ℓ : Loc nD τ sig) → Buf (Elt F) ℓ) (ρ : Dev nD → PrngReg)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev aLoc (d : Dev nD) : Loc nD τ sig := (SparseCore.T d).loc main_arg0
abbrev bLoc (d : Dev nD) : Loc nD τ sig := (SparseCore.T d).loc main_arg1
abbrev xLoc (d : Dev nD) : Loc nD τ sig := (SparseCore.T d).loc main_v0
abbrev iLoc (d : Dev nD) : Loc nD τ sig := (SparseCore.T d).loc main_v10
abbrev oLoc (d : Dev nD) : Loc nD τ sig := (SparseCore.T d).loc main_v11

/-! ## The arrays split among the tasks -/

/-- Window `k` of task `i` on core `c`. -/
def nn (p : Fin 2 × Fin 16 × Fin 32) : Fin 1024 := ⟨32 * (p.2.1.val + 16 * p.1.val) + p.2.2.val, by
  have := p.1.isLt; have := p.2.1.isLt; have := p.2.2.isLt; omega⟩
theorem nn_inj : Function.Injective nn := fun ⟨c, i, k⟩ ⟨c', i', k'⟩ h => by
  have e : 32 * (i.val + 16 * c.val) + k.val = 32 * (i'.val + 16 * c'.val) + k'.val := congrArg Fin.val h
  have := c.isLt; have := c'.isLt; have := i.isLt; have := i'.isLt; have := k.isLt; have := k'.isLt
  refine Prod.ext (Fin.ext ?_) (Prod.ext (Fin.ext ?_) (Fin.ext ?_)) <;> dsimp only <;> omega

abbrev iSet (n : Fin 1024) : Finset S1x131072.Idx := (iblk n).view.set
abbrev oSet (n : Fin 1024) : Finset S131072x128.Idx := (oblk n).view.set

theorem mem_iSet (n : Fin 1024) (x : S1x131072.Idx) : x ∈ iSet n ↔ 128 * n.val ≤ (x 1).val ∧ (x 1).val < 128 * n.val + 128 := by
  have e : iSet n = (Rect.unit (s := S1x131072) ![0, 128 * n.val] S1x128.size (inb_iblk n)).set := View.set_slice_whole _ _
  rw [e, Rect.mem_set_unit]
  constructor
  · intro h; exact h 1
  · intro h a; fin_cases a
    · have : (x 0).val < 1 := (x 0).isLt
      exact ⟨Nat.zero_le _, show (x 0).val < 0 + 1 by omega⟩
    · exact h
theorem mem_oSet (n : Fin 1024) (x : S131072x128.Idx) : x ∈ oSet n ↔ 128 * n.val ≤ (x 0).val ∧ (x 0).val < 128 * n.val + 128 := by
  have e : oSet n = (Rect.unit (s := S131072x128) ![128 * n.val, 0] S128x128.size (inb_oblk n)).set := View.set_slice_whole _ _
  rw [e, Rect.mem_set_unit]
  constructor
  · intro h; exact h 0
  · intro h a; fin_cases a
    · exact h
    · have : (x 1).val < 128 := (x 1).isLt
      exact ⟨Nat.zero_le _, show (x 1).val < 0 + 128 by omega⟩

/-- The window that holds position `r`. -/
def wAt (r : ℕ) (h : r < 131072) : Fin 2 × Fin 16 × Fin 32 := (⟨r / 65536, by omega⟩, ⟨r / 4096 % 16, by omega⟩, ⟨r / 128 % 32, by omega⟩)
theorem wAt_spec (r : ℕ) (h : r < 131072) : 128 * (nn (wAt r h)).val ≤ r ∧ r < 128 * (nn (wAt r h)).val + 128 := by
  show 128 * (32 * (r / 4096 % 16 + 16 * (r / 65536)) + r / 128 % 32) ≤ r ∧ r < 128 * (32 * (r / 4096 % 16 + 16 * (r / 65536)) + r / 128 % 32) + 128
  omega

theorem cover_of {α ι : Type} [Fintype α] [DecidableEq α] [Fintype ι] (S : ι → Finset α) (h : ∀ x, ∃ p, x ∈ S p) : Finset.univ.biUnion S = Finset.univ :=
  Finset.eq_univ_iff_forall.mpr fun x => by simpa using h x

theorem iSets_disjoint : ∀ p ∈ (Finset.univ : Finset (Fin 2 × Fin 16 × Fin 32)), ∀ p' ∈ (Finset.univ : Finset (Fin 2 × Fin 16 × Fin 32)), p ≠ p' → Disjoint (iSet (nn p)) (iSet (nn p')) := by
  intro p _ p' _ h
  refine Finset.disjoint_left.mpr fun x hx hx' => h (nn_inj (Fin.ext ?_))
  rw [mem_iSet] at hx hx'; omega
theorem oSets_disjoint : ∀ p ∈ (Finset.univ : Finset (Fin 2 × Fin 16 × Fin 32)), ∀ p' ∈ (Finset.univ : Finset (Fin 2 × Fin 16 × Fin 32)), p ≠ p' → Disjoint (oSet (nn p)) (oSet (nn p')) := by
  intro p _ p' _ h
  refine Finset.disjoint_left.mpr fun x hx hx' => h (nn_inj (Fin.ext ?_))
  rw [mem_oSet] at hx hx'; omega
theorem iSet_at (x : S1x131072.Idx) (h : (x 1).val < 131072) : x ∈ iSet (nn (wAt (x 1).val h)) := (mem_iSet _ _).mpr (wAt_spec _ _)
theorem iSet_all (x : S1x131072.Idx) : ∃ p, x ∈ iSet (nn p) := Exists.intro (wAt (x 1).val (x 1).isLt) (iSet_at x _)
theorem oSet_at (x : S131072x128.Idx) (h : (x 0).val < 131072) : x ∈ oSet (nn (wAt (x 0).val h)) := (mem_oSet _ _).mpr (wAt_spec _ _)
theorem oSet_all (x : S131072x128.Idx) : ∃ p, x ∈ oSet (nn p) := Exists.intro (wAt (x 0).val (x 0).isLt) (oSet_at x _)

/-- Task `(c, i)`'s share of `x`. -/
def xq (c : Fin 2) (i : Fin 16) : PosShare TreeShare := Transfers.dealOf (Transfers.dealOf fullShare Finset.univ c) Finset.univ i

theorem x_split (d : Dev nD) (f : Buf (Elt F) (xLoc d)) :
    (xLoc d ↦{fullShare} f : sProp 𝕄) = bigSep Finset.univ fun c : Fin 2 => bigSep Finset.univ fun i : Fin 16 => xLoc d ↦{xq c i} f := by
  rw [Transfers.pointsTo_deal (Finset.univ : Finset (Fin 2)) ⟨0, Finset.mem_univ _⟩ fullShare]
  exact bigSep_congr fun c _ => Transfers.pointsTo_deal (Finset.univ : Finset (Fin 16)) ⟨0, Finset.mem_univ _⟩ _
theorem i_split (d : Dev nD) (f : Buf (Elt F) (iLoc d)) :
    (iLoc d ↦{fullShare} f : sProp 𝕄) = bigSep Finset.univ fun c : Fin 2 => bigSep Finset.univ fun i : Fin 16 => bigSep Finset.univ fun k : Fin 32 => iLoc d ↦[iSet (nn (c, i, k))]{fullShare} f := by
  have h := pointsTo_biUnion (Val := Elt F) (Ix := HIx 1) (Name := ℕ) (U := UU) (Lvl := ℕ) (q := fullShare) (f := f) Finset.univ (ℓ := iLoc d) (fun p => iSet (nn p)) iSets_disjoint
  rw [cover_of _ iSet_all] at h
  rw [h, BI.bigSep_univ_prod]
  exact bigSep_congr fun c _ => BI.bigSep_univ_prod _
theorem o_split (d : Dev nD) (f : Buf (Elt F) (oLoc d)) :
    (oLoc d ↦{fullShare} f : sProp 𝕄) = bigSep Finset.univ fun c : Fin 2 => bigSep Finset.univ fun i : Fin 16 => bigSep Finset.univ fun k : Fin 32 => oLoc d ↦[oSet (nn (c, i, k))]{fullShare} f := by
  have h := pointsTo_biUnion (Val := Elt F) (Ix := HIx 1) (Name := ℕ) (U := UU) (Lvl := ℕ) (q := fullShare) (f := f) Finset.univ (ℓ := oLoc d) (fun p => oSet (nn p)) oSets_disjoint
  rw [cover_of _ oSet_all] at h
  rw [h, BI.bigSep_univ_prod]
  exact bigSep_congr fun c _ => BI.bigSep_univ_prod _

/-! ## The host lines before the call -/

variable [FloatOps F]

abbrev ops : List (HloOp τ sig (Elt F)) :=
  [ StableHlo.reshape main_arg0 main_v0 (rfl : (.f32 : EltTy) = .f32) shapeCasts_S8x18432x128_S147456x128,
    StableHlo.nullary main_v1 (iotaInDim S8 32 0),
    StableHlo.unary main_v1 main_v2 (broadcastInDim S8x1 ![0] bcast_S8_S8x1_0),
    StableHlo.nullary main_c (constantI S_ 32 18432#32),
    StableHlo.unary main_c main_v3 (broadcastInDim S8x1 ![] bcast_S_S8x1),
    StableHlo.binary main_v2 main_v3 main_v4 muli,
    StableHlo.unary main_arg1 main_v5 (broadcastInDim S1x16384 ![1] bcast_S16384_S1x16384_1),
    StableHlo.unary main_v4 main_v6 (broadcastInDim S8x16384 ![0, 1] bcast_S8x1_S8x16384_0_1),
    StableHlo.unary main_v5 main_v7 (broadcastInDim S8x16384 ![0, 1] bcast_S1x16384_S8x16384_0_1),
    StableHlo.binary main_v6 main_v7 main_v8 addi,
    StableHlo.reshape main_v8 main_v9 (rfl : (.i32 : EltTy) = .i32) shapeCasts_S8x16384_S131072,
    StableHlo.reshape main_v9 main_v10 (rfl : (.i32 : EltTy) = .i32) shapeCasts_S131072_S1x131072 ]

theorem main_eq (d : Dev nD) : main (F := F) d = StableHlo.seq ops >>= fun _ => (sc (F := F)).run d 0 >>= fun _ => pure ⟨⟩ := rfl

/-- The arrays when the call starts. -/
abbrev V1 (d : Dev nD) : Valuation τ sig (Elt F) := StableHlo.after ops (StableHlo.launchContents m d)
abbrev Xv (d : Dev nD) : Buf (Elt F) (xLoc d) := V1 m d (Proc.devRef .tc main_v0)
abbrev Iv (d : Dev nD) : Buf (Elt F) (iLoc d) := V1 m d (Proc.devRef .tc main_v10)
abbrev Ov (d : Dev nD) : Buf (Elt F) (oLoc d) := V1 m d (Proc.devRef .tc main_v11)
/-- The result. -/
abbrev Gv (d : Dev nD) : Buf (Elt F) (oLoc d) := rowsOf (F := F) (Xv m d) (Iv m d)

/-! ## What the handshakes carry -/

abbrev goP (d : Dev nD) (c : Fin 2) (i : Fin 16) : sProp 𝕄 :=
  iprop((xLoc d ↦{xq c i} Xv m d) ∗ (bigSep Finset.univ fun k : Fin 32 => iLoc d ↦[iSet (nn (c, i, k))]{fullShare} Iv m d)
    ∗ bigSep Finset.univ fun k : Fin 32 => oLoc d ↦[oSet (nn (c, i, k))]{fullShare} Ov m d)
abbrev tdP (d : Dev nD) (c : Fin 2) (i : Fin 16) : sProp 𝕄 :=
  bigSep Finset.univ fun k : Fin 32 => oLoc d ↦[oSet (nn (c, i, k))]{fullShare} Gv m d

theorem nCore_zero : (K (F := F)).nCore 0 = 2 := rfl

/-- Each core takes its tasks' pieces and hands back their blocks of the result. -/
def P : (K (F := F)).Pay (nD := nD) (Val := Elt F) (Name := ℕ) (U := UU) where
  st := fun q d c => match q with | 0 => bigSep Finset.univ fun i : Fin 16 => goP m d (Fin.cast nCore_zero c) i
  dn := fun q d c => match q with | 0 => bigSep Finset.univ fun i : Fin 16 => tdP m d (Fin.cast nCore_zero c) i
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goP m d (Fin.cast nCore_zero c) i))
  dn q d c := match q with
    | 0 => (inferInstance : BI.Storable (upEmb : UEmb _ 𝕄) (bigSep Finset.univ fun i : Fin 16 => tdP m d (Fin.cast nCore_zero c) i))
  go q d c i := match q with
    | 0 => (inferInstance : BI.Storable (upEmb : UEmb _ 𝕄) (goP m d (Fin.cast nCore_zero c) (Fin.cast nSub_zero i)))
  td q d c i := match q with
    | 0 => (inferInstance : BI.Storable (upEmb : UEmb _ 𝕄) (tdP m d (Fin.cast nCore_zero c) (Fin.cast nSub_zero i)))

/-- What the proof asks of the launch memory: every row number names a row of `x`. -/
def PreOK : Prop := ∀ (d : Dev nD) (j : S1x131072.Idx), ((show S1x131072.Idx → BitVec 32 from Iv m d) j).toNat < 147456

/-! ## The task: its buffers and cells -/

section Tile

variable (d : Dev nD) (L : grid0.Coords)

abbrev csem (k : Nat) (hk : k < 5 := by decide) : DmaSem sig := ⟨k, hk⟩
abbrev dcell (d : Dev nD) (c : Fin τ.nSC) (i : Fin τ.nSub) (k : Fin 5) : GSem nD τ sig := (V d c i, .dma (csem k.val k.isLt))
abbrev cells0 (d : Dev nD) (L : grid0.Coords) : sProp 𝕄 :=
  iprop(semVal (VT d L, inR 0) 0 ∗ semVal (VT d L, inR 1) 0 ∗ semVal (VT d L, outR 0) 0 ∗ semVal (VT d L, outR 1) 0 ∗ semVal (VT d L, gR) 0)

omit [FloatOps F] in
theorem dcell_mem (c : Fin τ.nSC) (i : Fin τ.nSub) (k : Fin 5) : dcell d c i k ∈ ownCells (V d c i) :=
  mem_ownCells.mpr ⟨rfl, (show ∀ s : DmaSem sig, (SemLoc.dma s : SemLoc sig).isScoped .scVector = true by decide) _⟩

theorem inR_0 : inR 0 = .dma (csem 0) := by decide
theorem inR_1 : inR 1 = .dma (csem 1) := by decide
theorem outR_0 : outR 0 = .dma (csem 2) := by decide
theorem outR_1 : outR 1 = .dma (csem 3) := by decide
theorem gR_eq : gR = .dma (csem 4) := by decide

omit [FloatOps F] in
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0 cells0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton, inR_0, inR_1, outR_0, outR_1, gR_eq]
  rfl

omit [FloatOps F] in
theorem ownBufs_V :
    (ownBufs (VT d L) : sProp 𝕄)
      = iprop((∃ f, (VT d L).loc cc0_scoped0 ↦{fullShare} f) ∗ (∃ f, (VT d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ### The two slots of each scratch -/

abbrev ilSet (j : Fin 2) : Finset S2x1x128.Idx := (Rect.unit (s := S2x1x128) ![j.val, 0, 0] S1x1x128.size (inb_il j)).set
abbrev olSet (j : Fin 2) : Finset S2x128x128.Idx := (Rect.unit (s := S2x128x128) ![j.val, 0, 0] S1x128x128.size (inb_ol j)).set
theorem ilSet_eq (j : Fin 2) : (islot j).view.set = ilSet j := by
  simp only [islot, Memref.view_squeeze, View.set_reshape]; exact View.set_slice_whole _ _
theorem olSet_eq (j : Fin 2) : (oslot j).view.set = olSet j := by
  simp only [oslot, Memref.view_squeeze, View.set_reshape]; exact View.set_slice_whole _ _
theorem ilSets_disjoint (j j' : Fin 2) (hj : j ≠ j') : Disjoint (ilSet j) (ilSet j') :=
  Ring.lead_disjoint (s := S2x1x128) (0 : Fin 3) 1 (fun j : Fin 2 => (![j.val, 0, 0] : Fin 3 → Nat)) S1x1x128.size inb_il (fun j => by simp) rfl j j' hj
theorem olSets_disjoint (j j' : Fin 2) (hj : j ≠ j') : Disjoint (olSet j) (olSet j') :=
  Ring.lead_disjoint (s := S2x128x128) (0 : Fin 3) 1 (fun j : Fin 2 => (![j.val, 0, 0] : Fin 3 → Nat)) S1x128x128.size inb_ol (fun j => by simp) rfl j j' hj
theorem ilSets_cover : Finset.univ.biUnion ilSet = Finset.univ :=
  Ring.lead_cover (s := S2x1x128) (0 : Fin 3) 1 (fun j : Fin 2 => (![j.val, 0, 0] : Fin 3 → Nat)) S1x1x128.size inb_il (fun j => by simp)
    (fun j a ha => by fin_cases a <;> first | exact absurd rfl ha | rfl) rfl (fun a ha => by fin_cases a <;> first | exact absurd rfl ha | rfl) rfl
theorem olSets_cover : Finset.univ.biUnion olSet = Finset.univ :=
  Ring.lead_cover (s := S2x128x128) (0 : Fin 3) 1 (fun j : Fin 2 => (![j.val, 0, 0] : Fin 3 → Nat)) S1x128x128.size inb_ol (fun j => by simp)
    (fun j a ha => by fin_cases a <;> first | exact absurd rfl ha | rfl) rfl (fun a ha => by fin_cases a <;> first | exact absurd rfl ha | rfl) rfl
omit [FloatOps F] in
theorem ilP_eq (j : Fin 2) (f) : ilP (F := F) d L j f = ((VT d L).loc cc0_scoped0 ↦[ilSet j]{fullShare} f : sProp 𝕄) := by
  unfold ilP; rw [ilSet_eq]; rfl
omit [FloatOps F] in
theorem olP_eq (j : Fin 2) (f) : olP (F := F) d L j f = ((VT d L).loc cc0_scoped2 ↦[olSet j]{fullShare} f : sProp 𝕄) := by
  unfold olP; rw [olSet_eq]; rfl
omit [FloatOps F] in
theorem il_in : iprop(∃ f, (VT d L).loc cc0_scoped0 ↦{fullShare} f) ⊢ (iprop((∃ f, ilP (F := F) d L 0 f) ∗ ∃ f, ilP (F := F) d L 1 f) : sProp 𝕄) :=
  Ring.slots2_split (U := UU) (ℓ := (VT d L).loc cc0_scoped0) (q := fullShare) ilSet ilSets_disjoint ilSets_cover
    (ilP d L 0) (ilP d L 1) (ilP_eq d L 0) (ilP_eq d L 1)
omit [FloatOps F] in
theorem il_out : (iprop((∃ f, ilP (F := F) d L 0 f) ∗ ∃ f, ilP (F := F) d L 1 f) : sProp 𝕄) ⊢ iprop(∃ f, (VT d L).loc cc0_scoped0 ↦{fullShare} f) :=
  Ring.slots2_join (U := UU) (ℓ := (VT d L).loc cc0_scoped0) (q := fullShare) ilSet ilSets_disjoint ilSets_cover
    (ilP d L 0) (ilP d L 1) (ilP_eq d L 0) (ilP_eq d L 1)
omit [FloatOps F] in
theorem ol_in : iprop(∃ f, (VT d L).loc cc0_scoped2 ↦{fullShare} f) ⊢ (iprop((∃ f, olP (F := F) d L 0 f) ∗ ∃ f, olP (F := F) d L 1 f) : sProp 𝕄) :=
  Ring.slots2_split (U := UU) (ℓ := (VT d L).loc cc0_scoped2) (q := fullShare) olSet olSets_disjoint olSets_cover
    (olP d L 0) (olP d L 1) (olP_eq d L 0) (olP_eq d L 1)
omit [FloatOps F] in
theorem ol_out : (iprop((∃ f, olP (F := F) d L 0 f) ∗ ∃ f, olP (F := F) d L 1 f) : sProp 𝕄) ⊢ iprop(∃ f, (VT d L).loc cc0_scoped2 ↦{fullShare} f) :=
  Ring.slots2_join (U := UU) (ℓ := (VT d L).loc cc0_scoped2) (q := fullShare) olSet olSets_disjoint olSets_cover
    (olP d L 0) (olP d L 1) (olP_eq d L 0) (olP_eq d L 1)

abbrev cL (L : grid0.Coords) : Fin 2 := Fin.cast (show grid0.bound 0 = 2 from rfl) (L 0)
abbrev jL (L : grid0.Coords) : Fin 16 := Fin.cast (show grid0.bound 1 = 16 from rfl) (L 1)

theorem i_wins : (bigSep Finset.univ fun k : Fin 32 => (iLoc d ↦[iSet (nn (cL L, jL L, k))]{fullShare} Iv m d : sProp 𝕄))
    = bigSep (Ring.rangeSet 32 0 32) fun n => iP d L (Iv m d) (wn L n) := by
  rw [Ring.rangeSet_univ]; rfl
theorem o_wins (f : Buf (Elt F) (oLoc d)) : (bigSep Finset.univ fun k : Fin 32 => (oLoc d ↦[oSet (nn (cL L, jL L, k))]{fullShare} f : sProp 𝕄))
    = bigSep (Ring.rangeSet 32 0 32) fun n => oP d L f (wn L n) := by
  rw [Ring.rangeSet_univ]; rfl

/-- The task on vector subcore `(L 0, L 1)` of device `d`, from what the launch deals it to its blocks of the result. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goP m d (cL L) (jL L)
        ∗ scopedBufs (VT d L) ∗ scopedSems0 (VT d L) ∗ owes (VT d L) O W)
      ⊢ wp frame (wpE (defs₀ (F := F)) 𝒱₀ (VT d L) none) Set.univ
          (cc0_gather L xV (Memref.isWhole_whole _) iV (Memref.isWhole_whole _) oV (Memref.isWhole_whole _) lV (Memref.isWhole_whole _) cc0_scoped1
            tV (Memref.isWhole_whole _) cc0_scoped3 cc0_scoped4)
          fun _ => iprop(tdP m d (cL L) (jL L)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨HG, HT, Hbufs⟩, ⟨⟨Hc0, Hc1, Hc2, Hc3, Hc4⟩, Hsems⟩, HO⟩
  ihave Hmw := (show levAts (K (F := F)).L (K (F := F)).lev ⊢ Transfers.MayWaits (VT d L) (default : HIx 1) O from
    (K (F := F)).mayWaits_none (thr := VT d L) hO) $$ Hlv
  ihave Hi' := (Entails.of_eq (i_wins m d L)) $$ Hi
  ihave Ho' := (Entails.of_eq (o_wins d L _)) $$ Ho
  ihave HG' := (il_in d L) $$ HG
  icases HG' with ⟨HG0, HG1⟩
  ihave HT' := (ol_in d L) $$ HT
  icases HT' with ⟨HT0, HT1⟩
  iapply (wp_wand_r Idealize.ShloMosaic.frame (wpE (defs₀ (F := F)) 𝒱₀ (VT d L) none) Set.univ)
  isplitl [Hx Hi' Ho' HG0 HG1 HT0 HT1 Hc0 Hc1 Hc2 Hc3 Hc4 HO]
  · iapply (tile_run d L (Xv m d) (Iv m d) (Ov m d) (hpre d) (xq (cL L) (jL L)) O W)
    isplitr; · iexact Hmw
    isplitl [Hx]; · iexact Hx
    isplitl [Hi']; · iexact Hi'
    isplitl [Ho']; · iexact Ho'
    isplitl [Hc0 HG0]
    · isplitl [Hc0]; · iexact Hc0
      iexact HG0
    isplitl [Hc1 HG1]
    · isplitl [Hc1]; · iexact Hc1
      iexact HG1
    isplitl [Hc2 HT0]
    · isplitl [Hc2]; · iexact Hc2
      iexact HT0
    isplitl [Hc3 HT1]
    · isplitl [Hc3]; · iexact Hc3
      iexact HT1
    isplitl [Hc4]; · iexact Hc4
    iexact HO
  iintro %_ ⟨-, -, Ho, ⟨Hc0, HG0⟩, ⟨Hc1, HG1⟩, ⟨Hc2, HT0⟩, ⟨Hc3, HT1⟩, Hc4, ⟨%W', HO⟩⟩
  isplitl [Ho]
  · iapply (Entails.of_eq (o_wins d L (Gv m d)).symm); iexact Ho
  isplitl [HG0 HG1 HT0 HT1 Hbufs]
  · isplitl [HG0 HG1]
    · iapply (il_out d L)
      isplitl [HG0]; · iexact HG0
      iexact HG1
    isplitl [HT0 HT1]
    · iapply (ol_out d L)
      isplitl [HT0]; · iexact HT0
      iexact HT1
    iexact Hbufs
  isplitl [Hc0 Hc1 Hc2 Hc3 Hc4 Hsems]
  · isplitr [Hsems]
    · isplitl [Hc0]; · iexact Hc0
      isplitl [Hc1]; · iexact Hc1
      isplitl [Hc2]; · iexact Hc2
      isplitl [Hc3]; · iexact Hc3
      iexact Hc4
    iexact Hsems
  iexists W'; isplitr
  · ipureintro; intro p _
    rcases p.2 with _ | q
    · exact .inr (.inl rfl)
    · exact .inr (.inr (congrArg some (Subsingleton.elim q 0)))
  · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather (coordsV c s)
          xV (Memref.isWhole_whole _) iV (Memref.isWhole_whole _) oV (Memref.isWhole_whole _) lV (Memref.isWhole_whole _) cc0_scoped1
            tV (Memref.isWhole_whole _) cc0_scoped3 cc0_scoped4) ⟨⟩ c s := rfl

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

end Tile

theorem vecSplit : (K (F := F)).VecSplit' (P m) 0 := by
  intro d c
  show (bigSep Finset.univ fun i : Fin 16 => goP m d (Fin.cast nCore_zero c) i) ⊢ |={Set.univ}=> iprop(
      (bigSep Finset.univ fun i : Fin 16 => goP m d (Fin.cast nCore_zero c) i)
      ∗ ((bigSep Finset.univ fun i : Fin 16 => tdP m d (Fin.cast nCore_zero c) i)
          -∗ (bigSep Finset.univ fun i : Fin 16 => tdP m d (Fin.cast nCore_zero c) i)))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev S5 : Finset (DevRef τ sig) := {Proc.devRef .tc main_arg0, Proc.devRef .tc main_arg1, Proc.devRef .tc main_v0, Proc.devRef .tc main_v10, Proc.devRef .tc main_v11}

theorem arrs_eq (d : Dev nD) (W : Valuation τ sig (Elt F)) :
    (StableHlo.held (T d) S5 W : sProp 𝕄)
      = iprop((aLoc d ↦{fullShare} W (Proc.devRef .tc main_arg0)) ∗ (bLoc d ↦{fullShare} W (Proc.devRef .tc main_arg1)) ∗ (xLoc d ↦{fullShare} W (Proc.devRef .tc main_v0))
          ∗ (iLoc d ↦{fullShare} W (Proc.devRef .tc main_v10)) ∗ oLoc d ↦{fullShare} W (Proc.devRef .tc main_v11)) := by
  unfold StableHlo.held S5
  rw [SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c)
    = iprop((xLoc d ↦{fullShare} Xv m d) ∗ (iLoc d ↦{fullShare} Iv m d) ∗ oLoc d ↦{fullShare} Ov m d) := by
  rw [x_split, i_split, o_split, ← bigSep_sep', ← bigSep_sep']
  refine bigSep_congr (s := (Finset.univ : Finset (Fin 2))) fun c _ => ?_
  rw [← bigSep_sep', ← bigSep_sep']
  rfl
theorem dn0_eq (d : Dev nD) : (bigSep Finset.univ fun c : Fin ((K (F := F)).nCore 0) => (P m).dn 0 d c) = (oLoc d ↦{fullShare} Gv m d) := by
  rw [o_split]; rfl

abbrev FIN (d : Dev nD) : sProp 𝕄 := iprop((aLoc d ↦{fullShare} m (aLoc d)) ∗ (bLoc d ↦{fullShare} m (bLoc d)) ∗ oLoc d ↦{fullShare} Gv m d)

theorem V1_a (d : Dev nD) : V1 m d (Proc.devRef .tc main_arg0) = m (aLoc d) := by
  unfold V1; after_results
theorem V1_b (d : Dev nD) : V1 m d (Proc.devRef .tc main_arg1) = m (bLoc d) := by
  unfold V1; after_results

theorem ops_sub : ∀ op ∈ (ops : List (HloOp τ sig (Elt F))), op.bufs ⊆ Pipeline.ucRefs τ sig := by
  intro op hop
  refine Pipeline.sub_ucRefs op ?_
  simp only [ops, List.mem_cons, List.not_mem_nil, or_false] at hop
  rcases hop with rfl | rfl | rfl | rfl | rfl | rfl | rfl | rfl | rfl | rfl | rfl | rfl <;>
    simp only [StableHlo.reshape_bufs_sub, StableHlo.nullary_bufs_sub, StableHlo.unary_bufs_sub, StableHlo.binary_bufs_sub]
theorem ops_fresh : ∀ op ∈ (ops : List (HloOp τ sig (Elt F))), op.fresh = ∅ := by
  intro op hop
  simp only [ops, List.mem_cons, List.not_mem_nil, or_false] at hop
  rcases hop with rfl | rfl | rfl | rfl | rfl | rfl | rfl | rfl | rfl | rfl | rfl | rfl <;> rfl

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (T d) (Pipeline.ucRefs τ sig) (StableHlo.launchContents m d) from
    Pipeline.unscopedBufs_held d (StableHlo.launchContents m d), main_eq]
  iintro ⟨#Hctx, Hst, ⟨Hb, Hheld, Hts, -⟩, -⟩
  iapply (StableHlo.wp_seq 𝒱 none Set.univ d (Pipeline.ucRefs τ sig) _ ops ops_sub ops_fresh (StableHlo.launchContents m d)) $$ [Hb Hheld]
  · isplitl [Hb] <;> iassumption
  iintro ⟨Hb, Hheld⟩
  ihave Hh := (Entails.of_eq (StableHlo.held_sub_split (T d) (T := S5) (show S5 ⊆ Pipeline.ucRefs τ sig by decide) (V1 m d))) $$ Hheld
  icases Hh with ⟨Hh, -⟩
  ihave Hh' := (Entails.of_eq (arrs_eq d (V1 m d))) $$ Hh
  icases Hh' with ⟨Ha, Hbb, Hx, Hi, Ho⟩
  simp only [wp_bind, wp_pure]
  iapply ((K (F := F)).wp_run (D (F := F)) 𝒱 (EH := EH) (P := P m) κ d 0) $$ [Hst Hx Hi Ho Hb Hts Ha Hbb]
  isplitr; · iexact Hctx
  isplitl [Hst]; · iexact Hst
  isplitl [Hx Hi Ho]
  · rw [st0_eq]
    isplitl [Hx]; · iexact Hx
    isplitl [Hi]; · iexact Hi
    iexact Ho
  iintro ⟨Hst, Hdn⟩
  ihave Ho := (Entails.of_eq (dn0_eq m d)) $$ Hdn
  ihave Ha := (Entails.of_eq (congrArg (fun f => (aLoc d ↦{fullShare} f : sProp 𝕄)) (V1_a m d))) $$ Ha
  ihave Hbb := (Entails.of_eq (congrArg (fun f => (bLoc d ↦{fullShare} f : sProp 𝕄)) (V1_b m d))) $$ Hbb
  imodintro
  isplitl [Hst]; · iexact Hst
  isplitr [Hb Hts]
  · isplitl [Ha]; · iexact Ha
    isplitl [Hbb]; · iexact Hbb
    iexact Ho
  isplitl [Hb] <;> iassumption

def fq (d : Dev nD) (s' : Phys nD τ sig (Elt F)) : Prop :=
  s'.mem.mem (aLoc d) = m (aLoc d) ∧ s'.mem.mem (bLoc d) = m (bLoc d) ∧ s'.mem.mem (oLoc d) = Gv m d

theorem hfin (d : Dev nD) (s' : Phys nD τ sig (Elt F)) : iprop(FIN m d ∗ SI s') ⊢ (⌜fq m d s'⌝ : sProp 𝕄) := by
  iintro ⟨⟨Ha, Hb, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oLoc d) (I := Finset.univ) (q := fullShare) (f := Gv m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (aLoc c) = m (aLoc c) ∧ r.2.mem (bLoc c) = m (bLoc c) ∧ r.2.mem (oLoc c) = Gv m c) ∧ r.2.sem = fun _ => 0

/-- Where every row number names a row, the run ends with the result at the rows named, the arguments unchanged and every
    counter back at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Value.lean ====
/-
  The gather's values: the row numbers the host lines prepare, read one by one; the reference's gather, read one
  by one; and that the result of the call is the reference's when every entry of `pos` names a row.
-/
module

public import proofs.«01_k».proof.Proof.Launch
public import proofs.«01_k».proof.Proof.Gen.ReferenceIdeal
public import proofs.«01_k».proof.Proof.Gen.Reference
public import proofs.«01_k».proof.Proof.Gen.Pre_pos_names_rows
public import proofs.«01_k».proof.Defs
public import Idealize.ShloMosaic.Lib.ReduceAll
public import Idealize.ShloMosaic.Lib.ValueIdxCore
public import Idealize.ShloMosaic.Lib.Pipeline.Value

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S147456x128 EltTy.f32)
local notation "iV" => (Memref.whole Cert.KernelIdeal.main_v10_scv : Memref Cert.KernelIdeal.sig Kind.scVector Space.hbm Cert.KernelIdeal.S1x131072 EltTy.i32)
local notation "oV" => (Memref.whole Cert.KernelIdeal.main_v11_scv : Memref Cert.KernelIdeal.sig Kind.scVector Space.hbm Cert.KernelIdeal.S131072x128 EltTy.f32)
local notation "lV" => (Memref.whole Cert.KernelIdeal.cc0_scoped0 : Memref Cert.KernelIdeal.sig Kind.scVector Space.vmem Cert.KernelIdeal.S2x1x128 EltTy.i32)
local notation "tV" => (Memref.whole Cert.KernelIdeal.cc0_scoped2 : Memref Cert.KernelIdeal.sig Kind.scVector Space.vmem Cert.KernelIdeal.S2x128x128 EltTy.f32)

open Idealize.ShloMosaic.ValueIdx

/-- Every entry of `pos` names a row. -/
def RowsOK (B : S16384.Idx → BitVec 32) : Prop := ∀ k, (B k).toNat < 18432

/-- The row numbers as the host lines compute them. -/
def wordsOf (B : S16384.Idx → BitVec 32) : S1x131072.Idx → BitVec 32 :=
  shapeCast S1x131072 (shapeCast S131072 (addi
    (broadcastInDim S8x16384 ![0, 1] bcast_S8x1_S8x16384_0_1 (muli (broadcastInDim S8x1 ![0] bcast_S8_S8x1_0 (iotaInDim S8 32 0)) (broadcastInDim S8x1 ![] bcast_S_S8x1 (constantI S_ 32 18432#32))))
    (broadcastInDim S8x16384 ![0, 1] bcast_S1x16384_S8x16384_0_1 (broadcastInDim S1x16384 ![1] bcast_S16384_S1x16384_1 B)) : S8x16384.Idx → BitVec 32)
    shapeCasts_S8x16384_S131072) shapeCasts_S131072_S1x131072

/-- Entry `j` of the row numbers: the batch's first row plus the entry of `pos`. -/
theorem wordsOf_apply (B : S16384.Idx → BitVec 32) (b : Fin 8) (k : Fin 16384) (j : S1x131072.Idx) (hj : (j 1).val = b.val * 16384 + k.val) :
    wordsOf B j = BitVec.ofNat 32 b.val * 18432#32 + B (ix1 k) := by
  have h0 : (j 0).val = 0 := by have : (j 0).val < 1 := (j 0).isLt; omega
  unfold wordsOf
  have hb := b.isLt
  have hk := k.isLt
  refine (shapeCast_apply _ _ j (ix1 (⟨b.val * 16384 + k.val, by omega⟩ : Fin 131072)) ?_).trans ((shapeCast_apply _ _ _ (ix2 b k) ?_).trans ?_)
  · rw [Shape.rowMajor_val_one, Shape.rowMajor_val_two]
    show b.val * 16384 + k.val = (j 0).val * 131072 + (j 1).val
    omega
  · rw [Shape.rowMajor_val_one, Shape.rowMajor_val_two]
    rfl
  · refine congrArg₂ (· + ·) ((broadcastInDim_apply _ _ _ _ (ix2 b (0 : Fin 1)) ?_).trans (congrArg₂ (· * ·)
      ((broadcastInDim_apply _ _ _ _ (ix1 b) ?_).trans rfl) ((broadcastInDim_apply _ _ _ _ ix0 ?_).trans rfl)))
      ((broadcastInDim_apply _ _ _ _ (ix2 (0 : Fin 1) k) ?_).trans (broadcastInDim_apply _ _ _ _ (ix1 k) ?_))
    · intro a; fin_cases a <;> rfl
    · intro a; fin_cases a; rfl
    · intro a; exact a.elim0
    · intro a; fin_cases a <;> rfl
    · intro a; fin_cases a; rfl

theorem Xv_eq [FloatOps F] (m : (ℓ : Loc nD τ sig) → Buf (Elt F) ℓ) (d : Dev nD) :
    Xv m d = shapeCast S147456x128 (show S8x18432x128.Idx → Elt F .f32 from m (aLoc d)) shapeCasts_S8x18432x128_S147456x128 := by
  unfold Xv V1; after_results; rfl
theorem Iv_eq [FloatOps F] (m : (ℓ : Loc nD τ sig) → Buf (Elt F) ℓ) (d : Dev nD) : Iv m d = wordsOf (show S16384.Idx → BitVec 32 from m (bLoc d)) := by
  unfold Iv V1 wordsOf; after_results; rfl

/-- The precondition, as jax computes it, makes every entry of `pos` name a row. -/
theorem rows_of_pre [FloatOps F] (A : S8x18432x128.Idx → Elt F .f32) (B : S16384.Idx → BitVec 32)
    (h : Cert.Pre_pos_names_rows.fn (F := F) A B = fun _ => 1#1) : RowsOK B := by
  have andi_bool (p q : Bool) : IntOp.andi (BitVec.ofBool p) (BitVec.ofBool q) = BitVec.ofBool (p && q) := by
    cases p <;> cases q <;> decide
  have bool_one (p : Bool) : (BitVec.ofBool p = 1#1) ↔ p = true := by cases p <;> decide
  intro k
  haveI : Subsingleton Cert.Pre_pos_names_rows.S_.Idx := ⟨fun a b => funext fun i => i.elim0⟩
  have e := Host.reduce_andi_all _ _ _ _ ix0 (congrFun h ix0) k
  simp only [andi, cmpi, broadcastInDim, constantI] at e
  simp only [IntOp.cmpi, andi_bool, bool_one, Bool.and_eq_true, BitVec.sle_eq_decide, BitVec.slt_eq_decide,
    decide_eq_true_eq, BitVec.toInt_eq_toNat_cond, BitVec.toNat_ofNat, Nat.reducePow, Nat.reduceMod] at e
  omega

theorem words_toNat (B : S16384.Idx → BitVec 32) (hB : RowsOK B) (b : Fin 8) (k : Fin 16384) (j : S1x131072.Idx) (hj : (j 1).val = b.val * 16384 + k.val) :
    (wordsOf B j).toNat = b.val * 18432 + (B (ix1 k)).toNat := by
  have h1 := hB (ix1 k)
  have h2 := b.isLt
  rw [wordsOf_apply B b k j hj, BitVec.toNat_add, BitVec.toNat_mul, BitVec.toNat_ofNat]
  simp only [BitVec.toNat_ofNat, Nat.reducePow, Nat.reduceMod]
  omega

theorem ok_of_rows [FloatOps F] (m : (ℓ : Loc nD τ sig) → Buf (Elt F) ℓ) (h : ∀ d : Dev nD, RowsOK (show S16384.Idx → BitVec 32 from m (bLoc d))) : PreOK m := by
  intro d j
  have hj : (j 1).val < 131072 := (j 1).isLt
  rw [Iv_eq]
  show (wordsOf _ j).toNat < _
  rw [words_toNat _ (h d) ⟨(j 1).val / 16384, by omega⟩ ⟨(j 1).val % 16384, by omega⟩ j (by simp only []; omega)]
  have h1 : ((show S16384.Idx → BitVec 32 from m (bLoc d)) (ix1 ⟨(j 1).val % 16384, by omega⟩)).toNat < 18432 := h d _
  have h2 : (j 1).val / 16384 < 8 := by omega
  generalize ((show S16384.Idx → BitVec 32 from m (bLoc d)) (ix1 ⟨(j 1).val % 16384, by omega⟩)).toNat = w at h1 ⊢
  show (j 1).val / 16384 * 18432 + w < 147456
  omega

/-! ## The reference -/

/-- The dimension numbers of the reference's gather: whole lane rows of all eight batches at the row numbers. -/
abbrev gd (wf : GatherDims.WF S8x18432x128 ⟨2, ![16384, 1]⟩ ⟨3, ![8, 16384, 128]⟩ [0, 2] [1] [] [1] [] 1 ![8, 1, 128]) : GatherDims S8x18432x128 ⟨2, ![16384, 1]⟩ ⟨3, ![8, 16384, 128]⟩ where
  offsetDims := [0, 2]
  collapsedSliceDims := [1]
  operandBatchingDims := []
  startIndicesBatchingDims := []
  startIndexMap := [1]
  indexVectorDim := 1
  sliceSizes := ![8, 1, 128]
  wf := wf

/-- That gather, read at an index: batch `b`'s row `r` where the row number is `r`. -/
theorem gather_at (wf : GatherDims.WF S8x18432x128 ⟨2, ![16384, 1]⟩ ⟨3, ![8, 16384, 128]⟩ [0, 2] [1] [] [1] [] 1 ![8, 1, 128]) (A : S8x18432x128.Idx → Elt F .f32) (idx : IVec ⟨2, ![16384, 1]⟩ 32) (b : Fin 8) (k : Fin 16384) (l : Fin 128) (r : Fin 18432)
    (hr : (idx (ix2 k (0 : Fin 1))).toNat = r.val) : Host.gather (gd wf) A idx (ix3 b k l) = A (ix3 b r l) := by
  have k0 : (0 : Fin 3) ∈ (gd wf).sKept := ((gd wf).mem_sKept 0).2 ⟨by show _ ∉ [(1 : Fin 3)]; decide, List.not_mem_nil⟩
  have k2 : (2 : Fin 3) ∈ (gd wf).sKept := ((gd wf).mem_sKept 2).2 ⟨by show _ ∉ [(1 : Fin 3)]; decide, List.not_mem_nil⟩
  have k1 : (1 : Fin 3) ∉ (gd wf).sKept := fun h => ((gd wf).mem_sKept 1 |>.1 h).1 (List.mem_singleton.2 rfl)
  have s0 : (gd wf).start (ix3 b k l) idx 0 = 0 := dif_neg (show ¬ (0 : Fin 3) ∈ [(1 : Fin 3)] by decide)
  have s2 : (gd wf).start (ix3 b k l) idx 2 = 0 := dif_neg (show ¬ (2 : Fin 3) ∈ [(1 : Fin 3)] by decide)
  have o0 : (gd wf).offCoord (ix3 b k l) 0 = b.val := (dif_pos k0).trans rfl
  have o2 : (gd wf).offCoord (ix3 b k l) 2 = l.val := (dif_pos k2).trans rfl
  have o1 : (gd wf).offCoord (ix3 b k l) 1 = 0 := (gd wf).offCoord_eq_zero _ _ k1
  have bc : ∀ a, (gd wf).batchCoord (ix3 b k l) a = 0 := fun a => (gd wf).batchCoord_eq_zero _ _ List.not_mem_nil
  have hm : (1 : Fin 3) ∈ (gd wf).startIndexMap := List.mem_singleton.2 rfl
  have hsi : (gd wf).siIdx (ix3 b k l) ⟨(gd wf).startIndexMap.idxOf 1, List.idxOf_lt_length_iff.2 hm⟩ = ix2 k (0 : Fin 1) := by
    funext a; refine Fin.ext ?_
    match a with
    | ⟨0, _⟩ => rfl
    | ⟨1, _⟩ => rfl
  have s1 : (gd wf).start (ix3 b k l) idx 1 = r.val := by
    refine (dif_pos hm).trans ?_
    rw [hsi]
    have := r.isLt
    rw [BitVec.toInt_eq_toNat_cond, hr]
    show min (Int.toNat (if 2 * r.val < 2 ^ 32 then (r.val : Int) else (r.val : Int) - (2 ^ 32 : Nat))) (18432 - 1) = r.val
    rw [if_pos (by omega), Int.toNat_natCast]
    omega
  unfold Host.gather
  refine congrArg A (funext fun a => Fin.ext ?_)
  match a with
  | ⟨0, _⟩ =>
    show (gd wf).start (ix3 b k l) idx 0 + (gd wf).batchCoord (ix3 b k l) 0 + (gd wf).offCoord (ix3 b k l) 0 = b.val
    rw [s0, bc, o0]; omega
  | ⟨1, _⟩ =>
    show (gd wf).start (ix3 b k l) idx 1 + (gd wf).batchCoord (ix3 b k l) 1 + (gd wf).offCoord (ix3 b k l) 1 = r.val
    rw [s1, bc, o1]; rfl
  | ⟨2, _⟩ =>
    show (gd wf).start (ix3 b k l) idx 2 + (gd wf).batchCoord (ix3 b k l) 2 + (gd wf).offCoord (ix3 b k l) 2 = l.val
    rw [s2, bc, o2]; omega

/-- The result of the call, entry by entry: batch `b`'s row `pos k` of the table. -/
theorem rows_apply (A : S8x18432x128.Idx → Elt F .f32) (B : S16384.Idx → BitVec 32) (hB : RowsOK B) (b : Fin 8) (k : Fin 16384) (l : Fin 128) (j : S131072x128.Idx)
    (hj : (j 0).val = b.val * 16384 + k.val) (hl : (j 1).val = l.val) :
    rowsOf (F := F) (shapeCast S147456x128 A shapeCasts_S8x18432x128_S147456x128) (wordsOf B) j = A (ix3 b ⟨(B (ix1 k)).toNat, hB _⟩ l) := by
  unfold rowsOf
  refine shapeCast_apply _ _ _ _ ?_
  rw [Shape.rowMajor_val_three, Shape.rowMajor_val_two]
  show (b.val * 18432 + (B (ix1 k)).toNat) * 128 + l.val = ((wordsOf B _).toNat % 147456) * 128 + (j 1).val
  rw [words_toNat B hB b k _ hj]
  have := hB (ix1 k)
  have := b.isLt
  omega

/-- `pos` wrapped for negative entries, as jax's indexing does it: `pos` itself when every entry names a row. -/
theorem wrap_eq (B : S16384.Idx → BitVec 32) (hB : RowsOK B) (C D : S16384.Idx → BitVec 32) (hC : ∀ k, C k = 0#32) : select (cmpi .slt B C) D B = B := by
  funext k
  have h := hB k
  have e : IntOp.cmpi .slt (B k) (C k) = 0#1 := by
    rw [hC]
    simp only [IntOp.cmpi, BitVec.slt_eq_decide, BitVec.toInt_eq_toNat_cond, BitVec.toNat_ofNat, Nat.reducePow, Nat.reduceMod]
    rw [decide_eq_false (by split <;> omega)]; rfl
  show Scalar.select (IntOp.cmpi .slt (B k) (C k)) (D k) (B k) = B k
  rw [e]; rfl

/-- The reference's term is the result of the call when every entry of `pos` names a row. -/
theorem ref_eq (wf : GatherDims.WF S8x18432x128 ⟨2, ![16384, 1]⟩ ⟨3, ![8, 16384, 128]⟩ [0, 2] [1] [] [1] [] 1 ![8, 1, 128])
    (hs : (⟨3, ![8, 16384, 128]⟩ : Shape).ShapeCasts S131072x128) (hb : S16384.BroadcastsInDim ⟨2, ![16384, 1]⟩ ![0])
    (A : S8x18432x128.Idx → Elt F .f32) (B : S16384.Idx → BitVec 32) (hB : RowsOK B) (C D : S16384.Idx → BitVec 32) (hC : ∀ k, C k = 0#32) :
    shapeCast S131072x128 (Host.gather (gd wf) A (broadcastInDim ⟨2, ![16384, 1]⟩ ![0] hb (select (cmpi .slt B C) D B))) hs
      = rowsOf (F := F) (shapeCast S147456x128 A shapeCasts_S8x18432x128_S147456x128) (wordsOf B) := by
  rw [wrap_eq B hB C D hC]
  funext j
  have hj : (j 0).val < 131072 := (j 0).isLt
  have hl : (j 1).val < 128 := (j 1).isLt
  refine (shapeCast_apply _ _ j (ix3 ⟨(j 0).val / 16384, by omega⟩ ⟨(j 0).val % 16384, by omega⟩ ⟨(j 1).val, hl⟩) ?_).trans ?_
  · rw [Shape.rowMajor_val_three, Shape.rowMajor_val_two]
    show ((j 0).val / 16384 * 16384 + (j 0).val % 16384) * 128 + (j 1).val = (j 0).val * 128 + (j 1).val
    omega
  · rw [gather_at wf A _ _ _ _ ⟨(B (ix1 ⟨(j 0).val % 16384, by omega⟩)).toNat, hB _⟩ (congrArg BitVec.toNat (broadcastInDim_apply _ hb B (ix2 _ _) (ix1 _) (fun a => by fin_cases a; rfl)))]
    refine (rows_apply A B hB _ _ _ j ?_ rfl).symm
    show (j 0).val = (j 0).val / 16384 * 16384 + (j 0).val % 16384
    omega

end Cert.Proof.Gather

end
-- ==== Proof.Ref.lean ====
/-
  The reference's run: lines of host operations on the TensorCore, its result and its arguments after them.
-/
module

public import proofs.«01_k».proof.Defs
public import Idealize.ShloMosaic.Lib.StableHlo.Run
public import Idealize.ShloMosaic.Lib.Quiescent
public import proofs.«01_k».proof.Proof.Gen.ReferenceIdeal
public import proofs.«01_k».proof.Proof.Gen.Reference

@[expose] public section

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

abbrev ops : List (HloOp τ sig (Elt F)) :=
  [ nullary main_c (constantI S_ 32 0#32),
    unary main_c main_v0 (broadcastInDim S16384 ![] bcast_S_S16384),
    binary main_arg1 main_v0 main_v1 (cmpi .slt),
    nullary main_c_0 (constantI S_ 32 18432#32),
    unary main_c_0 main_v2 (broadcastInDim S16384 ![] bcast_S_S16384),
    binary main_arg1 main_v2 main_v3 addi,
    ternary main_v1 main_v3 main_arg1 main_v4 select,
    unary main_v4 main_v5 (broadcastInDim S16384x1 ![0] bcast_S16384_S16384x1_0),
    binary main_arg0 main_v5 main_v6 (fun x i => Host.gather gather_S8x18432x128_S16384x1_S8x16384x128_02_1_n_n_1_1_81128 x i),
    StableHlo.reshape main_v6 main_v7 (rfl : (.f32 : EltTy) = .f32) shapeCasts_S8x16384x128_S131072x128 ]

theorem main_eq (c : Dev nD) : main (F := F) c = seq ops := by
  simp only [main, seq]; rfl

/-- The result: the lane rows of every batch at the wrapped row numbers, laid end to end. -/
theorem out_eq (V : Valuation τ sig (Elt F)) : after ops V (main_v7 : DevRef τ sig)
    = shapeCast S131072x128 (Host.gather gather_S8x18432x128_S16384x1_S8x16384x128_02_1_n_n_1_1_81128 (show S8x18432x128.Idx → Elt F .f32 from V (main_arg0 : DevRef τ sig))
        (broadcastInDim S16384x1 ![0] bcast_S16384_S16384x1_0
          (select (cmpi .slt (show S16384.Idx → BitVec 32 from V (main_arg1 : DevRef τ sig)) (broadcastInDim S16384 ![] bcast_S_S16384 (constantI S_ 32 0#32)))
            (addi (show S16384.Idx → BitVec 32 from V (main_arg1 : DevRef τ sig)) (broadcastInDim S16384 ![] bcast_S_S16384 (constantI S_ 32 18432#32)))
            (show S16384.Idx → BitVec 32 from V (main_arg1 : DevRef τ sig))))) shapeCasts_S8x16384x128_S131072x128 := by
  after_results; rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..,
    binary_bufs_sub .., reshape_bufs_sub ..⟩

/-- The reference's result of its two arguments. -/
def outT (A : S8x18432x128.Idx → Elt F .f32) (B : S16384.Idx → BitVec 32) : S131072x128.Idx → Elt F .f32 :=
  shapeCast S131072x128 (Host.gather gather_S8x18432x128_S16384x1_S8x16384x128_02_1_n_n_1_1_81128 A
    (broadcastInDim S16384x1 ![0] bcast_S16384_S16384x1_0
      (select (cmpi .slt B (broadcastInDim S16384 ![] bcast_S_S16384 (constantI S_ 32 0#32)))
        (addi B (broadcastInDim S16384 ![] bcast_S_S16384 (constantI S_ 32 18432#32))) B))) shapeCasts_S8x16384x128_S131072x128

variable (m : (ℓ : Loc nD τ sig) → Buf (Elt F) ℓ) (ρ : Dev nD → PrngReg)

/-- The reference runs to its result, its arguments unchanged and every counter at zero. -/
theorem run_main : θ_run (defs (F := F)) (onTc (τ := τ) (main (F := F))) ⟨m, fun _ => 0, ρ⟩ fun r =>
    (∀ c : Dev nD, r.2.mem ((c.tc : Thread nD τ).loc main_v7) = outT (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run (defs (F := F)) _ _).mono (fun r h => ⟨fun c => ⟨(h c main_v7).trans (out_eq _), (h c main_arg0).trans (arg0_eq _), (h c main_arg1).trans (arg1_eq _)⟩,
      sem_eq_zero_of_no_sems (by decide) r.2⟩)
    (run_seq scopedRefs_eq scopedSems_eq defs main (fun _ => ops) main_eq (fun _ => ops_sub) m ρ)

end Cert.Proof.Ref

end
-- ==== Proof.MoeRun.lean ====
module

public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.Frame
public import Idealize.ShloMosaic.Lib.Pipeline.Value
public import Idealize.ShloMosaic.Lib.Exec
public import Idealize.ShloMosaic.Lib.Claim

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables: the group of each tile, and the number of tiles in use. -/
abbrev gM : Memref sig .tc .smem S36 .i32 := Memref.whole main_arg1
abbrev nM : Memref sig .tc .smem S1 .i32 := Memref.whole main_arg2

/-- A table's contents on core `c`, and the half of it that the body is handed. -/
abbrev Tab (F : FTy → Type) [FloatOps F] (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : Tab F c M) : sProp 𝕄 :=
  M.view.loc (c : Thread nD τ) ↦{fullShare.right} f

/-- The word that counts the tiles in use, and the word that names tile `i`'s group. -/
def nWord (c : Dev nD) (n : Tab F c nM) : BitVec 32 := (show S1.Idx → BitVec 32 from n) fun a => ⟨0, by fin_cases a; decide⟩
def gWord (c : Dev nD) (i : grid0.Coords) (g : Tab F c gM) : BitVec 32 :=
  (show S36.Idx → BitVec 32 from g) fun a => ⟨(i 0).val, by fin_cases a; exact (i 0).isLt⟩

/-! The rectangles of the body's accesses: the segments of the words, the experts of the weights, the segments of the result. -/

abbrev rW0 : Rect S5x512x128 := Rect.unit (s := S5x512x128) ![0, 0, 0] S1x512x128.size inb_S5x512x128_S1x512x128_0_0_0
abbrev rW1 : Rect S5x512x128 := Rect.unit (s := S5x512x128) ![1, 0, 0] S1x512x128.size inb_S5x512x128_S1x512x128_1_0_0
abbrev rW2 : Rect S5x512x128 := Rect.unit (s := S5x512x128) ![2, 0, 0] S1x512x128.size inb_S5x512x128_S1x512x128_2_0_0
abbrev rW3 : Rect S5x512x128 := Rect.unit (s := S5x512x128) ![3, 0, 0] S1x512x128.size inb_S5x512x128_S1x512x128_3_0_0
abbrev rW4 : Rect S5x512x128 := Rect.unit (s := S5x512x128) ![4, 0, 0] S1x512x128.size inb_S5x512x128_S1x512x128_4_0_0
abbrev rU0 : Rect S4x1024x512 := Rect.unit (s := S4x1024x512) ![0, 0, 0] S1x1024x512.size inb_S4x1024x512_S1x1024x512_0_0_0
abbrev rU1 : Rect S4x1024x512 := Rect.unit (s := S4x1024x512) ![1, 0, 0] S1x1024x512.size inb_S4x1024x512_S1x1024x512_1_0_0
abbrev rU2 : Rect S4x1024x512 := Rect.unit (s := S4x1024x512) ![2, 0, 0] S1x1024x512.size inb_S4x1024x512_S1x1024x512_2_0_0
abbrev rU3 : Rect S4x1024x512 := Rect.unit (s := S4x1024x512) ![3, 0, 0] S1x1024x512.size inb_S4x1024x512_S1x1024x512_3_0_0
abbrev rD0 : Rect S4x512x1024 := Rect.unit (s := S4x512x1024) ![0, 0, 0] S1x512x1024.size inb_S4x512x1024_S1x512x1024_0_0_0
abbrev rD1 : Rect S4x512x1024 := Rect.unit (s := S4x512x1024) ![1, 0, 0] S1x512x1024.size inb_S4x512x1024_S1x512x1024_1_0_0
abbrev rD2 : Rect S4x512x1024 := Rect.unit (s := S4x512x1024) ![2, 0, 0] S1x512x1024.size inb_S4x512x1024_S1x512x1024_2_0_0
abbrev rD3 : Rect S4x512x1024 := Rect.unit (s := S4x512x1024) ![3, 0, 0] S1x512x1024.size inb_S4x512x1024_S1x512x1024_3_0_0
abbrev rG : Rect S1x1024 := Rect.unit (s := S1x1024) ![0, 0] S1x1024.size inb_S1x1024_S1x1024_0_0
abbrev rO : Rect S8x512x128 := Rect.unit (s := S8x512x128) ![0, 0, 0] S8x512x128.size inb_S8x512x128_S8x512x128_0_0_0
abbrev rO0 : Rect S8x512x128 := Rect.unit (s := S8x512x128) ![0, 0, 0] S1x512x128.size inb_S8x512x128_S1x512x128_0_0_0
abbrev rO1 : Rect S8x512x128 := Rect.unit (s := S8x512x128) ![1, 0, 0] S1x512x128.size inb_S8x512x128_S1x512x128_1_0_0
abbrev rO2 : Rect S8x512x128 := Rect.unit (s := S8x512x128) ![2, 0, 0] S1x512x128.size inb_S8x512x128_S1x512x128_2_0_0
abbrev rO3 : Rect S8x512x128 := Rect.unit (s := S8x512x128) ![3, 0, 0] S1x512x128.size inb_S8x512x128_S1x512x128_3_0_0
abbrev rO4 : Rect S8x512x128 := Rect.unit (s := S8x512x128) ![4, 0, 0] S1x512x128.size inb_S8x512x128_S1x512x128_4_0_0
abbrev rO5 : Rect S8x512x128 := Rect.unit (s := S8x512x128) ![5, 0, 0] S1x512x128.size inb_S8x512x128_S1x512x128_5_0_0
abbrev rO6 : Rect S8x512x128 := Rect.unit (s := S8x512x128) ![6, 0, 0] S1x512x128.size inb_S8x512x128_S1x512x128_6_0_0
abbrev rO7 : Rect S8x512x128 := Rect.unit (s := S8x512x128) ![7, 0, 0] S1x512x128.size inb_S8x512x128_S1x512x128_7_0_0

/-- The tile's rows, unpacked, and its gates. -/
def rowsOf (x0 : Vec F S5x512x128 .i32) : FVec F S512x1024 .bf16 :=
  k0_pay3 (View.ld x0 rW0) (View.ld x0 rW1) (View.ld x0 rW2) (View.ld x0 rW3)
def gatesOf (x0 : Vec F S5x512x128 .i32) : FVec F S512x128 .f32 := k0_pay4 (View.ld x0 rW4)

/-- The weighted sum of the first two experts of group `g`, and the third expert's weighted part. -/
def twoOf (g : BitVec 32) (x0 : Vec F S5x512x128 .i32) (x2 x3 : Vec F S4x1024x512 .bf16) (x4 : Vec F S4x512x1024 .bf16) : FVec F S512x1024 .f32 :=
  k0_pay8 (rowsOf x0) (k0_pay5 (rowsOf x0) (gatesOf x0) g (View.ld x2 rU0) (View.ld x3 rU0) (View.ld x4 rD0)) (k0_pay6 (gatesOf x0) g)
    (k0_pay7 (View.ld x2 rU1)) (View.ld x3 rU1) (View.ld x4 rD1)
def thirdOf (g : BitVec 32) (x0 : Vec F S5x512x128 .i32) (x2 x3 : Vec F S4x1024x512 .bf16) (x4 : Vec F S4x512x1024 .bf16) : FVec F S512x1024 .f32 :=
  k0_pay9 (rowsOf x0) (gatesOf x0) (iota .tc S512x128 32 [1] iota_S512x128_d1_w32) (Scalar.muli g 4#32) (View.ld x2 rU2) (View.ld x3 rU2) (View.ld x4 rD2)

/-- The tile's result as a matrix: the sum of the group's four experts, normalised and scaled. -/
def matOf (g : BitVec 32) (x0 : Vec F S5x512x128 .i32) (x1 : Vec F S1x1024 .f32) (x2 x3 : Vec F S4x1024x512 .bf16) (x4 : Vec F S4x512x1024 .bf16) : FVec F S512x1024 .f32 :=
  k0_pay10 (rowsOf x0) (gatesOf x0) (iota .tc S512x128 32 [1] iota_S512x128_d1_w32) (Scalar.muli g 4#32) (twoOf g x0 x2 x3 x4) (thirdOf g x0 x2 x3 x4)
    (View.ld x2 rU3) (View.ld x3 rU3) (View.ld x4 rD3) (View.ld x1 rG)

/-- A matrix laid out as the eight segments of the result, one store each, the last first. -/
def segsOf (y : FVec F S512x1024 .f32) : Vec F S8x512x128 .f32 :=
  View.canon [⟨rO7, k0_pay2 (k0_pay19 y)⟩, ⟨rO6, k0_pay18 y⟩, ⟨rO5, k0_pay17 y⟩, ⟨rO4, k0_pay16 y⟩, ⟨rO3, k0_pay15 y⟩, ⟨rO2, k0_pay14 y⟩, ⟨rO1, k0_pay13 y⟩,
    ⟨rO0, k0_pay12 (extractStridedSlice S512x128 ![0, 0] y slices_S512x1024_o0_0_S512x128)⟩]

/-- The eight stores cover the buffer. -/
theorem segs_cover (p0 p1 p2 p3 p4 p5 p6 p7 : Vec F S1x512x128 .f32) (y : S8x512x128.Idx) :
    ∃ pc ∈ ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S8x512x128 .f32)), y ∈ pc.1.set :=
  View.cover_of_tiled [⟨rO7, p7⟩, ⟨rO6, p6⟩, ⟨rO5, p5⟩, ⟨rO4, p4⟩, ⟨rO3, p3⟩, ⟨rO2, p2⟩, ⟨rO1, p1⟩, ⟨rO0, p0⟩] S1x512x128.size (by rfl) y
/-- The store of the zeros covers it. -/
theorem zero_cover (p : Vec F S8x512x128 .f32) (y : S8x512x128.Idx) :
    ∃ pc ∈ ([⟨rO, p⟩] : List (View.Piece (Elt F) S8x512x128 .f32)), y ∈ pc.1.set :=
  View.cover_of_tiled [⟨rO, p⟩] S8x512x128.size (by rfl) y

/-- What the body leaves in the result's buffer at tile `i`: the experts' rows in a tile in use, zeros in another. -/
def tileOut (i : grid0.Coords) (n g : BitVec 32) (x0 : Vec F S5x512x128 .i32) (x1 : Vec F S1x1024 .f32) (x2 x3 : Vec F S4x1024x512 .bf16) (x4 : Vec F S4x512x1024 .bf16) : Vec F S8x512x128 .f32 :=
  if k0_cond2 i n = 1#1 then segsOf (matOf g x0 x1 x2 x3 x4) else View.canon [⟨rO, k0_pay1⟩]

/-- The word read at tile `i` of the groups' table. -/
theorem gWord_read (c : Dev nD) (i : grid0.Coords) (g : Tab F c gM) :
    View.readAt (Elt F) gM.view (Rect.unit (s := S36) (k0_off2 i) S1.size (k0_off2_inb i)).toLoadRect g (Shape.Idx.first (numel1_S1.symm ▸ Nat.one_pos)) = gWord c i g := by
  unfold gWord
  refine congrArg (show S36.Idx → BitVec 32 from g) (funext fun a => Fin.ext ?_)
  fin_cases a
  have h36 : (i 0).val < 36 := (i 0).isLt
  have h1 : ((Shape.Idx.first (s := S1) (numel1_S1.symm ▸ Nat.one_pos)) 0).val < 1 := Fin.isLt _
  show k0_off2 i 0 + 1 * ((Shape.Idx.first (s := S1) (numel1_S1.symm ▸ Nat.one_pos)) 0).val = (i 0).val
  have : k0_off2 i 0 = (i 0).val := by
    show (BitVec.ofNat 32 (i 0).val).toNat = _
    rw [BitVec.toNat_ofNat]; omega
  omega

/-- A tile is in use or it is not. -/
theorem cond_or (i : grid0.Coords) (n : BitVec 32) (h : ¬ k0_cond2 i n = 1#1) : k0_cond1 i n = 1#1 := by
  simp only [k0_cond1, k0_cond2, Scalar.cmpi, Scalar.extui, IntOp.cmpi, BitVec.sle_eq_not_slt] at h ⊢
  cases hb : (BitVec.ofNat 32 (i 0).val).slt n <;> rw [hb] at h <;> first | rfl | exact absurd rfl h

set_option maxHeartbeats 2000000 in
/-- The body's run on whole buffers: the inputs are kept, the result's buffer ends at `tileOut`. -/
theorem body_run (c : Dev nD) (i : grid0.Coords)
    (arg3 : Memref sig .tc .vmem S5x512x128 .i32) (harg3 : arg3.IsWhole) (arg4 : Memref sig .tc .vmem S1x1024 .f32) (harg4 : arg4.IsWhole)
    (arg5 : Memref sig .tc .vmem S4x1024x512 .bf16) (harg5 : arg5.IsWhole) (arg6 : Memref sig .tc .vmem S4x1024x512 .bf16) (harg6 : arg6.IsWhole)
    (arg7 : Memref sig .tc .vmem S4x512x1024 .bf16) (harg7 : arg7.IsWhole) (arg8 : Memref sig .tc .vmem S8x512x128 .f32) (harg8 : arg8.IsWhole)
    (x0 : Vec F S5x512x128 .i32) (x1 : Vec F S1x1024 .f32) (x2 : Vec F S4x1024x512 .bf16) (x3 : Vec F S4x1024x512 .bf16) (x4 : Vec F S4x512x1024 .bf16)
    (g : Tab F c gM) (n : Tab F c nM) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ tabPt c gM g ∗ tabPt c nM n
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare (tileOut i (nWord c n) (gWord c i g) x0 x1 x2 x3 x4)
        ∗ tabPt c gM g ∗ tabPt c nM n) -∗ K ⟨⟩))
      ⊢ wp frame (wpE (defs₀ (F := F)) Variants.none c none) E
          (cc0_group_moe i gM (Memref.isWhole_whole _) nM (Memref.isWhole_whole _) arg3 harg3 arg4 harg4 arg5 harg5 arg6 harg6 arg7 harg7 arg8 harg8) K := by
  simp only [cc0_group_moe_eq_skeleton]; unfold cc0_group_moe_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HG, HN, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    have hn : body_run.sl.r c n = nWord c n := by
      unfold body_run.sl.r nWord
      exact congrArg (show S1.Idx → BitVec 32 from n) (funext fun a => Fin.ext (Nat.lt_one_iff.mp (by fin_cases a; exact Fin.isLt _)))
    rw [hn]
    unfold tileOut
    by_cases h2 : k0_cond2 i (nWord c n) = 1#1
    · rw [dif_pos h2, if_pos h2]
      refine (View.read_writes_eq_canon _ _ _ (segs_cover _ _ _ _ _ _ _ _)).trans ?_
      have hg : View.readAt (Elt F) gM.view (Rect.unit (s := S36) (k0_off2 i) S1.size (k0_off2_inb i)).toLoadRect g (Shape.Idx.first (numel1_S1.symm ▸ Nat.one_pos)) = gWord c i g := gWord_read c i g
      have h3 : body_run.sl.r_3 c i g = gWord c i g := by unfold body_run.sl.r_3; exact hg
      have h9 : body_run.sl.r_9 c i arg3 arg4 arg5 arg6 arg7 g f0 f1 f2 f3 f4 = matOf (gWord c i g) (arg3.view.read (Elt F) f0) (arg4.view.read (Elt F) f1)
          (arg5.view.read (Elt F) f2) (arg6.view.read (Elt F) f3) (arg7.view.read (Elt F) f4) := by
        unfold body_run.sl.r_9 body_run.sl.r_8 body_run.sl.r_7 body_run.sl.r_6 body_run.sl.r_5 body_run.sl.r_4 body_run.sl.r_2 body_run.sl.r_1 body_run.sl.v48 body_run.sl.v45
        simp only [h3, hg]
        unfold matOf twoOf thirdOf rowsOf gatesOf
        rfl
      have h10 : body_run.sl.r_10 c i arg3 arg4 arg5 arg6 arg7 g f0 f1 f2 f3 f4 = extractStridedSlice S512x128 ![0, 0] (body_run.sl.r_9 c i arg3 arg4 arg5 arg6 arg7 g f0 f1 f2 f3 f4) slices_S512x1024_o0_0_S512x128 := by
        unfold body_run.sl.r_10 body_run.sl.r_9 k0_pay11; rfl
      have h11 : body_run.sl.r_11 c i arg3 arg4 arg5 arg6 arg7 g f0 f1 f2 f3 f4 = k0_pay19 (body_run.sl.r_9 c i arg3 arg4 arg5 arg6 arg7 g f0 f1 f2 f3 f4) := by
        unfold body_run.sl.r_11; rfl
      simp only [h10, h11, h9]
      rfl
    · rw [dif_neg h2, if_neg h2, dif_pos (cond_or _ _ h2)]
      exact View.read_writes_eq_canon _ _ _ (zero_cover _)
  isplitl [HG]; · iexact HG
  iexact HN

end Cert.Kernel2Ideal.Moe

end
-- ==== Proof.MoeLaunch.lean ====
module

public import proofs.«01_k».proof.Proof.MoeRun
public import Idealize.ShloMosaic.Lib.Pipeline.FrameBody
public import Idealize.ShloMosaic.Lib.Pipeline.Cells

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the call finds -/

/-- The buffers after the casts and the reshape that precede the call. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- The host operations before the call leave argument 0 as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host operations before the call leave argument 1 as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host operations before the call leave argument 2 as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host operations before the call leave argument 3 as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host operations before the call leave argument 4 as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host operations before the call leave argument 5 as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host operations before the call leave argument 6 as launched. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The two tables' contents (the mesh has one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every tile's group names a block of the weights. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves handed to the body, one by one. -/
theorem tables_eq (c : Dev nD) : (Pipeline.ΦT pre0 (tbl m) c : sProp 𝕄) = iprop(tabPt c gM (tbl m 0) ∗ tabPt c nM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at tile `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## What the body leaves, tile by tile -/

/-- The word of the count and of tile `t`'s group. -/
abbrev nAt (c : Dev nD) : BitVec 32 := nWord (F := F) c (tbl m 1)
abbrev gAt (c : Dev nD) (i : grid0.Coords) : BitVec 32 := gWord (F := F) c i (tbl m 0)

/-- The run's data: each input's buffer at its block, the result's at `tileOut` of the blocks. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => tileOut (grid0.coords t) (nAt m c) (gAt m c (grid0.coords t)) (iblk m hO c 0 t) (iblk m hO c 1 t) (iblk m hO c 2 t) (iblk m hO c 3 t) (iblk m hO c 4 t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t
    = tileOut (grid0.coords t) (nAt m c) (gAt m c (grid0.coords t)) (iblk m hO c 0 t) (iblk m hO c 1 t) (iblk m hO c 2 t) (iblk m hO c 3 t) (iblk m hO c 4 t) := by dsimp only [dats]; try rfl

/-- Input 0's buffer holds its block at every tile, fetched there or left from the tile before. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input 1's buffer holds its block at every tile, fetched there or left from the tile before. -/
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input 2's buffer holds its block at every tile, fetched there or left from the tile before. -/
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input 3's buffer holds its block at every tile, fetched there or left from the tile before. -/
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Input 4's buffer holds its block at every tile, fetched there or left from the tile before. -/
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body at each tile -/

abbrev stM0 (hO : Ok m) (t : Fin (cfgM m hO).N) : Memref sig .tc .vmem S5x512x128 .i32 := spec0_0.stage ((cfgM m hO).slots t 0)
abbrev stM1 (hO : Ok m) (t : Fin (cfgM m hO).N) : Memref sig .tc .vmem S1x1024 .f32 := spec0_1.stage ((cfgM m hO).slots t 1)
abbrev stM2 (hO : Ok m) (t : Fin (cfgM m hO).N) : Memref sig .tc .vmem S4x1024x512 .bf16 := spec0_2.stage ((cfgM m hO).slots t 2)
abbrev stM3 (hO : Ok m) (t : Fin (cfgM m hO).N) : Memref sig .tc .vmem S4x1024x512 .bf16 := spec0_3.stage ((cfgM m hO).slots t 3)
abbrev stM4 (hO : Ok m) (t : Fin (cfgM m hO).N) : Memref sig .tc .vmem S4x512x1024 .bf16 := spec0_4.stage ((cfgM m hO).slots t 4)
abbrev stM5 (hO : Ok m) (t : Fin (cfgM m hO).N) : Memref sig .tc .vmem S8x512x128 .f32 := spec0_5.stage ((cfgM m hO).slots t 5)

/-- The body at tile `t`, on the buffers it is called with. -/
abbrev bodyAt (a : (pcfg0 (F := F)).Adm) (t : Fin (cfg0 a).N) : Prog (TpuEff nD τ sig (Elt F) Λ₀ .tc) PUnit :=
  cc0_group_moe (grid0.coords t) (Memref.whole main_arg1) (Memref.isWhole_whole _) (Memref.whole main_arg2) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stM0 m hO t) fullShare ((dats m hO 0 c).before 0 t d))
    ∗ (∃ d, owns (c : Thread nD τ) (stM1 m hO t) fullShare ((dats m hO 0 c).before 1 t d))
    ∗ (∃ d, owns (c : Thread nD τ) (stM2 m hO t) fullShare ((dats m hO 0 c).before 2 t d))
    ∗ (∃ d, owns (c : Thread nD τ) (stM3 m hO t) fullShare ((dats m hO 0 c).before 3 t d))
    ∗ (∃ d, owns (c : Thread nD τ) (stM4 m hO t) fullShare ((dats m hO 0 c).before 4 t d))
    ∗ (∃ d, owns (c : Thread nD τ) (stM5 m hO t) fullShare ((dats m hO 0 c).before 5 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (stM0 m hO t) fullShare ((dats m hO 0 c).after 0 t)
    ∗ owns (c : Thread nD τ) (stM1 m hO t) fullShare ((dats m hO 0 c).after 1 t)
    ∗ owns (c : Thread nD τ) (stM2 m hO t) fullShare ((dats m hO 0 c).after 2 t)
    ∗ owns (c : Thread nD τ) (stM3 m hO t) fullShare ((dats m hO 0 c).after 3 t)
    ∗ owns (c : Thread nD τ) (stM4 m hO t) fullShare ((dats m hO 0 c).after 4 t)
    ∗ owns (c : Thread nD τ) (stM5 m hO t) fullShare ((dats m hO 0 c).after 5 t))

/-- The body's triple at tile `t`. -/
theorem body_at (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3, before_4]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5]
  rw [show (dats m hO 0 c).Φ t.castSucc = iprop(Pipeline.ΦA spec0 c ∗ Pipeline.ΦT pre0 (tbl m) c) from rfl, tables_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m hO c 0 t) (iblk m hO c 1 t) (iblk m hO c 2 t) (iblk m hO c 3 t) (iblk m hO c 4 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The result's buffer is stored at every tile. -/
theorem never_idle (hO : Ok m) (i : grid0.Coords) : (cfgM m hO).idle 5 i = false := by
  show (!(k0_cond1 i ((tbl m).atD 1 ![0]) == 1#1) && !(k0_cond2 i ((tbl m).atD 1 ![0]) == 1#1)) = false
  by_cases h : k0_cond2 i ((tbl m).atD 1 ![0]) = 1#1
  · rw [h]; simp
  · rw [cond_or i _ h]; rfl

theorem obligation (hO : Ok m) (c : Dev nD) : BodyObligation (dats (F := F) m hO 0 c) (defs₀ (F := F)) Variants.none () Set.univ := fun t => by
  rw [bigSep_W0, bigSep_W0, defs₀_row m hO]
  refine triple_restated (body_at m hO c t) rfl .rfl fun _ => ?_
  rw [never_idle m hO]
  exact .rfl

/-! ## The run -/

set_option backward.isDefEq.respectTransparency.types false in
/-- Every run ends, its windows' arrays at what the tiles leave and every other buffer as the call found it, its counters at zero. -/
theorem run_main (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The result array after the run. -/
abbrev outAt (hO : Ok m) (c : Dev nD) : Buf (Elt F) ((c : Thread nD τ).loc main_v4) := (dats m hO 0 c).arrAt 5 (cfgM m hO).N

/-- What the run leaves: the result array, the arguments as launched, the counters at zero. -/
theorem run_out (hO : Ok m) : θ_run defs (onTc (τ := τ) (main (F := F))) ⟨m, fun _ => 0, ρ⟩ (fun r => (∀ c : Dev nD,
      r.2.mem ((c.tc : Thread nD τ).loc main_v4) = outAt m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 5, by
    have h := h.1
    exact ⟨((h c).1 0).trans (((dats m hO 0 c).arrAt_in 0 rfl _).trans ((A_eq m hO c 0).trans (V_arg0 m c))),
    ((h c).2 main_arg1 (by decide : main_arg1 ∈ Pipeline.restRefs sig spec0)).trans (V_arg1 m c),
    ((h c).2 main_arg2 (by decide : main_arg2 ∈ Pipeline.restRefs sig spec0)).trans (V_arg2 m c),
    ((h c).2 main_arg3 (by decide : main_arg3 ∈ Pipeline.restRefs sig spec0)).trans (V_arg3 m c),
    ((h c).2 main_arg4 (by decide : main_arg4 ∈ Pipeline.restRefs sig spec0)).trans (V_arg4 m c),
    ((h c).2 main_arg5 (by decide : main_arg5 ∈ Pipeline.restRefs sig spec0)).trans (V_arg5 m c),
    ((h c).2 main_arg6 (by decide : main_arg6 ∈ Pipeline.restRefs sig spec0)).trans (V_arg6 m c)⟩⟩, h.2⟩) (run_main m ρ hO)

end Cert.Kernel2Ideal.Moe

end
-- ==== Proof.MoeFrame.lean ====
module

public import proofs.«01_k».proof.Proof.MoeLaunch
public import proofs.«01_k».proof.Defs
public import proofs.«01_k».proof.Proof.Gen.Kernel2
public import Idealize.ShloMosaic.Lib.ReduceAll
public import Idealize.ShloMosaic.Lib.ValueIdxCore
public import Idealize.ShloMosaic.Lib.Pipeline.Regions

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.ValueIdx

variable {F : FTy → Type} [FloatOps F]

/-- Every tile's word names one of the four groups. -/
def GroupsOK (B : S36.Idx → BitVec 32) : Prop := ∀ k, (B k).toNat < 4

/-- The precondition, as jax computes it, makes every tile's word name a group. -/
theorem groups_of_pre [Cert.Pre_tiles_name_groups.Facts] (a0 : IVec S5x18432x128 32) (B : S36.Idx → BitVec 32) (a2 : IVec S1 32) (a3 : FVec F S1024 .f32)
    (a4 a5 : FVec F S16x1024x512 .f32) (a6 : FVec F S16x512x1024 .f32)
    (h : Cert.Pre_tiles_name_groups.fn (F := F) a0 B a2 a3 a4 a5 a6 = fun _ => 1#1) : GroupsOK B := by
  have andi_bool (p q : Bool) : IntOp.andi (BitVec.ofBool p) (BitVec.ofBool q) = BitVec.ofBool (p && q) := by
    cases p <;> cases q <;> decide
  have bool_one (p : Bool) : (BitVec.ofBool p = 1#1) ↔ p = true := by cases p <;> decide
  intro k
  haveI : Subsingleton Cert.Pre_tiles_name_groups.S_.Idx := ⟨fun a b => funext fun i => i.elim0⟩
  have e := Host.reduce_andi_all _ _ _ _ ValueIdx.ix0 (congrFun h ValueIdx.ix0) k
  simp only [andi, cmpi, broadcastInDim, constantI] at e
  simp only [IntOp.cmpi, andi_bool, bool_one, Bool.and_eq_true, BitVec.sle_eq_decide, BitVec.slt_eq_decide,
    decide_eq_true_eq, BitVec.toInt_eq_toNat_cond, BitVec.toNat_ofNat, Nat.reducePow, Nat.reduceMod] at e
  omega

/-- A block of the weights: four experts whole, from expert `4 k`. -/
theorem weights_words {a b : ℕ} (off : Fin 3 → ℕ) (h : ∀ x, (off x + 1) * (![4, a, b] : Fin 3 → ℕ) x ≤ (⟨3, ![16, a, b]⟩ : Shape).size x) (h1 : off 1 = 0) :
    (Rect.block (s := ⟨3, ![16, a, b]⟩) (![4, a, b] : Fin 3 → ℕ) off h).WholeWords (EltTy.packing .bf16) :=
  .inr ⟨by show 2 ≤ 3; omega, rfl, by show off 1 * a = 0; rw [h1, Nat.zero_mul], rfl⟩

/-- The table word tile `i`'s weights are found by. -/
theorem at_word (pf : pre0.Contents (Elt F)) (i : grid0.Coords) :
    pf.at 0 (Rect.unit (s := S36) (k0_off1 i) S1.size (Facts₀.k0_off1_inb i)) Facts₀.numel1_S1 = (show S36.Idx → BitVec 32 from pf 0) (ix1 (i 0)) := by
  refine congrArg (show S36.Idx → BitVec 32 from pf 0) (funext fun a => Fin.ext ?_)
  fin_cases a
  have h36 : (i 0).val < 36 := (i 0).isLt
  have h1 : ((Shape.Idx.first (s := S1) (Facts₀.numel1_S1.symm ▸ Nat.one_pos)) 0).val < 1 := Fin.isLt _
  show k0_off1 i 0 + 1 * ((Shape.Idx.first (s := S1) (Facts₀.numel1_S1.symm ▸ Nat.one_pos)) 0).val = (i 0).val
  have : k0_off1 i 0 = (i 0).val := by
    show (BitVec.ofNat 32 (i 0).val).toNat = _
    rw [BitVec.toNat_ofNat]; omega
  omega

theorem index_2 (pf : pre0.Contents (Elt F)) (i : grid0.Coords) :
    cc0_transform_2 Facts₀.k0_off1_inb Facts₀.numel1_S1 pf i = ![((show S36.Idx → BitVec 32 from pf 0) (ix1 (i 0))).toNat, 0, 0] := by
  unfold cc0_transform_2; exact congrArg (fun w : BitVec 32 => ![w.toNat, 0, 0]) (at_word pf i)
theorem index_3 (pf : pre0.Contents (Elt F)) (i : grid0.Coords) :
    cc0_transform_3 Facts₀.k0_off1_inb Facts₀.numel1_S1 pf i = ![((show S36.Idx → BitVec 32 from pf 0) (ix1 (i 0))).toNat, 0, 0] := by
  unfold cc0_transform_3; exact congrArg (fun w : BitVec 32 => ![w.toNat, 0, 0]) (at_word pf i)
theorem index_4 (pf : pre0.Contents (Elt F)) (i : grid0.Coords) :
    cc0_transform_4 Facts₀.k0_off1_inb Facts₀.numel1_S1 pf i = ![((show S36.Idx → BitVec 32 from pf 0) (ix1 (i 0))).toNat, 0, 0] := by
  unfold cc0_transform_4; exact congrArg (fun w : BitVec 32 => ![w.toNat, 0, 0]) (at_word pf i)

theorem fits {a b g : ℕ} (h : g < 4) (x : Fin 3) : ((![g, 0, 0] : Fin 3 → ℕ) x + 1) * (![4, a, b] : Fin 3 → ℕ) x ≤ (⟨3, ![16, a, b]⟩ : Shape).size x := by
  fin_cases x
  · show (g + 1) * 4 ≤ 16; omega
  · show (0 + 1) * a ≤ a; omega
  · show (0 + 1) * b ≤ b; omega

/-- Where the tiles' words name groups, every block fetched lies inside the weights. -/
theorem ok_of_groups (pf : pre0.Contents (Elt F)) (h : GroupsOK (show S36.Idx → BitVec 32 from pf 0)) : ok0 (F := F) pf := by
  refine ⟨fun i => ⟨fun a => ?_, .inr (weights_words _ _ ?_)⟩, fun i => ⟨fun a => ?_, .inr (weights_words _ _ ?_)⟩, fun i => ⟨fun a => ?_, .inr (weights_words _ _ ?_)⟩⟩
  · rw [index_2]; exact fits (h _) a
  · rw [index_2]; rfl
  · rw [index_3]; exact fits (h _) a
  · rw [index_3]; rfl
  · rw [index_4]; exact fits (h _) a
  · rw [index_4]; rfl

variable (m : (ℓ : Loc nD τ sig) → Buf (Elt F) ℓ)

theorem tbl_groups (c : Dev nD) : (show S36.Idx → BitVec 32 from tbl m 0) = (show S36.Idx → BitVec 32 from m ((c : Thread nD τ).loc main_arg1)) :=
  (V_pre m c 0).symm.trans (V_arg1 m c)

theorem ok_of_pre (h : ∀ c : Dev nD, GroupsOK (show S36.Idx → BitVec 32 from m ((c : Thread nD τ).loc main_arg1))) : Ok m :=
  ok_of_groups (tbl m) (by rw [tbl_groups m 0]; exact h 0)

end Cert.Kernel2Ideal.Moe

namespace Cert.Proof

open Idealize.ShloMosaic Idealize.SL.Sem Cert.Kernel2Ideal

/-- The program over the bits leaves its arguments and its counters as it found them, where the tiles' words name groups. -/
def FrameOfBits : Prop := ∀ (m : (ℓ : Loc Cert.Kernel2.nD Cert.Kernel2.τ Cert.Kernel2.sig) → Buf (Elt Bits) ℓ) (g : Dev Cert.Kernel2.nD → PrngReg),
    (∀ c : Dev Cert.Kernel2.nD, Moe.GroupsOK (m ((c.tc : Thread Cert.Kernel2.nD Cert.Kernel2.τ).loc Cert.Kernel2.main_arg1))) →
    θ_run (Cert.Kernel2.defs (F := Bits)) (onTc (τ := Cert.Kernel2.τ) (Cert.Kernel2.main (F := Bits))) ⟨m, fun _ => 0, g⟩ (fun r => (∀ c : Dev Cert.Kernel2.nD,
        r.2.mem ((c.tc : Thread Cert.Kernel2.nD Cert.Kernel2.τ).loc Cert.Kernel2.main_arg0) = m ((c.tc : Thread Cert.Kernel2.nD Cert.Kernel2.τ).loc Cert.Kernel2.main_arg0)
        ∧ r.2.mem ((c.tc : Thread Cert.Kernel2.nD Cert.Kernel2.τ).loc Cert.Kernel2.main_arg1) = m ((c.tc : Thread Cert.Kernel2.nD Cert.Kernel2.τ).loc Cert.Kernel2.main_arg1)
        ∧ r.2.mem ((c.tc : Thread Cert.Kernel2.nD Cert.Kernel2.τ).loc Cert.Kernel2.main_arg2) = m ((c.tc : Thread Cert.Kernel2.nD Cert.Kernel2.τ).loc Cert.Kernel2.main_arg2)
        ∧ r.2.mem ((c.tc : Thread Cert.Kernel2.nD Cert.Kernel2.τ).loc Cert.Kernel2.main_arg3) = m ((c.tc : Thread Cert.Kernel2.nD Cert.Kernel2.τ).loc Cert.Kernel2.main_arg3)
        ∧ r.2.mem ((c.tc : Thread Cert.Kernel2.nD Cert.Kernel2.τ).loc Cert.Kernel2.main_arg4) = m ((c.tc : Thread Cert.Kernel2.nD Cert.Kernel2.τ).loc Cert.Kernel2.main_arg4)
        ∧ r.2.mem ((c.tc : Thread Cert.Kernel2.nD Cert.Kernel2.τ).loc Cert.Kernel2.main_arg5) = m ((c.tc : Thread Cert.Kernel2.nD Cert.Kernel2.τ).loc Cert.Kernel2.main_arg5)
        ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)
/-- The same of the program's idealization, at the bits. -/
def FrameOfBitsIdeal : Prop := ∀ (m : (ℓ : Loc Cert.Kernel2Ideal.nD Cert.Kernel2Ideal.τ Cert.Kernel2Ideal.sig) → Buf (Elt Bits) ℓ) (g : Dev Cert.Kernel2Ideal.nD → PrngReg),
    (∀ c : Dev Cert.Kernel2Ideal.nD, Moe.GroupsOK (m ((c.tc : Thread Cert.Kernel2Ideal.nD Cert.Kernel2Ideal.τ).loc Cert.Kernel2Ideal.main_arg1))) →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
        r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
        ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
        ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
        ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

/-- The two programs are one text, so the two statements are one. -/
theorem frame_same : FrameOfBitsIdeal = FrameOfBits := by
  chain_rfl

theorem frame_bits : FrameOfBitsIdeal := fun m g h =>
  (θ_run Cert.Kernel2Ideal.defs _ _).mono (fun _ h => ⟨fun c => (h.1 c).2, h.2⟩) (Moe.run_out (F := Bits) m g (Moe.ok_of_pre m h))

/-- The grouped experts over the bits: the arguments unchanged, every counter back at zero. -/
theorem frame_Kernel2 [Cert.Pre_tiles_name_groups.Facts] : Cert.quiescent_Kernel2 := fun m g hpre =>
  (frame_same.mp frame_bits) m g fun d => Moe.groups_of_pre (F := Bits) _ _ _ _ _ _ _ (hpre d)

/-- The grouped experts over the extended reals: the same. -/
theorem frame_Kernel2Ideal [Cert.Pre_tiles_name_groups.Facts] : Cert.quiescent_Kernel2Ideal := fun m g hpre =>
  (θ_run Cert.Kernel2Ideal.defs _ _).mono (fun _ h => ⟨fun c => (h.1 c).2, h.2⟩)
    (Moe.run_out (F := Ideal) m g (Moe.ok_of_pre m fun d => Moe.groups_of_pre (F := Ideal) _ _ _ _ _ _ _ (hpre d)))

end Cert.Proof

end
-- ==== Proof.MoeTile.lean ====
module

public import proofs.«01_k».proof.Proof.MoeRun
public import Idealize.ShloMosaic.Lib.Pointwise

@[expose] public section

set_option maxRecDepth 16384

noncomputable section

namespace Cert.MoeVal

open Cert.Kernel2Ideal.Gen Cert.Kernel2Ideal.Moe
open Cert.Kernel2Ideal (S512x1024 S1024x512 S1x1024x512 S1x512x1024 S512x512 S512x128 S1x512x128 S5x512x128 S4x1024x512 S4x512x1024 S1x1024 S8x512x128 S512x1 S512)
open Idealize.ShloMosaic

/-- One sixteen-bit half of a word, the low one for `q = 0`, widened to an f32 and read as a number. -/
def half (w : BitVec 32) (q : Nat) : EReal := Ideal.ofBits .f32 (if q = 0 then w <<< 16 else w &&& 4294901760#32)
/-- `a · σ(a)`. -/
def silu (a : EReal) : EReal := a * Ideal.logistic a
/-- One expert on one row. -/
def expert (x : Fin 1024 → EReal) (wg wu : Fin 1024 → Fin 512 → EReal) (wd : Fin 512 → Fin 1024 → EReal) (d : Fin 1024) : EReal :=
  ∑ f : Fin 512, (silu (∑ k : Fin 1024, x k * wg k f) * ∑ k : Fin 1024, x k * wu k f) * wd f d
/-- The root-mean-square norm of a row, scaled by `g`. -/
def rms (y g : Fin 1024 → EReal) (d : Fin 1024) : EReal :=
  y d * Ideal.rsqrt (Ideal.div (∑ j : Fin 1024, y j * y j) (Ideal.ofBits .f32 0x44800000#32) + Ideal.ofBits .f32 0x358637BD#32) * g d

/-- The four experts of a group on one row, each with its gate, added in order. -/
def mix (gate : Fin 4 → EReal) (x : Fin 1024 → EReal) (wg wu : Fin 4 → Fin 1024 → Fin 512 → EReal) (wd : Fin 4 → Fin 512 → Fin 1024 → EReal) (d : Fin 1024) : EReal :=
  gate 0 * expert x (wg 0) (wu 0) (wd 0) d + gate 1 * expert x (wg 1) (wu 1) (wd 1) d + gate 2 * expert x (wg 2) (wu 2) (wd 2) d + gate 3 * expert x (wg 3) (wu 3) (wd 3) d

theorem gates_apply (x0 : Vec Ideal S5x512x128 .i32) (r : Fin 512) (l : Fin 128) :
    gatesOf (F := Ideal) x0 (ix2 r l) = Ideal.ofBits .f32 (x0 (ix3 4 r l)) := by
  pointwise [gatesOf, k0_pay4, bitcastToFloat]

theorem shl_word (x : BitVec 32) : IntOp.shli ArithUnit.vector x 16#32 = x <<< 16 := by
  simp [IntOp.shli]

/-- The tile's row as numbers: column `128 (4 q + s) + l` is half `q` of word `l` of segment `s`. -/
theorem rows_apply (x0 : Vec Ideal S5x512x128 .i32) (r : Fin 512) (d : Fin 1024) :
    rowsOf (F := Ideal) x0 (ix2 r d) = half (x0 (ix3 ⟨d.val / 128 % 4, by omega⟩ r ⟨d.val % 128, by omega⟩)) (d.val / 512) := by
  pointwise [rowsOf, k0_pay3, bitcastToFloat]
  have lo : ∀ (p : Nat) (hp : p < 4) (q : Fin 128), d.val = 128 * p + q.val →
      Ideal.ofBits FTy.f32 (IntOp.shli ArithUnit.vector (x0 (ix3 ⟨p, by omega⟩ r q)) 16#32) = half (x0 (ix3 ⟨d.val / 128 % 4, by omega⟩ r ⟨d.val % 128, by omega⟩)) (d.val / 512) := by
    intro p hp q h
    have e1' : (⟨d.val / 128 % 4, by omega⟩ : Fin 5) = ⟨p, by omega⟩ := Fin.ext (by show d.val / 128 % 4 = p; omega)
    have e2 : (⟨d.val % 128, by omega⟩ : Fin 128) = q := Fin.ext (by show d.val % 128 = q.val; omega)
    rw [shl_word, e1', e2, half, if_pos (by omega)]
  have hi : ∀ (p : Nat) (hp : p < 4) (q : Fin 128), d.val = 512 + 128 * p + q.val →
      Ideal.ofBits FTy.f32 (IntOp.andi (x0 (ix3 ⟨p, by omega⟩ r q)) 4294901760#32) = half (x0 (ix3 ⟨d.val / 128 % 4, by omega⟩ r ⟨d.val % 128, by omega⟩)) (d.val / 512) := by
    intro p hp q h
    have e1' : (⟨d.val / 128 % 4, by omega⟩ : Fin 5) = ⟨p, by omega⟩ := Fin.ext (by show d.val / 128 % 4 = p; omega)
    have e2 : (⟨d.val % 128, by omega⟩ : Fin 128) = q := Fin.ext (by show d.val % 128 = q.val; omega)
    rw [e1', e2, half, if_neg (by omega)]
    rfl
  have hd := d.isLt
  split_ifs
  · exact lo 0 (by decide) ⟨d.val, by omega⟩ (by show d.val = 128 * 0 + (d.val); omega)
  · exact lo 0 (by decide) ⟨d.val, by omega⟩ (by show d.val = 128 * 0 + (d.val); omega)
  · exact lo 1 (by decide) ⟨d.val - 128, by omega⟩ (by show d.val = 128 * 1 + (d.val - 128); omega)
  · exact lo 1 (by decide) ⟨d.val - 128, by omega⟩ (by show d.val = 128 * 1 + (d.val - 128); omega)
  · exact lo 2 (by decide) ⟨d.val - 128 - 128, by omega⟩ (by show d.val = 128 * 2 + (d.val - 128 - 128); omega)
  · exact lo 2 (by decide) ⟨d.val - 128 - 128, by omega⟩ (by show d.val = 128 * 2 + (d.val - 128 - 128); omega)
  · exact lo 3 (by decide) ⟨d.val - 128 - 128 - 128, by omega⟩ (by show d.val = 128 * 3 + (d.val - 128 - 128 - 128); omega)
  · exact lo 3 (by decide) ⟨d.val - 128 - 128 - 128, by omega⟩ (by show d.val = 128 * 3 + (d.val - 128 - 128 - 128); omega)
  · exact hi 0 (by decide) ⟨d.val - 128 - 128 - 128 - 128, by omega⟩ (by show d.val = 512 + 128 * 0 + (d.val - 128 - 128 - 128 - 128); omega)
  · exact hi 0 (by decide) ⟨d.val - 128 - 128 - 128 - 128, by omega⟩ (by show d.val = 512 + 128 * 0 + (d.val - 128 - 128 - 128 - 128); omega)
  · exact hi 1 (by decide) ⟨d.val - 128 - 128 - 128 - 128 - 128, by omega⟩ (by show d.val = 512 + 128 * 1 + (d.val - 128 - 128 - 128 - 128 - 128); omega)
  · exact hi 1 (by decide) ⟨d.val - 128 - 128 - 128 - 128 - 128, by omega⟩ (by show d.val = 512 + 128 * 1 + (d.val - 128 - 128 - 128 - 128 - 128); omega)
  · exact hi 2 (by decide) ⟨d.val - 128 - 128 - 128 - 128 - 128 - 128, by omega⟩ (by show d.val = 512 + 128 * 2 + (d.val - 128 - 128 - 128 - 128 - 128 - 128); omega)
  · exact hi 2 (by decide) ⟨d.val - 128 - 128 - 128 - 128 - 128 - 128, by omega⟩ (by show d.val = 512 + 128 * 2 + (d.val - 128 - 128 - 128 - 128 - 128 - 128); omega)
  · exact hi 3 (by decide) ⟨d.val - 128 - 128 - 128 - 128 - 128 - 128 - 128, by omega⟩ (by show d.val = 512 + 128 * 3 + (d.val - 128 - 128 - 128 - 128 - 128 - 128 - 128); omega)
  · exact hi 3 (by decide) ⟨d.val - 128 - 128 - 128 - 128 - 128 - 128 - 128, by omega⟩ (by show d.val = 512 + 128 * 3 + (d.val - 128 - 128 - 128 - 128 - 128 - 128 - 128); omega)

/-- The lane of a row that a comparison with its number picks out. -/
theorem pick_sum (G : Fin 128 → EReal) (n : Nat) (hn : n < 128) (w : BitVec 32) (hw : w = BitVec.ofNat 32 n) :
    ∑ x : Fin 128, Scalar.select (IntOp.cmpi CmpIPredicate.eq (BitVec.ofNat 32 x.val) w) (G x) 0 = G ⟨n, hn⟩ := by
  subst hw
  rw [Finset.sum_eq_single (⟨n, hn⟩ : Fin 128)]
  · simp [IntOp.cmpi, Scalar.select]
  · intro b _ hb
    have hne : BitVec.ofNat 32 b.val ≠ BitVec.ofNat 32 n := by
      intro h
      have := congrArg BitVec.toNat h
      rw [BitVec.toNat_ofNat, BitVec.toNat_ofNat, Nat.mod_eq_of_lt (by omega), Nat.mod_eq_of_lt (by omega)] at this
      exact hb (Fin.ext this)
    simp only [IntOp.cmpi, Scalar.select, beq_eq_false_iff_ne.mpr hne]; rfl
  · intro h; exact absurd (Finset.mem_univ _) h

theorem lane_word (g : BitVec 32) (hg : g.toNat < 4) (k : Nat) (hk : k < 4) : Scalar.addi (Scalar.muli g 4#32) (BitVec.ofNat 32 k) = BitVec.ofNat 32 (4 * g.toNat + k) := by
  apply BitVec.eq_of_toNat_eq
  show ((g * 4#32) + BitVec.ofNat 32 k).toNat = _
  rw [BitVec.toNat_add, BitVec.toNat_mul, BitVec.toNat_ofNat, BitVec.toNat_ofNat, BitVec.toNat_ofNat]
  omega

section Stages
variable (X : FVec Ideal S512x1024 .bf16) (G : FVec Ideal S512x128 .f32) (g : BitVec 32) (hg : g.toNat < 4)

include hg

theorem pay5_apply (wg wu : Vec Ideal S1x1024x512 .bf16) (wd : Vec Ideal S1x512x1024 .bf16) (r : Fin 512) (d : Fin 1024) :
    k0_pay5 (F := Ideal) X G g wg wu wd (ix2 r d)
      = G (ix2 r ⟨4 * g.toNat + 0, by omega⟩) * expert (fun k => X (ix2 r k)) (fun k f => wg (ix3 0 k f)) (fun k f => wu (ix3 0 k f)) (fun f e => wd (ix3 0 f e)) d := by
  pointwise [k0_pay5]
  rw [pick_sum (fun l => G (ix2 r l)) _ (by omega) _ (lane_word g hg 0 (by decide))]
  rfl

theorem pay6_apply (r : Fin 512) (z : Fin 1) : k0_pay6 (F := Ideal) G g (ix2 r z) = G (ix2 r ⟨4 * g.toNat + 1, by omega⟩) := by
  pointwise [k0_pay6]
  exact pick_sum (fun l => G (ix2 r l)) _ (by omega) _ (lane_word g hg 1 (by decide))

omit hg in
theorem pay8_apply (Y : FVec Ideal S512x1024 .f32) (z : FVec Ideal S512x1 .f32) (wg : FVec Ideal S1024x512 .bf16)
    (wu : Vec Ideal S1x1024x512 .bf16) (wd : Vec Ideal S1x512x1024 .bf16) (r : Fin 512) (d : Fin 1024) :
    k0_pay8 (F := Ideal) X Y z wg wu wd (ix2 r d)
      = Y (ix2 r d) + z (ix2 r 0) * expert (fun k => X (ix2 r k)) (fun k f => wg (ix2 k f)) (fun k f => wu (ix3 0 k f)) (fun f e => wd (ix3 0 f e)) d := by
  pointwise [k0_pay8]
  rfl

theorem pay9_apply (wg wu : Vec Ideal S1x1024x512 .bf16) (wd : Vec Ideal S1x512x1024 .bf16) (r : Fin 512) (d : Fin 1024) :
    k0_pay9 (F := Ideal) X G (iota .tc S512x128 32 [1] iota_S512x128_d1_w32) (Scalar.muli g 4#32) wg wu wd (ix2 r d)
      = G (ix2 r ⟨4 * g.toNat + 2, by omega⟩) * expert (fun k => X (ix2 r k)) (fun k f => wg (ix3 0 k f)) (fun k f => wu (ix3 0 k f)) (fun f e => wd (ix3 0 f e)) d := by
  pointwise [k0_pay9]
  rw [pick_sum (fun l => G (ix2 r l)) _ (by omega) _ (lane_word g hg 2 (by decide))]
  rfl

theorem pay10_apply (Y Z : FVec Ideal S512x1024 .f32) (wg wu : Vec Ideal S1x1024x512 .bf16) (wd : Vec Ideal S1x512x1024 .bf16) (s : Vec Ideal S1x1024 .f32) (r : Fin 512) (d : Fin 1024) :
    k0_pay10 (F := Ideal) X G (iota .tc S512x128 32 [1] iota_S512x128_d1_w32) (Scalar.muli g 4#32) Y Z wg wu wd s (ix2 r d)
      = rms (fun e => Y (ix2 r e) + Z (ix2 r e) + G (ix2 r ⟨4 * g.toNat + 3, by omega⟩) * expert (fun k => X (ix2 r k)) (fun k f => wg (ix3 0 k f)) (fun k f => wu (ix3 0 k f)) (fun f e => wd (ix3 0 f e)) e)
          (fun e => s (ix2 0 e)) d := by
  pointwise [k0_pay10]
  rw [pick_sum (fun l => G (ix2 r l)) _ (by omega) _ (lane_word g hg 3 (by decide))]
  rfl

/-- One row of a tile's matrix: the four experts of the tile's group on the row, normed and scaled. -/
theorem mat_apply (x0 : Vec Ideal S5x512x128 .i32) (x1 : Vec Ideal S1x1024 .f32) (x2 x3 : Vec Ideal S4x1024x512 .bf16) (x4 : Vec Ideal S4x512x1024 .bf16) (r : Fin 512) (d : Fin 1024) :
    matOf (F := Ideal) g x0 x1 x2 x3 x4 (ix2 r d)
      = rms (mix (fun k => Ideal.ofBits .f32 (x0 (ix3 4 r ⟨4 * g.toNat + k.val, by omega⟩)))
          (fun k => half (x0 (ix3 ⟨k.val / 128 % 4, by omega⟩ r ⟨k.val % 128, by omega⟩)) (k.val / 512))
          (fun e k f => x2 (ix3 e k f)) (fun e k f => x3 (ix3 e k f)) (fun e f k => x4 (ix3 e f k)))
          (fun e => x1 (ix2 0 e)) d := by
  unfold matOf twoOf thirdOf
  rw [pay10_apply _ _ _ hg]
  simp only [pay8_apply, pay9_apply _ _ _ hg, pay5_apply _ _ _ hg, pay6_apply _ _ hg, gates_apply, rows_apply]
  pointwise [k0_pay7]
  rfl

end Stages

/-- The segments at an index: segment `s` holds columns `128 s` to `128 s + 127`. -/
theorem segs_apply (y : FVec Ideal S512x1024 .f32) (s : Fin 8) (r : Fin 512) (l : Fin 128) :
    segsOf (F := Ideal) y (ix3 s r l) = y (ix2 r ⟨128 * s.val + l.val, by omega⟩) := by
  let L : S8x512x128.Idx → Elt Ideal .f32 := fun j => y (ix2 (j 1) ⟨128 * (j 0).val + (j 2).val, by
    have h0 : (j 0).val < 8 := (j 0).isLt
    have h2 : (j 2).val < 128 := (j 2).isLt
    omega⟩)
  refine View.canon_apply_of_pieces (e := .f32) L _ ?_ (ix3 s r l) (segs_cover _ _ _ _ _ _ _ _ _)
  intro p hp
  rcases List.mem_cons.mp hp with rfl | hp
  · intro x
    pointwise [k0_pay2, k0_pay19, L]
    have e0 : (rO7.emb x 0).val = 7 := by
      have h : (x 0).val < 1 := (x 0).isLt
      show 7 + 1 * (x 0).val = 7; omega
    have e1 : rO7.emb x 1 = x 1 := Fin.ext (by show 0 + 1 * (x 1).val = (x 1).val; omega)
    have e2 : (rO7.emb x 2).val = (x 2).val := by show 0 + 1 * (x 2).val = (x 2).val; omega
    exact congrArg y (congrArg₂ ix2 e1.symm (Fin.ext (by show _ = 128 * (rO7.emb x 0).val + (rO7.emb x 2).val; rw [e0, e2]; try (show (x 2).val = _; omega))))
  rcases List.mem_cons.mp hp with rfl | hp
  · intro x
    pointwise [k0_pay18, L]
    have e0 : (rO6.emb x 0).val = 6 := by
      have h : (x 0).val < 1 := (x 0).isLt
      show 6 + 1 * (x 0).val = 6; omega
    have e1 : rO6.emb x 1 = x 1 := Fin.ext (by show 0 + 1 * (x 1).val = (x 1).val; omega)
    have e2 : (rO6.emb x 2).val = (x 2).val := by show 0 + 1 * (x 2).val = (x 2).val; omega
    exact congrArg y (congrArg₂ ix2 e1.symm (Fin.ext (by show _ = 128 * (rO6.emb x 0).val + (rO6.emb x 2).val; rw [e0, e2]; try (show (x 2).val = _; omega))))
  rcases List.mem_cons.mp hp with rfl | hp
  · intro x
    pointwise [k0_pay17, L]
    have e0 : (rO5.emb x 0).val = 5 := by
      have h : (x 0).val < 1 := (x 0).isLt
      show 5 + 1 * (x 0).val = 5; omega
    have e1 : rO5.emb x 1 = x 1 := Fin.ext (by show 0 + 1 * (x 1).val = (x 1).val; omega)
    have e2 : (rO5.emb x 2).val = (x 2).val := by show 0 + 1 * (x 2).val = (x 2).val; omega
    exact congrArg y (congrArg₂ ix2 e1.symm (Fin.ext (by show _ = 128 * (rO5.emb x 0).val + (rO5.emb x 2).val; rw [e0, e2]; try (show (x 2).val = _; omega))))
  rcases List.mem_cons.mp hp with rfl | hp
  · intro x
    pointwise [k0_pay16, L]
    have e0 : (rO4.emb x 0).val = 4 := by
      have h : (x 0).val < 1 := (x 0).isLt
      show 4 + 1 * (x 0).val = 4; omega
    have e1 : rO4.emb x 1 = x 1 := Fin.ext (by show 0 + 1 * (x 1).val = (x 1).val; omega)
    have e2 : (rO4.emb x 2).val = (x 2).val := by show 0 + 1 * (x 2).val = (x 2).val; omega
    exact congrArg y (congrArg₂ ix2 e1.symm (Fin.ext (by show _ = 128 * (rO4.emb x 0).val + (rO4.emb x 2).val; rw [e0, e2]; try (show (x 2).val = _; omega))))
  rcases List.mem_cons.mp hp with rfl | hp
  · intro x
    pointwise [k0_pay15, L]
    have e0 : (rO3.emb x 0).val = 3 := by
      have h : (x 0).val < 1 := (x 0).isLt
      show 3 + 1 * (x 0).val = 3; omega
    have e1 : rO3.emb x 1 = x 1 := Fin.ext (by show 0 + 1 * (x 1).val = (x 1).val; omega)
    have e2 : (rO3.emb x 2).val = (x 2).val := by show 0 + 1 * (x 2).val = (x 2).val; omega
    exact congrArg y (congrArg₂ ix2 e1.symm (Fin.ext (by show _ = 128 * (rO3.emb x 0).val + (rO3.emb x 2).val; rw [e0, e2]; try (show (x 2).val = _; omega))))
  rcases List.mem_cons.mp hp with rfl | hp
  · intro x
    pointwise [k0_pay14, L]
    have e0 : (rO2.emb x 0).val = 2 := by
      have h : (x 0).val < 1 := (x 0).isLt
      show 2 + 1 * (x 0).val = 2; omega
    have e1 : rO2.emb x 1 = x 1 := Fin.ext (by show 0 + 1 * (x 1).val = (x 1).val; omega)
    have e2 : (rO2.emb x 2).val = (x 2).val := by show 0 + 1 * (x 2).val = (x 2).val; omega
    exact congrArg y (congrArg₂ ix2 e1.symm (Fin.ext (by show _ = 128 * (rO2.emb x 0).val + (rO2.emb x 2).val; rw [e0, e2]; try (show (x 2).val = _; omega))))
  rcases List.mem_cons.mp hp with rfl | hp
  · intro x
    pointwise [k0_pay13, L]
    have e0 : (rO1.emb x 0).val = 1 := by
      have h : (x 0).val < 1 := (x 0).isLt
      show 1 + 1 * (x 0).val = 1; omega
    have e1 : rO1.emb x 1 = x 1 := Fin.ext (by show 0 + 1 * (x 1).val = (x 1).val; omega)
    have e2 : (rO1.emb x 2).val = (x 2).val := by show 0 + 1 * (x 2).val = (x 2).val; omega
    exact congrArg y (congrArg₂ ix2 e1.symm (Fin.ext (by show _ = 128 * (rO1.emb x 0).val + (rO1.emb x 2).val; rw [e0, e2]; try (show (x 2).val = _; omega))))
  rcases List.mem_cons.mp hp with rfl | hp
  · intro x
    pointwise [k0_pay12, L]
    have e0 : (rO0.emb x 0).val = 0 := by
      have h : (x 0).val < 1 := (x 0).isLt
      show 0 + 1 * (x 0).val = 0; omega
    have e1 : rO0.emb x 1 = x 1 := Fin.ext (by show 0 + 1 * (x 1).val = (x 1).val; omega)
    have e2 : (rO0.emb x 2).val = (x 2).val := by show 0 + 1 * (x 2).val = (x 2).val; omega
    exact congrArg y (congrArg₂ ix2 e1.symm (Fin.ext (by show _ = 128 * (rO0.emb x 0).val + (rO0.emb x 2).val; rw [e0, e2]; try (show (x 2).val = _; omega))))
  exact absurd hp (List.not_mem_nil)

/-- The block of a tile not in use is zero everywhere. -/
theorem zero_apply (y : S8x512x128.Idx) : View.canon (Val := Elt Ideal) (e := .f32) [⟨rO, k0_pay1 (F := Ideal)⟩] y = (0 : EReal) := by
  refine View.canon_apply_of_pieces (e := .f32) (fun _ => (show Elt Ideal .f32 from (0 : EReal))) _ ?_ y (zero_cover _ y)
  intro p hp
  rcases List.mem_cons.mp hp with rfl | hp
  · intro x; pointwise [k0_pay1]
  exact absurd hp (List.not_mem_nil)

end Cert.MoeVal

end
-- ==== Proof.MoeHalf.lean ====
module

public import Idealize.ShloMosaic.Lib.Pointwise
public import Idealize.ShloMosaic.PureOps.IdealRules

@[expose] public section

noncomputable section

namespace Cert.MoeVal

open Idealize.ShloMosaic

/-- Sixteen zero bits below a bf16 pattern give the f32 pattern of the same number. -/
theorem ieee_pad (h : BitVec 16) : Ideal.ieee 8 23 (h ++ 0#16 : BitVec 32) = Ideal.ieee 8 7 h := by
  have hw : (h ++ 0#16 : BitVec 32).toNat = h.toNat * 65536 := by
    rw [BitVec.toNat_append, BitVec.toNat_ofNat, Nat.zero_mod, Nat.or_zero, Nat.shiftLeft_eq]
  have hs : (h ++ 0#16 : BitVec 32).extractLsb' (8 + 23) 1 = h.extractLsb' (8 + 7) 1 := by
    apply BitVec.eq_of_toNat_eq
    rw [BitVec.extractLsb'_toNat, BitVec.extractLsb'_toNat, hw, Nat.shiftRight_eq_div_pow, Nat.shiftRight_eq_div_pow]
    norm_num; omega
  have he : (h ++ 0#16 : BitVec 32).extractLsb' 23 8 = h.extractLsb' 7 8 := by
    apply BitVec.eq_of_toNat_eq
    rw [BitVec.extractLsb'_toNat, BitVec.extractLsb'_toNat, hw, Nat.shiftRight_eq_div_pow, Nat.shiftRight_eq_div_pow]
    norm_num; omega
  have hf : ((h ++ 0#16 : BitVec 32).extractLsb' 0 23).toNat = (h.extractLsb' 0 7).toNat * 65536 := by
    rw [BitVec.extractLsb'_toNat, BitVec.extractLsb'_toNat, hw, Nat.shiftRight_eq_div_pow, Nat.shiftRight_eq_div_pow]
    norm_num; omega
  unfold Ideal.ieee
  simp only [hs, he, hf]
  generalize (h.extractLsb' 0 7).toNat = f
  generalize (h.extractLsb' 7 8).toNat = e
  generalize (h.extractLsb' (8 + 7) 1 == 1#1) = b
  have hz : (f * 65536 = 0) = (f = 0) := by simp
  simp only [hz]
  have p16 : (65536 : ℝ) = (2 : ℝ) ^ (16 : Int) := by norm_num
  have two : (2 : ℝ) ≠ 0 := by norm_num
  congr 1
  congr 1
  · congr 1
    push_cast
    rw [p16, mul_assoc, mul_assoc, mul_assoc, ← zpow_add₀ two]
    norm_num
  · congr 1
    have : ((2 ^ 23 + f * 65536 : Nat) : ℝ) = ((2 ^ 7 + f : Nat) : ℝ) * (2 : ℝ) ^ (16 : Int) := by push_cast; norm_num; ring
    rw [this, mul_assoc, mul_assoc, mul_assoc, ← zpow_add₀ two]
    congr 3
    ring

/-- A word is its two halves. -/
theorem word_halves (w : BitVec 32) : (w.extractLsb' 16 16 ++ w.extractLsb' 0 16 : BitVec 32) = w := by
  apply BitVec.eq_of_toNat_eq
  rw [BitVec.toNat_append, ← Nat.shiftLeft_add_eq_or_of_lt (BitVec.isLt _), BitVec.extractLsb'_toNat, BitVec.extractLsb'_toNat,
    Nat.shiftRight_eq_div_pow, Nat.shiftRight_eq_div_pow, Nat.shiftLeft_eq]
  have := w.isLt
  norm_num; omega

theorem low_half (w : BitVec 32) : Ideal.ofBits .bf16 (w.extractLsb' 0 16) = Ideal.ofBits .f32 (w <<< 16) := by
  show Ideal.ieee 8 7 _ = Ideal.ieee 8 23 (w <<< 16)
  rw [← ieee_pad]
  congr 1
  conv_rhs => rw [← word_halves w]
  exact (IdealRules.bf16_pack.lo_of_append _ _).symm
theorem high_half (w : BitVec 32) : Ideal.ofBits .bf16 (w.extractLsb' 16 16) = Ideal.ofBits .f32 (w &&& 4294901760#32) := by
  show Ideal.ieee 8 7 _ = Ideal.ieee 8 23 (w &&& 4294901760#32)
  rw [← ieee_pad]
  congr 1
  conv_rhs => rw [← word_halves w]
  exact (IdealRules.bf16_pack.hi_of_append _ _).symm

end Cert.MoeVal

end
-- ==== Proof.MoeRef.lean ====
module

public import proofs.«01_k».proof.Proof.MoeTile
public import proofs.«01_k».proof.Proof.MoeHalf
public import proofs.«01_k».proof.Proof.Gen.Reference2Ideal.Run
public import Idealize.ShloMosaic.Lib.BitcastConvert

@[expose] public section

set_option maxRecDepth 16384

noncomputable section

namespace Cert.MoeRef

open Cert.Reference2Ideal Cert.Reference2Ideal.Gen Cert.Reference2Ideal.Value
open Idealize.ShloMosaic Idealize.ShloMosaic.TcCoe
open Cert.MoeVal (half silu expert rms mix low_half high_half)

/-! ## The reference's stages -/

/-- The rows as numbers. -/
def xV (W : Vec Ideal S5x18432x128 .i32) : FVec Ideal S18432x1024 .f32 :=
  shapeCast _ (transpose S18432x2x4x128 [1, 3, 0, 2] (extf .f32 (bitcastToFloat (F := Ideal) .bf16 (Host.bitcastConvertNarrow S4x18432x128x2 16 (extractStridedSlice S4x18432x128 ![0, 0, 0] W slices_S5x18432x128_S4x18432x128_0_0_0) splits_S4x18432x128_w32_S4x18432x128x2_w16)) bitsLt_bf16_f32) transposes_S4x18432x128x2_S18432x2x4x128_1_3_0_2) shapeCasts_S18432x2x4x128_S18432x1024
/-- One hidden projection, all experts. -/
def hV (w : FVec Ideal S16x1024x512 .f32) (x : FVec Ideal S18432x1024 .f32) : FVec Ideal S16x18432x512 .f32 :=
  transpose S16x18432x512 [0, 2, 1] (Host.dotGeneral dot_S16x1024x512_S18432x1024_S16x512x18432_1_1_02_0_n_n none w x) transposes_S16x512x18432_S16x18432x512_0_2_1
/-- The gates, zeroed outside a row's group. -/
def gV (W : Vec Ideal S5x18432x128 .i32) (tg : Vec Ideal S36 .i32) : FVec Ideal S16x18432 .f32 :=
  transpose S16x18432 [1, 0] (select (cmpi .eq (broadcastInDim S18432x16 ![0, 1] bcast_S1x16_S18432x16_0_1 (select (andi (cmpi .ne (signi (broadcastInDim S1x16 ![1] bcast_S16_S1x16_1 (iotaInDim S16 32 0))) (broadcastInDim S1x16 ![] bcast_S_S1x16 (signi (id (constantI S_ 32 4#32))))) (cmpi .ne (Host.remsi (broadcastInDim S1x16 ![1] bcast_S16_S1x16_1 (iotaInDim S16 32 0)) (broadcastInDim S1x16 ![] bcast_S_S1x16 (id (constantI S_ 32 4#32)))) (broadcastInDim S1x16 ![] bcast_S_S1x16 (constantI S_ 32 0#32)))) (subi (Host.divsi (broadcastInDim S1x16 ![1] bcast_S16_S1x16_1 (iotaInDim S16 32 0)) (broadcastInDim S1x16 ![] bcast_S_S1x16 (id (constantI S_ 32 4#32)))) (broadcastInDim S1x16 ![] bcast_S_S1x16 (constantI S_ 32 1#32))) (Host.divsi (broadcastInDim S1x16 ![1] bcast_S16_S1x16_1 (iotaInDim S16 32 0)) (broadcastInDim S1x16 ![] bcast_S_S1x16 (id (constantI S_ 32 4#32)))))) (broadcastInDim S18432x16 ![0, 1] bcast_S18432x1_S18432x16_0_1 (broadcastInDim S18432x1 ![0] bcast_S18432_S18432x1_0 (shapeCast _ (broadcastInDim S36x512 ![0, 1] bcast_S36x1_S36x512_0_1 (broadcastInDim S36x1 ![0] bcast_S36_S36x1_0 tg)) shapeCasts_S36x512_S18432)))) (extractStridedSlice S18432x16 ![0, 0] (bitcastToFloat (F := Ideal) .f32 (shapeCast _ (extractStridedSlice S1x18432x128 ![4, 0, 0] W slices_S5x18432x128_S1x18432x128_4_0_0) shapeCasts_S1x18432x128_S18432x128)) slices_S18432x128_S18432x16_0_0) (broadcastInDim S18432x16 ![] bcast_S_S18432x16 (id (constant S_ .f32 0x00000000#32)))) transposes_S18432x16_S16x18432_1_0
/-- The hidden activations. -/
def actV (h u : FVec Ideal S16x18432x512 .f32) : FVec Ideal S16x18432x512 .f32 :=
  mulf (mulf h (Host.divf (broadcastInDim S16x18432x512 ![] bcast_S_S16x18432x512 (constant S_ .f32 0x3F800000#32)) (addf (broadcastInDim S16x18432x512 ![] bcast_S_S16x18432x512 (constant S_ .f32 0x3F800000#32)) (Host.exp (Host.negf h))))) u
/-- The weighted sum over the experts. -/
def yV (g : FVec Ideal S16x18432 .f32) (a : FVec Ideal S16x18432x512 .f32) (wd : FVec Ideal S16x512x1024 .f32) : FVec Ideal S18432x1024 .f32 :=
  Host.reduceAdd (mulf (broadcastInDim S16x18432x1024 ![0, 1, 2] bcast_S16x18432x1_S16x18432x1024_0_1_2 (broadcastInDim S16x18432x1 ![0, 1] bcast_S16x18432_S16x18432x1_0_1 g)) (Host.dotGeneral dot_S16x18432x512_S16x512x1024_S16x18432x1024_2_1_1_2_0_0 none a wd)) (constant S_ .f32 0x00000000#32) reducesTo_S16x18432x1024_S18432x1024_d0 h_S_
/-- Which rows are in use. -/
def uV (nu : Vec Ideal S1 .i32) : IVec S18432x1024 1 :=
  broadcastInDim S18432x1024 ![0, 1] bcast_S18432x1_S18432x1024_0_1 (broadcastInDim S18432x1 ![0] bcast_S18432_S18432x1_0 (shapeCast _ (broadcastInDim S36x512 ![0, 1] bcast_S36x1_S36x512_0_1 (broadcastInDim S36x1 ![0] bcast_S36_S36x1_0 (cmpi .slt (iotaInDim S36 32 0) (broadcastInDim S36 ![] bcast_S_S36 (shapeCast _ nu shapeCasts_S1_S_))))) shapeCasts_S36x512_S18432))
/-- The normed rows, zeroed out of use, as segments. -/
def outV (u : IVec S18432x1024 1) (y : FVec Ideal S18432x1024 .f32) (gp : FVec Ideal S1024 .f32) : FVec Ideal S8x18432x128 .f32 :=
  transpose S8x18432x128 [1, 0, 2] (shapeCast _ (select u (mulf (mulf y (broadcastInDim S18432x1024 ![0, 1] bcast_S18432x1_S18432x1024_0_1 (Host.rsqrt (addf (Host.divf (broadcastInDim S18432x1 ![0] bcast_S18432_S18432x1_0 (Host.reduceAdd (mulf y y) (constant S_ .f32 0x00000000#32) reducesTo_S18432x1024_S18432_d1 h_S_)) (broadcastInDim S18432x1 ![] bcast_S_S18432x1 (constant S_ .f32 0x44800000#32))) (broadcastInDim S18432x1 ![] bcast_S_S18432x1 (constant S_ .f32 0x358637BD#32)))))) (broadcastInDim S18432x1024 ![0, 1] bcast_S1x1024_S18432x1024_0_1 (broadcastInDim S1x1024 ![1] bcast_S1024_S1x1024_1 gp))) (broadcastInDim S18432x1024 ![] bcast_S_S18432x1024 (id (constant S_ .f32 0x00000000#32)))) shapeCasts_S18432x1024_S18432x8x128) transposes_S18432x8x128_S8x18432x128_1_0_2

/-- The reference's result by its stages. -/
theorem res_eq (m : (ℓ : Loc nD τ sig) → Buf (Elt Ideal) ℓ) (c : Dev nD) (W : Vec Ideal S5x18432x128 .i32) (tg : Vec Ideal S36 .i32) (nu : Vec Ideal S1 .i32)
    (gp : FVec Ideal S1024 .f32) (wg wu : FVec Ideal S16x1024x512 .f32) (wd : FVec Ideal S16x512x1024 .f32)
    (h0 : m ((c.tc : Thread nD τ).loc main_arg0) = W) (h1 : m ((c.tc : Thread nD τ).loc main_arg1) = tg) (h2 : m ((c.tc : Thread nD τ).loc main_arg2) = nu)
    (h3 : m ((c.tc : Thread nD τ).loc main_arg3) = gp) (h4 : m ((c.tc : Thread nD τ).loc main_arg4) = wg) (h5 : m ((c.tc : Thread nD τ).loc main_arg5) = wu)
    (h6 : m ((c.tc : Thread nD τ).loc main_arg6) = wd) :
    res_main_v55 (F := Ideal) m c = outV (uV nu) (yV (gV W tg) (actV (hV wg (xV W)) (hV wu (xV W))) wd) gp := by
  subst h0 h1 h2 h3 h4 h5 h6
  chain_rfl

theorem xV_apply (W : Vec Ideal S5x18432x128 .i32) (N : Fin 18432) (d : Fin 1024) :
    xV W (ix2 N d) = half (W (ix3 ⟨d.val / 128 % 4, by omega⟩ N ⟨d.val % 128, by omega⟩)) (d.val / 512) := by
  pointwise [xV, bitcastToFloat]
  generalize W (ix3 ⟨d.val / 128 % 4, by omega⟩ N ⟨d.val % 128, by omega⟩) = w
  by_cases h : d.val < 512
  · rw [show d.val / 512 = 0 by omega, half, if_pos rfl]; exact low_half w
  · rw [show d.val / 512 = 1 by omega, half, if_neg (by decide)]; exact high_half w

theorem hV_apply (w : FVec Ideal S16x1024x512 .f32) (x : FVec Ideal S18432x1024 .f32) (e : Fin 16) (N : Fin 18432) (f : Fin 512) :
    hV w x (ix3 e N f) = ∑ k : Fin 1024, x (ix2 N k) * w (ix3 e k f) := by
  pointwise [hV]
  exact Finset.sum_congr rfl fun k _ => mul_comm _ _

/-- The quotient by four, rounded down, of a word. -/
def quot (w : BitVec 32) : BitVec 32 :=
  Scalar.select
    (IntOp.andi (IntOp.cmpi .ne (if w = 0 then (0 : BitVec 32) else if w.msb = true then -1 else 1) (if (4#32 : BitVec 32) = 0 then (0 : BitVec 32) else if (4#32 : BitVec 32).msb = true then -1 else 1))
      (IntOp.cmpi .ne (IntOp.remsi ArithUnit.host w 4#32) 0#32))
    (IntOp.subi (IntOp.divsi ArithUnit.host w 4#32) 1#32) (IntOp.divsi ArithUnit.host w 4#32)
theorem quot_word : ∀ e : Fin 16, quot (BitVec.ofNat 32 e.val) = BitVec.ofNat 32 (e.val / 4) := by decide +kernel

theorem gV_apply (W : Vec Ideal S5x18432x128 .i32) (tg : Vec Ideal S36 .i32) (e : Fin 16) (N : Fin 18432) :
    gV W tg (ix2 e N) = if e.val / 4 = (tg (ix1 ⟨N.val / 512, by omega⟩)).toNat then Ideal.ofBits .f32 (W (ix3 4 N ⟨e.val, by omega⟩)) else 0 := by
  pointwise [gV, bitcastToFloat]
  show Scalar.select (IntOp.cmpi CmpIPredicate.eq (quot (BitVec.ofNat 32 e.val)) (tg (ix1 ⟨N.val / 512, _⟩))) _ _ = _
  rw [quot_word e]
  generalize tg (ix1 ⟨N.val / 512, by omega⟩) = t
  show (if BitVec.ofBool (BitVec.ofNat 32 (e.val / 4) == t) = 1#1 then _ else Ideal.ofBits .f32 0#32) = _
  by_cases h : BitVec.ofNat 32 (e.val / 4) = t
  · subst h
    rw [if_pos (by simp), if_pos (by rw [BitVec.toNat_ofNat]; omega)]
  · rw [if_neg (by rw [beq_eq_false_iff_ne.mpr h]; decide), if_neg, Ideal.ofBits_zero_f32]
    intro h'
    exact h (BitVec.eq_of_toNat_eq (by rw [BitVec.toNat_ofNat, ← h']; omega))

theorem actV_apply (h u : FVec Ideal S16x18432x512 .f32) (j : S16x18432x512.Idx) : actV h u j = silu (h j) * u j := by
  pointwise [actV]
  rfl

theorem yV_apply (g : FVec Ideal S16x18432 .f32) (a : FVec Ideal S16x18432x512 .f32) (wd : FVec Ideal S16x512x1024 .f32) (N : Fin 18432) (d : Fin 1024) :
    yV g a wd (ix2 N d) = ∑ e : Fin 16, g (ix2 e N) * ∑ f : Fin 512, a (ix3 e N f) * wd (ix3 e f d) := by
  pointwise [yV]

theorem uV_apply (nu : Vec Ideal S1 .i32) (N : Fin 18432) (d : Fin 1024) :
    uV nu (ix2 N d) = IntOp.cmpi .slt (BitVec.ofNat 32 (N.val / 512)) (nu (ix1 0)) := by
  pointwise [uV]

theorem outV_apply (u : IVec S18432x1024 1) (y : FVec Ideal S18432x1024 .f32) (gp : FVec Ideal S1024 .f32) (s : Fin 8) (N : Fin 18432) (l : Fin 128) :
    outV u y gp (ix3 s N l) = Scalar.select (u (ix2 N ⟨128 * s.val + l.val, by omega⟩)) (rms (fun e => y (ix2 N e)) (fun e => gp (ix1 e)) ⟨128 * s.val + l.val, by omega⟩) 0 := by
  pointwise [outV]
  have e1 : (⟨s.val * 128 + l.val, by omega⟩ : Fin 1024) = ⟨128 * s.val + l.val, by omega⟩ := Fin.ext (by show s.val * 128 + l.val = 128 * s.val + l.val; omega)
  rw [e1]
  show Scalar.select _ _ (Ideal.ofBits .f32 0#32) = _
  rw [Ideal.ofBits_zero_f32]
  rfl

end Cert.MoeRef

end
-- ==== Proof.MoeValue.lean ====
module

public import proofs.«01_k».proof.Proof.MoeRef
public import proofs.«01_k».proof.Proof.MoeFrame
public import Idealize.ShloMosaic.Lib.Pipeline.ValueKit
public import Idealize.ShloMosaic.Lib.StableHlo.Run

@[expose] public section

set_option maxRecDepth 16384

noncomputable section

namespace Cert.MoeVal

open Idealize.ShloMosaic
open Cert.Kernel2Ideal (S512x1024 S5x512x128 S4x1024x512 S4x512x1024 S1x1024 S8x512x128 S5x18432x128 S36 S1 S1024 S16x1024x512 S16x512x1024 S8x18432x128 grid0 k0_cond2)

/-- Sixteen terms of which only a group's four have a gate. -/
theorem sum_group (g : Nat) (hg : g < 4) (G E : Fin 16 → EReal) :
    ∑ e : Fin 16, (if e.val / 4 = g then G e else 0) * E e
      = G ⟨4 * g + 0, by omega⟩ * E ⟨4 * g + 0, by omega⟩ + G ⟨4 * g + 1, by omega⟩ * E ⟨4 * g + 1, by omega⟩
        + G ⟨4 * g + 2, by omega⟩ * E ⟨4 * g + 2, by omega⟩ + G ⟨4 * g + 3, by omega⟩ * E ⟨4 * g + 3, by omega⟩ := by
  rw [Finset.sum_fin_eq_sum_range]
  interval_cases g <;> simp [Finset.sum_range_succ]

/-- A row's result: the group's four experts mixed, normed, scaled. -/
def rowOut (W : Vec Ideal S5x18432x128 .i32) (gp : FVec Ideal S1024 .f32) (wg wu : FVec Ideal S16x1024x512 .f32) (wd : FVec Ideal S16x512x1024 .f32)
    (g : Nat) (hg : g < 4) (N : Fin 18432) (d : Fin 1024) : EReal :=
  rms (mix (fun k => Ideal.ofBits .f32 (W (ix3 4 N ⟨4 * g + k.val, by omega⟩)))
      (fun k => half (W (ix3 ⟨k.val / 128 % 4, by omega⟩ N ⟨k.val % 128, by omega⟩)) (k.val / 512))
      (fun e k f => wg (ix3 ⟨4 * g + e.val, by omega⟩ k f)) (fun e k f => wu (ix3 ⟨4 * g + e.val, by omega⟩ k f)) (fun e f k => wd (ix3 ⟨4 * g + e.val, by omega⟩ f k)))
    (fun e => gp (ix1 e)) d

open Cert.MoeRef in
/-- The reference at an index. -/
theorem ref_apply (W : Vec Ideal S5x18432x128 .i32) (tg : Vec Ideal S36 .i32) (nu : Vec Ideal S1 .i32)
    (gp : FVec Ideal S1024 .f32) (wg wu : FVec Ideal S16x1024x512 .f32) (wd : FVec Ideal S16x512x1024 .f32)
    (s : Fin 8) (N : Fin 18432) (l : Fin 128) (hg : (tg (ix1 ⟨N.val / 512, by omega⟩)).toNat < 4) :
    outV (uV nu) (yV (gV W tg) (actV (hV wg (xV W)) (hV wu (xV W))) wd) gp (ix3 s N l)
      = Scalar.select (IntOp.cmpi .slt (BitVec.ofNat 32 (N.val / 512)) (nu (ix1 0))) (rowOut W gp wg wu wd _ hg N ⟨128 * s.val + l.val, by omega⟩) 0 := by
  have hy : ∀ d : Fin 1024, yV (gV W tg) (actV (hV wg (xV W)) (hV wu (xV W))) wd (ix2 N d)
      = mix (fun k => Ideal.ofBits .f32 (W (ix3 4 N ⟨4 * (tg (ix1 ⟨N.val / 512, by omega⟩)).toNat + k.val, by omega⟩)))
          (fun k => half (W (ix3 ⟨k.val / 128 % 4, by omega⟩ N ⟨k.val % 128, by omega⟩)) (k.val / 512))
          (fun e k f => wg (ix3 ⟨4 * (tg (ix1 ⟨N.val / 512, by omega⟩)).toNat + e.val, by omega⟩ k f)) (fun e k f => wu (ix3 ⟨4 * (tg (ix1 ⟨N.val / 512, by omega⟩)).toNat + e.val, by omega⟩ k f))
          (fun e f k => wd (ix3 ⟨4 * (tg (ix1 ⟨N.val / 512, by omega⟩)).toNat + e.val, by omega⟩ f k)) d := by
    intro d
    rw [yV_apply]
    simp only [gV_apply, actV_apply, hV_apply, xV_apply]
    exact sum_group _ hg (fun e => Ideal.ofBits .f32 (W (ix3 4 N ⟨e.val, by omega⟩)))
      (fun e => expert (fun k => half (W (ix3 ⟨k.val / 128 % 4, by omega⟩ N ⟨k.val % 128, by omega⟩)) (k.val / 512)) (fun k f => wg (ix3 e k f)) (fun k f => wu (ix3 e k f)) (fun f k => wd (ix3 e f k)) d)
  rw [outV_apply, uV_apply, funext hy]
  rfl

open Cert.MoeRef in
/-- The same, the row's tile named. -/
theorem ref_apply_of (W : Vec Ideal S5x18432x128 .i32) (tg : Vec Ideal S36 .i32) (nu : Vec Ideal S1 .i32)
    (gp : FVec Ideal S1024 .f32) (wg wu : FVec Ideal S16x1024x512 .f32) (wd : FVec Ideal S16x512x1024 .f32)
    (s : Fin 8) (N : Fin 18432) (l : Fin 128) (T : Fin 36) (hT : N.val / 512 = T.val) (hg : (tg (ix1 T)).toNat < 4) :
    outV (uV nu) (yV (gV W tg) (actV (hV wg (xV W)) (hV wu (xV W))) wd) gp (ix3 s N l)
      = Scalar.select (IntOp.cmpi .slt (BitVec.ofNat 32 T.val) (nu (ix1 0))) (rowOut W gp wg wu wd _ hg N ⟨128 * s.val + l.val, by omega⟩) 0 := by
  obtain rfl : T = ⟨N.val / 512, Nat.div_lt_of_lt_mul N.isLt⟩ := Fin.ext hT.symm
  exact ref_apply W tg nu gp wg wu wd s N l hg

theorem idx_parts (y : S8x512x128.Idx) : ∃ (s : Fin 8) (r : Fin 512) (l : Fin 128), y = ix3 s r l := ⟨y 0, y 1, y 2, eq_ix3 y⟩

open Cert.Kernel2Ideal.Moe in
theorem cond_iff (i : grid0.Coords) (n : BitVec 32) : (k0_cond2 i n = 1#1) = (IntOp.cmpi .slt (BitVec.ofNat 32 (i 0).val) n = 1#1) := by
  show (IntOp.cmpi .ne ((IntOp.cmpi .slt (BitVec.ofNat 32 (i 0).val) n).zeroExtend 32) 0#32 = 1#1) = _
  generalize IntOp.cmpi .slt (BitVec.ofNat 32 (i 0).val) n = b
  rcases BitVec.eq_zero_or_eq_one b with rfl | rfl <;> rfl

open Cert.Kernel2Ideal.Moe in
/-- A tile at an index. -/
theorem tile_apply (i : grid0.Coords) (n g : BitVec 32) (hg : g.toNat < 4) (x0 : Vec Ideal S5x512x128 .i32) (x1 : Vec Ideal S1x1024 .f32) (x2 x3 : Vec Ideal S4x1024x512 .bf16) (x4 : Vec Ideal S4x512x1024 .bf16)
    (s : Fin 8) (r : Fin 512) (l : Fin 128) :
    tileOut (F := Ideal) i n g x0 x1 x2 x3 x4 (ix3 s r l) = Scalar.select (IntOp.cmpi .slt (BitVec.ofNat 32 (i 0).val) n)
      (rms (mix (fun k => Ideal.ofBits .f32 (x0 (ix3 4 r ⟨4 * g.toNat + k.val, by omega⟩)))
          (fun k => half (x0 (ix3 ⟨k.val / 128 % 4, by omega⟩ r ⟨k.val % 128, by omega⟩)) (k.val / 512))
          (fun e k f => x2 (ix3 e k f)) (fun e k f => x3 (ix3 e k f)) (fun e f k => x4 (ix3 e f k)))
          (fun e => x1 (ix2 0 e)) ⟨128 * s.val + l.val, by omega⟩) 0 := by
  unfold tileOut
  simp only [cond_iff]
  by_cases h : IntOp.cmpi .slt (BitVec.ofNat 32 (i 0).val) n = 1#1
  · rw [if_pos h, segs_apply, mat_apply _ hg, h]; rfl
  · rw [if_neg h, zero_apply]
    exact (if_neg h).symm

open Cert.Kernel2Ideal.Moe in
/-- A tile at an index, its blocks read from the arrays. -/
theorem tile_row (i : grid0.Coords) (n g : BitVec 32) (hg : g.toNat < 4) (x0 : Vec Ideal S5x512x128 .i32) (x1 : Vec Ideal S1x1024 .f32) (x2 x3 : Vec Ideal S4x1024x512 .bf16) (x4 : Vec Ideal S4x512x1024 .bf16)
    (W : Vec Ideal S5x18432x128 .i32) (gp : FVec Ideal S1024 .f32) (wg wu : FVec Ideal S16x1024x512 .f32) (wd : FVec Ideal S16x512x1024 .f32)
    (h0 : ∀ (a : Fin 5) (r : Fin 512) (l : Fin 128), x0 (ix3 a r l) = W (ix3 a ⟨512 * (i 0).val + r.val, by have : (i 0).val < 36 := (i 0).isLt; omega⟩ l))
    (h1 : ∀ e : Fin 1024, x1 (ix2 0 e) = gp (ix1 e))
    (h2 : ∀ (k : Fin 4) (a : Fin 1024) (b : Fin 512), x2 (ix3 k a b) = wg (ix3 ⟨4 * g.toNat + k.val, by omega⟩ a b))
    (h3 : ∀ (k : Fin 4) (a : Fin 1024) (b : Fin 512), x3 (ix3 k a b) = wu (ix3 ⟨4 * g.toNat + k.val, by omega⟩ a b))
    (h4 : ∀ (k : Fin 4) (a : Fin 512) (b : Fin 1024), x4 (ix3 k a b) = wd (ix3 ⟨4 * g.toNat + k.val, by omega⟩ a b))
    (s : Fin 8) (r : Fin 512) (l : Fin 128) :
    tileOut (F := Ideal) i n g x0 x1 x2 x3 x4 (ix3 s r l) = Scalar.select (IntOp.cmpi .slt (BitVec.ofNat 32 (i 0).val) n)
      (rowOut W gp wg wu wd g.toNat hg ⟨512 * (i 0).val + r.val, by have : (i 0).val < 36 := (i 0).isLt; omega⟩ ⟨128 * s.val + l.val, by omega⟩) 0 := by
  rw [tile_apply i n g hg]
  simp only [h0, h1, h2, h3, h4]
  rfl

end Cert.MoeVal

namespace Cert.Kernel2Ideal.Moe

open Cert.Kernel2Ideal.Gen
open Cert.Kernel2Ideal (nD τ sig main_arg0 main_arg1 main_arg2 main_arg3 main_arg4 main_arg5 main_arg6 main_v0 main_v1 main_v2 main_v3 main_v4 grid0 spec0 S36 S1 S5x18432x128 S1024 S16x1024x512 S16x512x1024 S8x18432x128 S1x1024)
open Idealize.ShloMosaic Idealize.ShloMosaic.TcCoe Idealize.ShloMosaic.StableHlo
open Idealize.ShloMosaic.Pipeline (Dat)

variable (m : (ℓ : Loc nD τ sig) → Buf (Elt Ideal) ℓ)

/-- The casts before the call change no number; the scale is reshaped. -/
theorem V_v0 (c : Dev nD) : V m c main_v0 = (truncf (F := Ideal) .bf16 (show FVec Ideal S16x1024x512 .f32 from m ((c : Thread nD τ).loc main_arg4)) bitsLt_bf16_f32 : FVec Ideal S16x1024x512 .bf16) := by
  unfold V hostOps0; after_results
theorem V_v1 (c : Dev nD) : V m c main_v1 = (truncf (F := Ideal) .bf16 (show FVec Ideal S16x1024x512 .f32 from m ((c : Thread nD τ).loc main_arg5)) bitsLt_bf16_f32 : FVec Ideal S16x1024x512 .bf16) := by
  unfold V hostOps0; after_results
theorem V_v2 (c : Dev nD) : V m c main_v2 = (truncf (F := Ideal) .bf16 (show FVec Ideal S16x512x1024 .f32 from m ((c : Thread nD τ).loc main_arg6)) bitsLt_bf16_f32 : FVec Ideal S16x512x1024 .bf16) := by
  unfold V hostOps0; after_results
theorem V_v3 (c : Dev nD) : V m c main_v3 = (shapeCast S1x1024 (show FVec Ideal S1024 .f32 from m ((c : Thread nD τ).loc main_arg3)) shapeCasts_S1024_S1x1024 : FVec Ideal S1x1024 .f32) := by
  unfold V hostOps0; after_results; rfl

/-- The arguments as vectors. -/
abbrev aW (c : Dev nD) : Vec Ideal S5x18432x128 .i32 := m ((c : Thread nD τ).loc main_arg0)
abbrev aG (c : Dev nD) : Vec Ideal S36 .i32 := m ((c : Thread nD τ).loc main_arg1)
abbrev aN (c : Dev nD) : Vec Ideal S1 .i32 := m ((c : Thread nD τ).loc main_arg2)
abbrev aS (c : Dev nD) : FVec Ideal S1024 .f32 := m ((c : Thread nD τ).loc main_arg3)
abbrev aA (c : Dev nD) : FVec Ideal S16x1024x512 .f32 := m ((c : Thread nD τ).loc main_arg4)
abbrev aB (c : Dev nD) : FVec Ideal S16x1024x512 .f32 := m ((c : Thread nD τ).loc main_arg5)
abbrev aD (c : Dev nD) : FVec Ideal S16x512x1024 .f32 := m ((c : Thread nD τ).loc main_arg6)

variable (hO : Ok m) (c : Dev nD) (t : Fin (cfgM m hO).N)

theorem index0 : ((cfgM m hO).win 0).index t = ![0, (grid0.coords t 0).val, 0] := by
  have : ∀ t : Fin grid0.N, Cert.Kernel2Ideal.cc0_transform_0 (grid0.coords t) = ![0, (grid0.coords t 0).val, 0] := by decide +kernel
  exact this t
theorem index5 : ((cfgM m hO).win 5).index t = ![0, (grid0.coords t 0).val, 0] := by
  have : ∀ t : Fin grid0.N, Cert.Kernel2Ideal.cc0_transform_5 (grid0.coords t) = ![0, (grid0.coords t 0).val, 0] := by decide +kernel
  exact this t

theorem blk0 (a : Fin 5) (r : Fin 512) (l : Fin 128) :
    iblk m hO c 0 t (ix3 a r l) = aW m c (ix3 a ⟨512 * (grid0.coords t 0).val + r.val, by have : (grid0.coords t 0).val < 36 := (grid0.coords t 0).isLt; omega⟩ l) := by
  unfold iblk
  show V m c main_arg0 ((((cfgM m hO).win 0).blk t).view.emb (ix3 a r l)) = _
  rw [V_arg0]
  refine congrArg (aW m c) (funext fun x => Fin.ext ?_)
  have e : ((((cfgM m hO).win 0).blk t).view.emb (ix3 a r l) x : ℕ) = ((cfgM m hO).win 0).index t x * (![5, 512, 128] : Fin 3 → ℕ) x + 1 * ((ix3 a r l : S5x512x128.Idx) x).val := rfl
  rw [index0] at e
  fin_cases x
  · exact e.trans (by show 0 * 5 + 1 * a.val = a.val; omega)
  · exact e.trans (by show (grid0.coords t 0).val * 512 + 1 * r.val = 512 * (grid0.coords t 0).val + r.val; omega)
  · exact e.trans (by show 0 * 128 + 1 * l.val = l.val; omega)

/-- Tile `i`'s number. -/
abbrev tI (i : grid0.Coords) : Fin 36 := ⟨(i 0).val, (i 0).isLt⟩

theorem tbl0 (k : Fin 36) : (show S36.Idx → BitVec 32 from tbl m 0) (ix1 k) = aG m c (ix1 k) := congrFun (tbl_groups m c) (ix1 k)
theorem gAt_eq (i : grid0.Coords) : gAt m c i = aG m c (ix1 (tI i)) := by
  unfold gAt gWord
  refine Eq.trans ?_ (tbl0 m c (tI i))
  exact congrArg (show S36.Idx → BitVec 32 from tbl m 0) (funext fun x => by fin_cases x; rfl)
theorem nAt_eq : nAt m c = aN m c (ix1 0) := by
  unfold nAt nWord
  refine (congrFun ((V_pre m c 1).symm.trans (V_arg2 m c)) _).trans ?_
  exact congrArg (aN m c) (funext fun x => by fin_cases x; rfl)

theorem index2 : ((cfgM m hO).win 2).index t = ![(aG m c (ix1 (tI (grid0.coords t)))).toNat, 0, 0] := by
  exact (index_2 (tbl m) (grid0.coords t)).trans (congrArg (fun w : BitVec 32 => ![w.toNat, 0, 0]) (tbl0 m c (tI (grid0.coords t))))
theorem index3 : ((cfgM m hO).win 3).index t = ![(aG m c (ix1 (tI (grid0.coords t)))).toNat, 0, 0] := by
  exact (index_3 (tbl m) (grid0.coords t)).trans (congrArg (fun w : BitVec 32 => ![w.toNat, 0, 0]) (tbl0 m c (tI (grid0.coords t))))
theorem index4 : ((cfgM m hO).win 4).index t = ![(aG m c (ix1 (tI (grid0.coords t)))).toNat, 0, 0] := by
  exact (index_4 (tbl m) (grid0.coords t)).trans (congrArg (fun w : BitVec 32 => ![w.toNat, 0, 0]) (tbl0 m c (tI (grid0.coords t))))

theorem blk1 (e : Fin 1024) : iblk m hO c 1 t (ix2 0 e) = aS m c (ix1 e) := by
  unfold iblk
  show V m c main_v3 ((((cfgM m hO).win 1).blk t).view.emb (ix2 0 e)) = _
  rw [V_v3]
  have h : (((cfgM m hO).win 1).blk t).view.emb (ix2 0 e) = (ix2 0 e : S1x1024.Idx) := by
    refine funext fun x => Fin.ext ?_
    have e' : ((((cfgM m hO).win 1).blk t).view.emb (ix2 0 e) x : ℕ) = (![0, 0] : Fin 2 → ℕ) x * (![1, 1024] : Fin 2 → ℕ) x + 1 * ((ix2 0 e : S1x1024.Idx) x).val := rfl
    fin_cases x
    · exact e'.trans rfl
    · exact e'.trans (by show 0 * 1024 + 1 * e.val = e.val; omega)
  rw [h]
  show shapeCast S1x1024 (aS m c) shapeCasts_S1024_S1x1024 (ix2 0 e) = _
  pointwise

theorem blk2 (hg : (aG m c (ix1 (tI (grid0.coords t)))).toNat < 4) (k : Fin 4) (a : Fin 1024) (b : Fin 512) :
    iblk m hO c 2 t (ix3 k a b) = aA m c (ix3 ⟨4 * (aG m c (ix1 (tI (grid0.coords t)))).toNat + k.val, by omega⟩ a b) := by
  unfold iblk
  show V m c main_v0 ((((cfgM m hO).win 2).blk t).view.emb (ix3 k a b)) = _
  rw [V_v0]
  refine congrArg (aA m c) (funext fun x => Fin.ext ?_)
  have e : ((((cfgM m hO).win 2).blk t).view.emb (ix3 k a b) x : ℕ) = ((cfgM m hO).win 2).index t x * (![4, 1024, 512] : Fin 3 → ℕ) x + 1 * ((ix3 k a b : (⟨3, ![4, 1024, 512]⟩ : Shape).Idx) x).val := rfl
  rw [index2 m hO c] at e
  fin_cases x
  · exact e.trans (by show (aG m c (ix1 (tI (grid0.coords t)))).toNat * 4 + 1 * k.val = 4 * (aG m c (ix1 (tI (grid0.coords t)))).toNat + k.val; omega)
  · exact e.trans (by show 0 * 1024 + 1 * a.val = a.val; omega)
  · exact e.trans (by show 0 * 512 + 1 * b.val = b.val; omega)

theorem blk3 (hg : (aG m c (ix1 (tI (grid0.coords t)))).toNat < 4) (k : Fin 4) (a : Fin 1024) (b : Fin 512) :
    iblk m hO c 3 t (ix3 k a b) = aB m c (ix3 ⟨4 * (aG m c (ix1 (tI (grid0.coords t)))).toNat + k.val, by omega⟩ a b) := by
  unfold iblk
  show V m c main_v1 ((((cfgM m hO).win 3).blk t).view.emb (ix3 k a b)) = _
  rw [V_v1]
  refine congrArg (aB m c) (funext fun x => Fin.ext ?_)
  have e : ((((cfgM m hO).win 3).blk t).view.emb (ix3 k a b) x : ℕ) = ((cfgM m hO).win 3).index t x * (![4, 1024, 512] : Fin 3 → ℕ) x + 1 * ((ix3 k a b : (⟨3, ![4, 1024, 512]⟩ : Shape).Idx) x).val := rfl
  rw [index3 m hO c] at e
  fin_cases x
  · exact e.trans (by show (aG m c (ix1 (tI (grid0.coords t)))).toNat * 4 + 1 * k.val = 4 * (aG m c (ix1 (tI (grid0.coords t)))).toNat + k.val; omega)
  · exact e.trans (by show 0 * 1024 + 1 * a.val = a.val; omega)
  · exact e.trans (by show 0 * 512 + 1 * b.val = b.val; omega)

theorem blk4 (hg : (aG m c (ix1 (tI (grid0.coords t)))).toNat < 4) (k : Fin 4) (a : Fin 512) (b : Fin 1024) :
    iblk m hO c 4 t (ix3 k a b) = aD m c (ix3 ⟨4 * (aG m c (ix1 (tI (grid0.coords t)))).toNat + k.val, by omega⟩ a b) := by
  unfold iblk
  show V m c main_v2 ((((cfgM m hO).win 4).blk t).view.emb (ix3 k a b)) = _
  rw [V_v2]
  refine congrArg (aD m c) (funext fun x => Fin.ext ?_)
  have e : ((((cfgM m hO).win 4).blk t).view.emb (ix3 k a b) x : ℕ) = ((cfgM m hO).win 4).index t x * (![4, 512, 1024] : Fin 3 → ℕ) x + 1 * ((ix3 k a b : (⟨3, ![4, 512, 1024]⟩ : Shape).Idx) x).val := rfl
  rw [index4 m hO c] at e
  fin_cases x
  · exact e.trans (by show (aG m c (ix1 (tI (grid0.coords t)))).toNat * 4 + 1 * k.val = 4 * (aG m c (ix1 (tI (grid0.coords t)))).toNat + k.val; omega)
  · exact e.trans (by show 0 * 512 + 1 * a.val = a.val; omega)
  · exact e.trans (by show 0 * 1024 + 1 * b.val = b.val; omega)

open Cert.MoeRef Cert.MoeVal in
/-- The array the call leaves is the reference's function of the arguments. -/
theorem out_eq_ref (hg : GroupsOK (aG m c)) :
    outAt m hO c = outV (uV (aN m c)) (yV (gV (aW m c) (aG m c)) (actV (hV (aA m c) (xV (aW m c))) (hV (aB m c) (xV (aW m c)))) (aD m c)) (aS m c) := by
  unfold outAt
  refine (dats m hO 0 c).arrAt_eq_of_covers 5 _ ?_ fun t hf y => ?_
  · exact of_decide_eq_true (by chain_rfl)
  have hi : (grid0.coords t 0).val < 36 := (grid0.coords t 0).isLt
  show (dats m hO 0 c).after 5 t y = _
  rw [after_5]
  obtain ⟨s, r, l, rfl⟩ := idx_parts y
  have he : (((cfgM m hO).win 5).blk t).view.emb (ix3 s r l) = (ix3 s ⟨512 * (grid0.coords t 0).val + r.val, by omega⟩ l : S8x18432x128.Idx) := by
    refine funext fun x => Fin.ext ?_
    have e : ((((cfgM m hO).win 5).blk t).view.emb (ix3 s r l) x : ℕ) = ((cfgM m hO).win 5).index t x * (![8, 512, 128] : Fin 3 → ℕ) x + 1 * ((ix3 s r l : Cert.Kernel2Ideal.S8x512x128.Idx) x).val := rfl
    rw [index5] at e
    fin_cases x
    · exact e.trans (by show 0 * 8 + 1 * s.val = s.val; omega)
    · exact e.trans (by show (grid0.coords t 0).val * 512 + 1 * r.val = 512 * (grid0.coords t 0).val + r.val; omega)
    · exact e.trans (by show 0 * 128 + 1 * l.val = l.val; omega)
  rw [he]
  have hq : (512 * (grid0.coords t 0).val + r.val) / 512 = (tI (grid0.coords t)).val := by show _ = (grid0.coords t 0).val; omega
  refine Eq.trans ?_ (ref_apply_of (aW m c) (aG m c) (aN m c) (aS m c) (aA m c) (aB m c) (aD m c) s ⟨512 * (grid0.coords t 0).val + r.val, by omega⟩ l (tI (grid0.coords t)) hq (hg _)).symm
  rw [nAt_eq, gAt_eq]
  exact tile_row (grid0.coords t) _ _ (hg _) _ _ _ _ _ _ _ _ _ _ (blk0 m hO c t) (blk1 m hO c t) (blk2 m hO c t (hg _)) (blk3 m hO c t (hg _)) (blk4 m hO c t (hg _)) s r l

end Cert.Kernel2Ideal.Moe

end
-- ==== Proof.Resid.lean ====
/-
  The residual call: what its grid leaves and what the reference computes are one function of the three arguments,
  `resid`: an entry of `x1` plus its sequence's gate times the entry of the segmented rows.
-/
module

public import proofs.«01_k».proof.Proof.Gen.Kernel3
public import proofs.«01_k».proof.Proof.Gen.Kernel3Ideal.Value
public import proofs.«01_k».proof.Proof.Gen.Reference3
public import proofs.«01_k».proof.Proof.Gen.Reference3Ideal.Run
public import Idealize.ShloMosaic.Lib.Pipeline.ValueKit
public import Idealize.ShloMosaic.Lib.Pipeline.Regions

@[expose] public section

noncomputable section

namespace Cert.Kernel3Ideal.Resid

open Idealize.ShloMosaic Idealize.ShloMosaic.TcCoe Idealize.SL.Sem
open Cert.Kernel3Ideal Cert.Kernel3Ideal.Gen Cert.Kernel3Ideal.Value

variable {F : FTy → Type} [FloatOps F]

/-- Entry (n, d): `x1` there, plus the gate of sequence n / 4096 at d times lane d % 128 of row n in segment d / 128. -/
def resid (x : S16384x1024.Idx → Elt F .f32) (a : S4x1x1024.Idx → Elt F .f32) (r : S8x16384x128.Idx → Elt F .f32) : S16384x1024.Idx → Elt F .f32 :=
  fun i =>
    have h0 : (i 0).val < 16384 := (i 0).isLt
    have h1 : (i 1).val < 1024 := (i 1).isLt
    FloatOps.addf (x i) (FloatOps.mulf (a (ix3 ⟨(i 0).val / 4096, by omega⟩ (0 : Fin 1) ⟨(i 1).val, h1⟩))
      (r (ix3 ⟨(i 1).val / 128, by omega⟩ ⟨(i 0).val, h0⟩ ⟨(i 1).val % 128, by omega⟩)))

/-- The reference's term, entry by entry. -/
theorem ref_eq (x : S16384x1024.Idx → Elt F .f32) (a : S4x1x1024.Idx → Elt F .f32) (r : S8x16384x128.Idx → Elt F .f32)
    (hx : Cert.Reference3Ideal.S16384x1024.ShapeCasts Cert.Reference3Ideal.S4x4096x1024)
    (ha : Cert.Reference3Ideal.S4x1x1024.BroadcastsInDim Cert.Reference3Ideal.S4x4096x1024 ![0, 1, 2])
    (ht : Cert.Reference3Ideal.S8x16384x128.Transposes [1, 0, 2] Cert.Reference3Ideal.S16384x8x128)
    (hr : Cert.Reference3Ideal.S16384x8x128.ShapeCasts Cert.Reference3Ideal.S4x4096x1024)
    (ho : Cert.Reference3Ideal.S4x4096x1024.ShapeCasts Cert.Reference3Ideal.S16384x1024) :
    shapeCast Cert.Reference3Ideal.S16384x1024 (addf (shapeCast Cert.Reference3Ideal.S4x4096x1024 x hx) (mulf (broadcastInDim Cert.Reference3Ideal.S4x4096x1024 ![0, 1, 2] ha a)
      (shapeCast Cert.Reference3Ideal.S4x4096x1024 (transpose Cert.Reference3Ideal.S16384x8x128 [1, 0, 2] r ht) hr))) ho = resid x a r := by
  funext i
  have h0 : (i 0).val < 16384 := (i 0).isLt
  have h1 : (i 1).val < 1024 := (i 1).isLt
  have hi : i = (ix2 ⟨(i 0).val, h0⟩ ⟨(i 1).val, h1⟩ : S16384x1024.Idx) := by
    funext k; fin_cases k <;> rfl
  generalize (⟨(i 0).val, h0⟩ : Fin 16384) = n at hi
  generalize (⟨(i 1).val, h1⟩ : Fin 1024) = d at hi
  subst hi
  have hn := n.isLt
  have hd := d.isLt
  refine (shapeCast_apply _ ho _ (ix3 ⟨n.val / 4096, by omega⟩ ⟨n.val % 4096, by omega⟩ d) (by
    rw [Shape.rowMajor_val_three, Shape.rowMajor_val_two]; show (n.val / 4096 * 4096 + n.val % 4096) * 1024 + d.val = n.val * 1024 + d.val; omega)).trans ?_
  refine congrArg₂ FloatOps.addf ?_ (congrArg₂ FloatOps.mulf ?_ ?_)
  · exact shapeCast_apply _ hx _ (ix2 n d) (by
      rw [Shape.rowMajor_val_three, Shape.rowMajor_val_two]; show n.val * 1024 + d.val = (n.val / 4096 * 4096 + n.val % 4096) * 1024 + d.val; omega)
  · exact broadcastInDim_apply _ ha a _ _ (fun k => by fin_cases k <;> rfl)
  · refine (shapeCast_apply _ hr _ (ix3 n ⟨d.val / 128, by omega⟩ ⟨d.val % 128, by omega⟩) (by
      rw [Shape.rowMajor_val_three, Shape.rowMajor_val_three]
      show (n.val * 8 + d.val / 128) * 128 + d.val % 128 = (n.val / 4096 * 4096 + n.val % 4096) * 1024 + d.val; omega)).trans ?_
    exact transpose_apply _ _ ht _ _ (fun k => by fin_cases k <;> rfl)

variable (m : (ℓ : Loc nD τ sig) → Buf (Elt F) ℓ)

theorem index_x : ∀ t : Fin cfg0.N, win0_0.index t = ![(grid0.coords t 0).val, 0] :=
  (by decide +kernel : ∀ t : Fin grid0.N, win0_0.index t = ![(grid0.coords t 0).val, 0])
theorem index_a : ∀ t : Fin cfg0.N, win0_1.index t = ![(grid0.coords t 0).val / 8, 0, 0] :=
  (by decide +kernel : ∀ t : Fin grid0.N, win0_1.index t = ![(grid0.coords t 0).val / 8, 0, 0])
theorem index_r : ∀ t : Fin cfg0.N, win0_2.index t = ![0, (grid0.coords t 0).val, 0] :=
  (by decide +kernel : ∀ t : Fin grid0.N, win0_2.index t = ![0, (grid0.coords t 0).val, 0])
theorem index_o : ∀ t : Fin cfg0.N, win0_3.index t = ![(grid0.coords t 0).val, 0] :=
  (by decide +kernel : ∀ t : Fin grid0.N, win0_3.index t = ![(grid0.coords t 0).val, 0])

/-- A segment loaded from the block of rows, its unit axis dropped, is the block at that segment. -/
theorem seg_apply (x2 : Vec F S8x512x128 .f32) (k : ℕ) (hk : k < 8) (hb : ∀ a, (![k, 0, 0] : Fin 3 → ℕ) a + S1x512x128.size a ≤ S8x512x128.size a) (p : Fin 512) (l : Fin 128) :
    shapeCast S512x128 (View.ld x2 (Rect.unit (s := S8x512x128) ![k, 0, 0] S1x512x128.size hb)) shapeCasts_S1x512x128_S512x128 (ix2 p l) = x2 (ix3 ⟨k, hk⟩ p l) := by
  refine (shapeCast_apply _ _ _ (ix3 (0 : Fin 1) p l) (by
    rw [Shape.rowMajor_val_three, Shape.rowMajor_val_two]; show (0 * 512 + p.val) * 128 + l.val = p.val * 128 + l.val; omega)).trans ?_
  refine congrArg x2 (funext fun a => Fin.ext ?_)
  fin_cases a
  · show k + 1 * 0 = k; omega
  · show 0 + 1 * p.val = p.val; omega
  · show 0 + 1 * l.val = l.val; omega

/-- What the body leaves in its block, entry by entry. -/
theorem out_apply (x0 : Vec F S512x1024 .f32) (x1 : Vec F S1x1x1024 .f32) (x2 : Vec F S8x512x128 .f32) (p : Fin 512) (d : Fin 1024) :
    out0_3 x0 x1 x2 (ix2 p d) = FloatOps.addf (x0 (ix2 p d)) (FloatOps.mulf (x1 (ix3 (0 : Fin 1) (0 : Fin 1) d))
      (x2 (ix3 ⟨d.val / 128, by omega⟩ p ⟨d.val % 128, by omega⟩))) := by
  refine (canon3_eq _ _ _ _ _ _ _ _ _ _ (ix2 p d)).trans ?_
  refine congrArg₂ FloatOps.addf (congrArg x0 (funext fun a => Fin.ext ?_)) (congrArg₂ FloatOps.mulf (congrArg x1 (funext fun a => Fin.ext ?_)) ?_)
  · fin_cases a
    · show 0 + 1 * p.val = p.val; omega
    · show 0 + 1 * d.val = d.val; omega
  · fin_cases a
    · rfl
    · rfl
    · show 0 + 1 * d.val = d.val; omega
  · have e : (ix3_2 (ix2 p d : S512x1024.Idx) : S512x128.Idx) = ix2 p ⟨d.val % 128, by omega⟩ := by
      funext a; fin_cases a <;> rfl
    rw [e]
    have hs : csel3_2 (ix2 p d : S512x1024.Idx) = (⟨d.val / 128, by omega⟩ : Fin 8) := rfl
    rw [hs]
    generalize (⟨d.val / 128, by omega⟩ : Fin 8) = s
    generalize (⟨d.val % 128, by omega⟩ : Fin 128) = l
    match s with
    | ⟨0, h⟩ => exact seg_apply x2 0 h _ p l
    | ⟨1, h⟩ => exact seg_apply x2 1 h _ p l
    | ⟨2, h⟩ => exact seg_apply x2 2 h _ p l
    | ⟨3, h⟩ => exact seg_apply x2 3 h _ p l
    | ⟨4, h⟩ => exact seg_apply x2 4 h _ p l
    | ⟨5, h⟩ => exact seg_apply x2 5 h _ p l
    | ⟨6, h⟩ => exact seg_apply x2 6 h _ p l
    | ⟨7, h⟩ => exact seg_apply x2 7 h _ p l

/-- The result array after the run. -/
theorem out_eq (c : Dev nD) : (dats m 0 c).arrAt 3 cfg0.N
    = resid (m ((c : Thread nD τ).loc main_arg0)) (m ((c : Thread nD τ).loc main_arg1)) (m ((c : Thread nD τ).loc main_arg2)) := by
  refine (dats m 0 c).arrAt_eq_of_covers 3 _ (by decide +kernel) fun t hf y => ?_
  have hi : (grid0.coords t 0).val < 32 := (grid0.coords t 0).isLt
  show (dats m 0 c).after 3 t y = _
  rw [after0_3]
  have hy0 : (y 0).val < 512 := (y 0).isLt
  have hy1 : (y 1).val < 1024 := (y 1).isLt
  have hy : y = (ix2 ⟨(y 0).val, hy0⟩ ⟨(y 1).val, hy1⟩ : S512x1024.Idx) := by
    funext k; fin_cases k <;> rfl
  generalize (⟨(y 0).val, hy0⟩ : Fin 512) = p at hy
  generalize (⟨(y 1).val, hy1⟩ : Fin 1024) = d at hy
  subst hy
  have hp := p.isLt
  have hd := d.isLt
  have he : ((cfg0.win 3).blk t).view.emb (ix2 p d : S512x1024.Idx) = (ix2 ⟨512 * (grid0.coords t 0).val + p.val, by omega⟩ d : S16384x1024.Idx) := by
    refine funext fun a => Fin.ext ?_
    have e : (((cfg0.win 3).blk t).view.emb (ix2 p d : S512x1024.Idx) a : ℕ) = win0_3.index t a * (![512, 1024] : Fin 2 → ℕ) a + 1 * ((ix2 p d : S512x1024.Idx) a).val := rfl
    rw [index_o] at e
    fin_cases a
    · exact e.trans (by show (grid0.coords t 0).val * 512 + 1 * p.val = 512 * (grid0.coords t 0).val + p.val; omega)
    · exact e.trans (by show 0 * 1024 + 1 * d.val = d.val; omega)
  refine (out_apply _ _ _ p d).trans ?_
  rw [he]
  refine congrArg₂ FloatOps.addf (congrArg (V m c main_arg0) (funext fun a => Fin.ext ?_))
    (congrArg₂ FloatOps.mulf (congrArg (V m c main_arg1) (funext fun a => Fin.ext ?_)) (congrArg (V m c main_arg2) (funext fun a => Fin.ext ?_)))
  · have e : (((cfg0.win 0).blk t).view.emb (ix2 p d : S512x1024.Idx) a : ℕ) = win0_0.index t a * (![512, 1024] : Fin 2 → ℕ) a + 1 * ((ix2 p d : S512x1024.Idx) a).val := rfl
    rw [index_x] at e
    fin_cases a
    · exact e.trans (by show (grid0.coords t 0).val * 512 + 1 * p.val = 512 * (grid0.coords t 0).val + p.val; omega)
    · exact e.trans (by show 0 * 1024 + 1 * d.val = d.val; omega)
  · have e : (((cfg0.win 1).blk t).view.emb (ix3 (0 : Fin 1) (0 : Fin 1) d : S1x1x1024.Idx) a : ℕ) = win0_1.index t a * (![1, 1, 1024] : Fin 3 → ℕ) a + 1 * ((ix3 (0 : Fin 1) (0 : Fin 1) d : S1x1x1024.Idx) a).val := rfl
    rw [index_a] at e
    fin_cases a
    · exact e.trans (by show (grid0.coords t 0).val / 8 * 1 + 1 * 0 = (512 * (grid0.coords t 0).val + p.val) / 4096; omega)
    · exact e.trans (by show 0 * 1 + 1 * 0 = 0; omega)
    · exact e.trans (by show 0 * 1024 + 1 * d.val = d.val; omega)
  · have e : (((cfg0.win 2).blk t).view.emb (ix3 ⟨d.val / 128, by omega⟩ p ⟨d.val % 128, by omega⟩ : S8x512x128.Idx) a : ℕ) = win0_2.index t a * (![8, 512, 128] : Fin 3 → ℕ) a + 1 * ((ix3 ⟨d.val / 128, by omega⟩ p ⟨d.val % 128, by omega⟩ : S8x512x128.Idx) a).val := rfl
    rw [index_r] at e
    fin_cases a
    · exact e.trans (by show 0 * 8 + 1 * (d.val / 128) = d.val / 128; omega)
    · exact e.trans (by show (grid0.coords t 0).val * 512 + 1 * p.val = 512 * (grid0.coords t 0).val + p.val; omega)
    · exact e.trans (by show 0 * 128 + 1 * (d.val % 128) = d.val % 128; omega)

/-- The run: the result array is `resid` of the arguments, the arguments are unchanged, every counter is back at zero. -/
theorem run_out (ρ : Dev nD → PrngReg) : θ_run (defs (F := F)) (onTc (τ := τ) (main (F := F))) ⟨m, fun _ => 0, ρ⟩ (fun r => (∀ c : Dev nD,
      r.2.mem ((c.tc : Thread nD τ).loc main_v0) = resid (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c).1.trans (out_eq m c), (h.1 c).2⟩, h.2⟩)
    (θ_run_and (run_blocks m ρ) ((θ_run defs _ _).mono (fun _ h => h.2) (frame m ρ)))

/-- The run over the bits, said of the idealization's text. -/
def RunIdealText : Prop := ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_v0) = resid (F := Bits) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0)

end Cert.Kernel3Ideal.Resid

namespace Cert.Kernel3.Resid

open Idealize.ShloMosaic Idealize.ShloMosaic.TcCoe Idealize.SL.Sem
open Cert.Kernel3 Cert.Kernel3.Gen

/-- The run over the bits, said of the kernel's own text. -/
def RunText : Prop := ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_v0) = Cert.Kernel3Ideal.Resid.resid (F := Bits) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0)

/-- The two texts are one, so the two statements are one. -/
theorem run_same : Cert.Kernel3Ideal.Resid.RunIdealText = RunText := by
  chain_rfl

/-- The kernel's run over the bits. -/
theorem run_bits : RunText := run_same.mp fun m ρ => Cert.Kernel3Ideal.Resid.run_out (F := Bits) m ρ

end Cert.Kernel3.Resid

end
-- ==== Proof.InprojTile.lean ====
/-
  The projection call's body over the idealization's numbers: one tile's eight results, entry by entry, as the functions
  of a row that the reference computes.
-/
module

public import proofs.«01_k».proof.Proof.MoeTile
public import proofs.«01_k».proof.Proof.Gen.Kernel4Ideal.Value
public import Idealize.ShloMosaic.Lib.Pointwise

@[expose] public section

set_option maxRecDepth 16384

noncomputable section

namespace Cert.InVal

open Cert.Kernel4Ideal Cert.Kernel4Ideal.Gen Cert.Kernel4Ideal.Value
open Idealize.ShloMosaic
open Cert.MoeVal (rms)

/-- A row normed, scaled and modulated. -/
def modrow (x g sc sh : Fin 1024 → EReal) (d : Fin 1024) : EReal := rms x g d * (1 + sc d) + sh d
/-- A row's product with one column of the weights. -/
def proj (x g sc sh : Fin 1024 → EReal) (w : Fin 1024 → EReal) : EReal := ∑ k : Fin 1024, modrow x g sc sh k * w k
/-- The tanh form of gelu. -/
def gelu (z : EReal) : EReal :=
  z * (Ideal.ofBits .f32 0x3F000000#32 * (1 + Ideal.tanh (Ideal.ofBits .f32 0x3F4C422A#32 * (z + Ideal.ofBits .f32 0x3D372713#32 * (z * z * z)))))
/-- The mean of a row of 512. -/
def mean (y : Fin 512 → EReal) : EReal := Ideal.div (∑ j : Fin 512, y j) (Ideal.ofBits .f32 0x44000000#32)
/-- The layer norm of a row of 512. -/
def lnorm (y g b : Fin 512 → EReal) (f : Fin 512) : EReal :=
  (y f - mean y) * Ideal.rsqrt (mean (fun j => (y j - mean y) * (y j - mean y)) + Ideal.ofBits .f32 0x358637BD#32) * g f + b f

section Payloads
variable (x : Vec Ideal S512x1024 .f32) (g : Vec Ideal S1x1024 .f32) (sc sh : Vec Ideal S1x1x1024 .f32)
  (X : FVec Ideal S512x1024 .bf16) (w : Vec Ideal S1024x512 .bf16) (wt : Vec Ideal S512x1024 .bf16)

theorem pay4_apply (r : Fin 512) (d : Fin 1024) :
    k0_pay4 (F := Ideal) x g sc sh (ix2 r d) = modrow (fun e => x (ix2 r e)) (fun e => g (ix2 0 e)) (fun e => sc (ix3 0 0 e)) (fun e => sh (ix3 0 0 e)) d := by
  pointwise [k0_pay4]
  rfl

theorem pay5_apply (r f : Fin 512) :
    k0_pay5 (F := Ideal) x g sc sh w (ix2 r f) = proj (fun e => x (ix2 r e)) (fun e => g (ix2 0 e)) (fun e => sc (ix3 0 0 e)) (fun e => sh (ix3 0 0 e)) (fun k => w (ix2 k f)) := by
  pointwise [k0_pay5]
  exact Finset.sum_congr rfl fun k _ => congrArg (· * _) (pay4_apply x g sc sh r k)

theorem pay6_apply (r f : Fin 512) :
    k0_pay6 (F := Ideal) x g sc sh w (ix3 0 f r) = k0_pay5 (F := Ideal) x g sc sh w (ix2 r f) := by
  pointwise [k0_pay6]

theorem pay7_apply (r f : Fin 512) :
    k0_pay7 (F := Ideal) x g sc sh w (ix2 r f) = k0_pay5 (F := Ideal) x g sc sh w (ix2 r f) := by
  pointwise [k0_pay7]

theorem pay8_apply (r f : Fin 512) :
    k0_pay8 (F := Ideal) X wt (ix3 0 f r) = (∑ k : Fin 1024, X (ix2 r k) * wt (ix2 f k)) * Ideal.ofBits .f32 0x3E8293EE#32 := by
  pointwise [k0_pay8]
  exact congrArg (· * _) (Finset.sum_congr rfl fun k _ => mul_comm _ _)

theorem pay10_apply (r f : Fin 512) :
    k0_pay10 (F := Ideal) X wt (ix3 0 f r) = ∑ k : Fin 1024, X (ix2 r k) * wt (ix2 f k) := by
  pointwise [k0_pay10, k0_pay9]
  exact Finset.sum_congr rfl fun k _ => mul_comm _ _

theorem pay11_apply (r f : Fin 512) :
    k0_pay11 (F := Ideal) X wt (ix4 0 0 f r) = ∑ k : Fin 1024, X (ix2 r k) * wt (ix2 f k) := by
  pointwise [k0_pay11, k0_pay9]
  exact Finset.sum_congr rfl fun k _ => mul_comm _ _

theorem pay12_apply (r f : Fin 512) :
    k0_pay12 (F := Ideal) X w (ix2 r f) = ∑ k : Fin 1024, X (ix2 r k) * w (ix2 k f) := by
  pointwise [k0_pay12]

theorem pay15_apply (r f : Fin 512) :
    k0_pay15 (F := Ideal) (k0_pay12 X w) (k0_pay13 X w) k0_pay14 (ix2 r f) = gelu (k0_pay12 (F := Ideal) X w (ix2 r f)) := by
  pointwise [k0_pay15, k0_pay13, k0_pay14]
  generalize k0_pay12 (F := Ideal) X w (ix2 r f) = z
  unfold gelu
  rw [mul_comm z (z * z)]

theorem pay2_apply (v : FVec Ideal S512x512 .f32) (b : Vec Ideal S1x512 .f32) (r f : Fin 512) :
    k0_pay2 (F := Ideal) v b (ix2 r f) = v (ix2 r f) + b (ix2 0 f) := by
  pointwise [k0_pay2, k0_pay1]

theorem pay3_apply (v : FVec Ideal S512x512 .f32) (b : Vec Ideal S1x512 .f32) (r : Fin 128) (f : Fin 512) :
    k0_pay3 (F := Ideal) v b (ix3 0 r f) = v (ix2 ⟨384 + r.val, by omega⟩ f) + b (ix2 0 f) := by
  pointwise [k0_pay3, k0_pay1]

theorem pay16_apply (lg : Vec Ideal S1x512 .f32) (b : Fin 512 → EReal) (r f : Fin 512) :
    k0_pay16 (F := Ideal) X w lg (ix2 r f) + b f = lnorm (fun j => gelu (∑ k : Fin 1024, X (ix2 r k) * w (ix2 k j))) (fun j => lg (ix2 0 j)) b f := by
  pointwise [k0_pay16]
  unfold lnorm mean gelu
  simp only [mul_comm (_ * _) (∑ k : Fin 1024, _)]

end Payloads

theorem z2 : (![0, 0] : Fin 2 → ℕ) = fun _ => 0 := by funext a; fin_cases a <;> rfl
theorem z3 : (![0, 0, 0] : Fin 3 → ℕ) = fun _ => 0 := by funext a; fin_cases a <;> rfl
theorem z4 : (![0, 0, 0, 0] : Fin 4 → ℕ) = fun _ => 0 := by funext a; fin_cases a <;> rfl

section Outs
variable (x0 : Vec Ideal S512x1024 .f32) (x1 x2 : Vec Ideal S1x1x1024 .f32) (x3 : Vec Ideal S1x1024 .f32) (x4 : Vec Ideal S1024x2560 .bf16) (x5 : Vec Ideal S1024x1024 .bf16)
  (x6 x7 : Vec Ideal S1x512 .f32)

/-- 512 columns of the weights, loaded from column `o` on. -/
theorem ld_cols (o : ℕ) (ho : o + 512 ≤ 2560) (hb : ∀ a, (![0, o] : Fin 2 → ℕ) a + S1024x512.size a ≤ S1024x2560.size a) (k : Fin 1024) (f : Fin 512) :
    View.ld x4 (Rect.unit (s := S1024x2560) ![0, o] S1024x512.size hb) (ix2 k f) = x4 (ix2 k ⟨o + f.val, by omega⟩) := by
  refine congrArg x4 (funext fun a => Fin.ext ?_)
  fin_cases a
  · show 0 + 1 * k.val = k.val; omega
  · show o + 1 * f.val = o + f.val; omega
/-- 512 rows of the transposed weights, loaded from row `o` on. -/
theorem ld_rows (o : ℕ) (ho : o + 512 ≤ 1024) (hb : ∀ a, (![o, 0] : Fin 2 → ℕ) a + S512x1024.size a ≤ S1024x1024.size a) (f : Fin 512) (k : Fin 1024) :
    View.ld x5 (Rect.unit (s := S1024x1024) ![o, 0] S512x1024.size hb) (ix2 f k) = x5 (ix2 ⟨o + f.val, by omega⟩ k) := by
  refine congrArg x5 (funext fun a => Fin.ext ?_)
  fin_cases a
  · show o + 1 * f.val = o + f.val; omega
  · show 0 + 1 * k.val = k.val; omega

/-- Row `r` of the tile against a column. -/
def tproj (r : Fin 512) (w : Fin 1024 → EReal) : EReal := proj (fun e => x0 (ix2 r e)) (fun e => x3 (ix2 0 e)) (fun e => x1 (ix3 0 0 e)) (fun e => x2 (ix3 0 0 e)) w

theorem pay17_apply (r : Fin 512) (w : Fin 1024 → EReal) : ∑ k : Fin 1024, k0_pay17 (F := Ideal) x0 x1 x2 x3 x4 x5 x6 x7 (ix2 r k) * w k = tproj x0 x1 x2 x3 r w := by
  unfold k0_pay17 tproj proj
  rw [View.ld_unit_zero z2, View.ld_unit_zero z2, View.ld_unit_zero z3, View.ld_unit_zero z3]
  exact Finset.sum_congr rfl fun k _ => congrArg (· * _) (pay4_apply x0 x3 x1 x2 r k)

theorem out8_apply (f r : Fin 512) : out0_8 (F := Ideal) x0 x1 x2 x3 x4 x5 x6 x7 (ix3 0 f r) = tproj x0 x1 x2 x3 r (fun k => x4 (ix2 k ⟨512 + f.val, by omega⟩)) := by
  unfold out0_8
  rw [View.canon_unit_zero z3, View.ld_unit_zero z2, View.ld_unit_zero z2, View.ld_unit_zero z3, View.ld_unit_zero z3, pay6_apply, pay5_apply]
  simp only [ld_cols x4 512 (by decide)]
  rfl
theorem out9_apply (f r : Fin 512) : out0_9 (F := Ideal) x0 x1 x2 x3 x4 x5 x6 x7 (ix3 0 f r) = tproj x0 x1 x2 x3 r (fun k => x5 (ix2 ⟨512 + f.val, by omega⟩ k)) := by
  unfold out0_9
  rw [View.canon_unit_zero z3, pay10_apply]
  simp only [ld_rows x5 512 (by decide)]
  exact pay17_apply _ _ _ _ _ _ _ _ r _
theorem out10_apply (f r : Fin 512) : out0_10 (F := Ideal) x0 x1 x2 x3 x4 x5 x6 x7 (ix3 0 f r) = tproj x0 x1 x2 x3 r (fun k => x5 (ix2 ⟨0 + f.val, by omega⟩ k)) * Ideal.ofBits .f32 0x3E8293EE#32 := by
  unfold out0_10
  rw [View.canon_unit_zero z3, pay8_apply]
  simp only [ld_rows x5 0 (by decide)]
  exact congrArg (· * _) (pay17_apply _ _ _ _ _ _ _ _ r _)
theorem out11_apply (r f : Fin 512) : out0_11 (F := Ideal) x0 x1 x2 x3 x4 x5 x6 x7 (ix2 r f) = tproj x0 x1 x2 x3 r (fun k => x4 (ix2 k ⟨512 + f.val, by omega⟩)) := by
  unfold out0_11
  rw [View.canon_unit_zero z2, View.ld_unit_zero z2, View.ld_unit_zero z2, View.ld_unit_zero z3, View.ld_unit_zero z3, pay7_apply, pay5_apply]
  simp only [ld_cols x4 512 (by decide)]
  rfl
theorem out12_apply (f r : Fin 512) : out0_12 (F := Ideal) x0 x1 x2 x3 x4 x5 x6 x7 (ix4 0 0 f r) = tproj x0 x1 x2 x3 r (fun k => x5 (ix2 ⟨512 + f.val, by omega⟩ k)) := by
  unfold out0_12
  rw [View.canon_unit_zero z4, pay11_apply]
  simp only [ld_rows x5 512 (by decide)]
  exact pay17_apply _ _ _ _ _ _ _ _ r _
theorem out13_apply (r f : Fin 512) : out0_13 (F := Ideal) x0 x1 x2 x3 x4 x5 x6 x7 (ix2 r f) = gelu (tproj x0 x1 x2 x3 r (fun k => x4 (ix2 k ⟨1536 + f.val, by omega⟩))) := by
  unfold out0_13
  rw [View.canon_unit_zero z2, pay15_apply, pay12_apply]
  simp only [ld_cols x4 1536 (by decide)]
  exact congrArg gelu (pay17_apply _ _ _ _ _ _ _ _ r _)
theorem pay18_apply (b : Fin 512 → EReal) (r f : Fin 512) : k0_pay18 (F := Ideal) x0 x1 x2 x3 x4 x5 x6 x7 (ix2 r f) + b f
    = lnorm (fun j => gelu (tproj x0 x1 x2 x3 r (fun k => x4 (ix2 k ⟨2048 + j.val, by omega⟩)))) (fun j => x6 (ix2 0 j)) b f := by
  unfold k0_pay18
  rw [pay16_apply, View.ld_unit_zero z2]
  simp only [ld_cols x4 2048 (by decide), pay17_apply]
theorem out14_apply (r f : Fin 512) : out0_14 (F := Ideal) x0 x1 x2 x3 x4 x5 x6 x7 (ix2 r f)
    = lnorm (fun j => gelu (tproj x0 x1 x2 x3 r (fun k => x4 (ix2 k ⟨2048 + j.val, by omega⟩)))) (fun j => x6 (ix2 0 j)) (fun j => x7 (ix2 0 j)) f := by
  unfold out0_14
  rw [View.canon_unit_zero z2, pay2_apply, View.ld_unit_zero z2]
  exact pay18_apply x0 x1 x2 x3 x4 x5 x6 x7 (fun j => x7 (ix2 0 j)) r f
theorem out15_apply (r : Fin 128) (f : Fin 512) : out0_15 (F := Ideal) x0 x1 x2 x3 x4 x5 x6 x7 (ix3 0 r f)
    = lnorm (fun j => gelu (tproj x0 x1 x2 x3 ⟨384 + r.val, by omega⟩ (fun k => x4 (ix2 k ⟨2048 + j.val, by omega⟩)))) (fun j => x6 (ix2 0 j)) (fun j => x7 (ix2 0 j)) f := by
  unfold out0_15
  rw [View.canon_unit_zero z3, pay3_apply, View.ld_unit_zero z2]
  exact pay18_apply x0 x1 x2 x3 x4 x5 x6 x7 (fun j => x7 (ix2 0 j)) ⟨384 + r.val, by omega⟩ f

end Outs

end Cert.InVal

end
-- ==== Proof.InprojRef.lean ====
/-
  The projection's reference over the idealization's numbers, by its stages and entry by entry.
-/
module

public import proofs.«01_k».proof.Proof.InprojTile
public import proofs.«01_k».proof.Proof.Gen.Reference4Ideal.Run

@[expose] public section

set_option maxRecDepth 16384

noncomputable section

namespace Cert.InRef

open Cert.Reference4Ideal Cert.Reference4Ideal.Gen Cert.Reference4Ideal.Value
open Idealize.ShloMosaic Idealize.ShloMosaic.TcCoe
open Cert.MoeVal (rms)
open Cert.InVal (modrow proj gelu mean lnorm)

/-! ## The reference's stages -/

/-- The rows normed, scaled and modulated. -/
def hV (x : FVec Ideal S16384x1024 .f32) (sc sh : FVec Ideal S4x1x1024 .f32) (g : FVec Ideal S1024 .f32) : FVec Ideal S4x4096x1024 .f32 :=
  addf (mulf (shapeCast _ (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) shapeCasts_S16384x1024_S4x4096x1024) (broadcastInDim S4x4096x1024 ![0, 1, 2] bcast_S4x1x1024_S4x4096x1024_0_1_2 (addf (broadcastInDim S4x1x1024 ![] bcast_S_S4x1x1024 (constant S_ .f32 0x3F800000#32)) sc))) (broadcastInDim S4x4096x1024 ![0, 1, 2] bcast_S4x1x1024_S4x4096x1024_0_1_2 sh)
/-- The projection. -/
def zV (h : FVec Ideal S4x4096x1024 .f32) (w : FVec Ideal S1024x2560 .f32) : FVec Ideal S4x4096x2560 .f32 :=
  Host.dotGeneral dot_S4x4096x1024_S1024x2560_S4x4096x2560_2_0_01_1_n_n none h w
/-- gelu, entry by entry. -/
def gV (y : FVec Ideal S4x4096x512 .f32) : FVec Ideal S4x4096x512 .f32 :=
  mulf y (mulf (broadcastInDim S4x4096x512 ![] bcast_S_S4x4096x512 (constant S_ .f32 0x3F000000#32)) (addf (broadcastInDim S4x4096x512 ![] bcast_S_S4x4096x512 (constant S_ .f32 0x3F800000#32)) (Host.tanh (mulf (broadcastInDim S4x4096x512 ![] bcast_S_S4x4096x512 (constant S_ .f32 0x3F4C422A#32)) (addf y (mulf (broadcastInDim S4x4096x512 ![] bcast_S_S4x4096x512 (constant S_ .f32 0x3D372713#32)) (mulf (mulf y y) y)))))))
/-- Rows with their means taken off. -/
def cV (y : FVec Ideal S4x4096x512 .f32) : FVec Ideal S4x4096x512 .f32 :=
  subf y (broadcastInDim S4x4096x512 ![0, 1, 2] bcast_S4x4096x1_S4x4096x512_0_1_2 (Host.divf (broadcastInDim S4x4096x1 ![0, 1] bcast_S4x4096_S4x4096x1_0_1 (Host.reduceAdd y (constant S_ .f32 0x00000000#32) reducesTo_S4x4096x512_S4x4096_d2 h_S_)) (broadcastInDim S4x4096x1 ![] bcast_S_S4x4096x1 (constant S_ .f32 0x44000000#32))))
/-- Centred rows scaled to unit variance, then by `lg`, and `lb` added. -/
def nV (z : FVec Ideal S4x4096x512 .f32) (lg lb : FVec Ideal S512 .f32) : FVec Ideal S4x4096x512 .f32 :=
  addf (mulf (mulf z (broadcastInDim S4x4096x512 ![0, 1, 2] bcast_S4x4096x1_S4x4096x512_0_1_2 (Host.rsqrt (addf (Host.divf (broadcastInDim S4x4096x1 ![0, 1] bcast_S4x4096_S4x4096x1_0_1 (Host.reduceAdd (mulf z z) (constant S_ .f32 0x00000000#32) reducesTo_S4x4096x512_S4x4096_d2 h_S_)) (broadcastInDim S4x4096x1 ![] bcast_S_S4x4096x1 (constant S_ .f32 0x44000000#32))) (broadcastInDim S4x4096x1 ![] bcast_S_S4x4096x1 (constant S_ .f32 0x358637BD#32)))))) (broadcastInDim S4x4096x512 ![0, 1, 2] bcast_S1x1x512_S4x4096x512_0_1_2 (broadcastInDim S1x1x512 ![2] bcast_S512_S1x1x512_2 lg))) (broadcastInDim S4x4096x512 ![0, 1, 2] bcast_S1x1x512_S4x4096x512_0_1_2 (broadcastInDim S1x1x512 ![2] bcast_S512_S1x1x512_2 lb))

/-! The eight results. -/

def r0 (z : FVec Ideal S4x4096x2560 .f32) : FVec Ideal S4x512x4096 .f32 := transpose S4x512x4096 [0, 2, 1] (extractStridedSlice S4x4096x512 ![0, 0, 512] z slices_S4x4096x2560_S4x4096x512_0_0_512) transposes_S4x4096x512_S4x512x4096_0_2_1
def r1 (z : FVec Ideal S4x4096x2560 .f32) : FVec Ideal S4x512x4096 .f32 := transpose S4x512x4096 [0, 2, 1] (extractStridedSlice S4x4096x512 ![0, 0, 1024] z slices_S4x4096x2560_S4x4096x512_0_0_1024) transposes_S4x4096x512_S4x512x4096_0_2_1
def r2 (z : FVec Ideal S4x4096x2560 .f32) : FVec Ideal S4x512x4096 .bf16 := truncf .bf16 (mulf (transpose S4x512x4096 [0, 2, 1] (extractStridedSlice S4x4096x512 ![0, 0, 0] z slices_S4x4096x2560_S4x4096x512_0_0_0) transposes_S4x4096x512_S4x512x4096_0_2_1) (broadcastInDim S4x512x4096 ![] bcast_S_S4x512x4096 (constant S_ .f32 0x3E8293EE#32))) bitsLt_bf16_f32
def r3 (z : FVec Ideal S4x4096x2560 .f32) : FVec Ideal S16384x512 .bf16 := truncf .bf16 (shapeCast _ (extractStridedSlice S4x4096x512 ![0, 0, 512] z slices_S4x4096x2560_S4x4096x512_0_0_512) shapeCasts_S4x4096x512_S16384x512) bitsLt_bf16_f32
def r4 (z : FVec Ideal S4x4096x2560 .f32) : FVec Ideal S4x8x512x512 .bf16 := truncf .bf16 (transpose S4x8x512x512 [0, 1, 3, 2] (shapeCast _ (extractStridedSlice S4x4096x512 ![0, 0, 1024] z slices_S4x4096x2560_S4x4096x512_0_0_1024) shapeCasts_S4x4096x512_S4x8x512x512) transposes_S4x8x512x512_S4x8x512x512_0_1_3_2) bitsLt_bf16_f32
def r5 (z : FVec Ideal S4x4096x2560 .f32) : FVec Ideal S16384x512 .bf16 := truncf .bf16 (shapeCast _ (gV (extractStridedSlice S4x4096x512 ![0, 0, 1536] z slices_S4x4096x2560_S4x4096x512_0_0_1536)) shapeCasts_S4x4096x512_S16384x512) bitsLt_bf16_f32
/-- The layer-normed gelu of the last 512 columns. -/
def sV (z : FVec Ideal S4x4096x2560 .f32) (lg lb : FVec Ideal S512 .f32) : FVec Ideal S4x4096x512 .f32 := nV (cV (gV (extractStridedSlice S4x4096x512 ![0, 0, 2048] z slices_S4x4096x2560_S4x4096x512_0_0_2048))) lg lb
def r6 (s : FVec Ideal S4x4096x512 .f32) : FVec Ideal S16384x512 .bf16 := truncf .bf16 (shapeCast _ s shapeCasts_S4x4096x512_S16384x512) bitsLt_bf16_f32
def r7 (s : FVec Ideal S4x4096x512 .f32) : FVec Ideal S4x128x512 .f32 := extractStridedSlice S4x128x512 ![0, 3968, 0] s slices_S4x4096x512_S4x128x512_0_3968_0

/-- The reference's results by their stages. -/
theorem res5_eq (m : (ℓ : Loc nD τ sig) → Buf (Elt Ideal) ℓ) (c : Dev nD) (x : FVec Ideal S16384x1024 .f32) (sc sh : FVec Ideal S4x1x1024 .f32) (g : FVec Ideal S1024 .f32) (w : FVec Ideal S1024x2560 .f32) (lg lb : FVec Ideal S512 .f32)
    (h0 : m ((c.tc : Thread nD τ).loc main_arg0) = x)    (h1 : m ((c.tc : Thread nD τ).loc main_arg1) = sc)    (h2 : m ((c.tc : Thread nD τ).loc main_arg2) = sh)    (h3 : m ((c.tc : Thread nD τ).loc main_arg3) = g)    (h4 : m ((c.tc : Thread nD τ).loc main_arg4) = w)    (h5 : m ((c.tc : Thread nD τ).loc main_arg5) = lg)    (h6 : m ((c.tc : Thread nD τ).loc main_arg6) = lb) :
    res_main_v86 (F := Ideal) m c = r5 (zV (hV x sc sh g) w) := by
  subst h0 h1 h2 h3 h4 h5 h6
  chain_rfl
theorem res6_eq (m : (ℓ : Loc nD τ sig) → Buf (Elt Ideal) ℓ) (c : Dev nD) (x : FVec Ideal S16384x1024 .f32) (sc sh : FVec Ideal S4x1x1024 .f32) (g : FVec Ideal S1024 .f32) (w : FVec Ideal S1024x2560 .f32) (lg lb : FVec Ideal S512 .f32)
    (h0 : m ((c.tc : Thread nD τ).loc main_arg0) = x)    (h1 : m ((c.tc : Thread nD τ).loc main_arg1) = sc)    (h2 : m ((c.tc : Thread nD τ).loc main_arg2) = sh)    (h3 : m ((c.tc : Thread nD τ).loc main_arg3) = g)    (h4 : m ((c.tc : Thread nD τ).loc main_arg4) = w)    (h5 : m ((c.tc : Thread nD τ).loc main_arg5) = lg)    (h6 : m ((c.tc : Thread nD τ).loc main_arg6) = lb) :
    res_main_v88 (F := Ideal) m c = r6 (sV (zV (hV x sc sh g) w) lg lb) := by
  subst h0 h1 h2 h3 h4 h5 h6
  chain_rfl
theorem res7_eq (m : (ℓ : Loc nD τ sig) → Buf (Elt Ideal) ℓ) (c : Dev nD) (x : FVec Ideal S16384x1024 .f32) (sc sh : FVec Ideal S4x1x1024 .f32) (g : FVec Ideal S1024 .f32) (w : FVec Ideal S1024x2560 .f32) (lg lb : FVec Ideal S512 .f32)
    (h0 : m ((c.tc : Thread nD τ).loc main_arg0) = x)    (h1 : m ((c.tc : Thread nD τ).loc main_arg1) = sc)    (h2 : m ((c.tc : Thread nD τ).loc main_arg2) = sh)    (h3 : m ((c.tc : Thread nD τ).loc main_arg3) = g)    (h4 : m ((c.tc : Thread nD τ).loc main_arg4) = w)    (h5 : m ((c.tc : Thread nD τ).loc main_arg5) = lg)    (h6 : m ((c.tc : Thread nD τ).loc main_arg6) = lb) :
    res_main_v89 (F := Ideal) m c = r7 (sV (zV (hV x sc sh g) w) lg lb) := by
  subst h0 h1 h2 h3 h4 h5 h6
  chain_rfl

/-! ## Entry by entry -/

/-- Row `s` of sequence `b` among all the rows. -/
def row (b : Fin 4) (s : Fin 4096) : Fin 16384 := ⟨4096 * b.val + s.val, by omega⟩

theorem row_div (b : Fin 4) (s : Fin 4096) (h : (row b s).val / 4096 < 4) : (⟨(row b s).val / 4096, h⟩ : Fin 4) = b :=
  Fin.ext (by show (4096 * b.val + s.val) / 4096 = b.val; omega)
theorem row_mod (b : Fin 4) (s : Fin 4096) (h : (row b s).val % 4096 < 4096) : (⟨(row b s).val % 4096, h⟩ : Fin 4096) = s :=
  Fin.ext (by show (4096 * b.val + s.val) % 4096 = s.val; omega)

section Entries
variable (x : FVec Ideal S16384x1024 .f32) (sc sh : FVec Ideal S4x1x1024 .f32) (g : FVec Ideal S1024 .f32) (w : FVec Ideal S1024x2560 .f32) (lg lb : FVec Ideal S512 .f32)

/-- Entry `k` of row `s` of sequence `b`, projected. -/
def zAt (b : Fin 4) (s : Fin 4096) (k : Fin 2560) : EReal :=
  proj (fun e => x (ix2 (row b s) e)) (fun e => g (ix1 e)) (fun e => sc (ix3 b 0 e)) (fun e => sh (ix3 b 0 e)) (fun e => w (ix2 e k))
/-- Entry `f` of the layer-normed part of that row. -/
def sAt (b : Fin 4) (s : Fin 4096) (f : Fin 512) : EReal :=
  lnorm (fun j => gelu (zAt x sc sh g w b s ⟨2048 + j.val, by omega⟩)) (fun j => lg (ix1 j)) (fun j => lb (ix1 j)) f

theorem hV_apply (b : Fin 4) (s : Fin 4096) (d : Fin 1024) :
    hV x sc sh g (ix3 b s d) = modrow (fun e => x (ix2 (row b s) e)) (fun e => g (ix1 e)) (fun e => sc (ix3 b 0 e)) (fun e => sh (ix3 b 0 e)) d := by
  pointwise [hV]
  have e1 : (⟨b.val * 4096 + s.val, by omega⟩ : Fin 16384) = row b s := Fin.ext (by show b.val * 4096 + s.val = 4096 * b.val + s.val; omega)
  rw [e1]
  rfl

theorem zV_apply (b : Fin 4) (s : Fin 4096) (k : Fin 2560) : zV (hV x sc sh g) w (ix3 b s k) = zAt x sc sh g w b s k := by
  pointwise [zV]
  exact Finset.sum_congr rfl fun e _ => congrArg (· * _) (hV_apply x sc sh g b s e)

theorem gV_apply (y : FVec Ideal S4x4096x512 .f32) (i : S4x4096x512.Idx) : gV y i = gelu (y i) := by
  pointwise [gV]
  rfl

theorem cV_apply (y : FVec Ideal S4x4096x512 .f32) (b : Fin 4) (s : Fin 4096) (f : Fin 512) : cV y (ix3 b s f) = y (ix3 b s f) - mean (fun j => y (ix3 b s j)) := by
  pointwise [cV]
  rfl

theorem nV_apply (y : FVec Ideal S4x4096x512 .f32) (b : Fin 4) (s : Fin 4096) (f : Fin 512) :
    nV (cV y) lg lb (ix3 b s f) = lnorm (fun j => y (ix3 b s j)) (fun j => lg (ix1 j)) (fun j => lb (ix1 j)) f := by
  pointwise [nV]
  simp only [cV_apply]
  rfl

theorem sV_apply (b : Fin 4) (s : Fin 4096) (f : Fin 512) : sV (zV (hV x sc sh g) w) lg lb (ix3 b s f) = sAt x sc sh g w lg lb b s f := by
  unfold sV
  rw [nV_apply]
  unfold sAt
  refine congrArg (fun y => lnorm y _ _ f) (funext fun j => ?_)
  rw [gV_apply]
  refine congrArg gelu ?_
  rw [← zV_apply]
  pointwise
theorem r0_apply (b : Fin 4) (f : Fin 512) (s : Fin 4096) : r0 (zV (hV x sc sh g) w) (ix3 b f s) = zAt x sc sh g w b s ⟨512 + f.val, by omega⟩ := by
  rw [← zV_apply]
  pointwise [r0]
theorem r1_apply (b : Fin 4) (f : Fin 512) (s : Fin 4096) : r1 (zV (hV x sc sh g) w) (ix3 b f s) = zAt x sc sh g w b s ⟨1024 + f.val, by omega⟩ := by
  rw [← zV_apply]
  pointwise [r1]
theorem r2_apply (b : Fin 4) (f : Fin 512) (s : Fin 4096) : r2 (zV (hV x sc sh g) w) (ix3 b f s) = zAt x sc sh g w b s ⟨0 + f.val, by omega⟩ * Ideal.ofBits .f32 0x3E8293EE#32 := by
  rw [← zV_apply]
  pointwise [r2]
theorem r3_apply (b : Fin 4) (s : Fin 4096) (f : Fin 512) : r3 (zV (hV x sc sh g) w) (ix2 (row b s) f) = zAt x sc sh g w b s ⟨512 + f.val, by omega⟩ := by
  rw [← zV_apply]
  pointwise [r3]
  rw [row_div, row_mod]
theorem r4_apply (b : Fin 4) (q : Fin 8) (f p : Fin 512) : r4 (zV (hV x sc sh g) w) (ix4 b q f p) = zAt x sc sh g w b ⟨512 * q.val + p.val, by omega⟩ ⟨1024 + f.val, by omega⟩ := by
  rw [← zV_apply]
  pointwise [r4]
  exact congrArg (fun s => zV (hV x sc sh g) w (ix3 b s _)) (Fin.ext (by show q.val * 512 + p.val = 512 * q.val + p.val; omega))
theorem r5_apply (b : Fin 4) (s : Fin 4096) (f : Fin 512) : r5 (zV (hV x sc sh g) w) (ix2 (row b s) f) = gelu (zAt x sc sh g w b s ⟨1536 + f.val, by omega⟩) := by
  rw [← zV_apply]
  pointwise [r5]
  rw [row_div, row_mod, gV_apply]
  refine congrArg gelu ?_
  pointwise
theorem r6_apply (y : FVec Ideal S4x4096x512 .f32) (b : Fin 4) (s : Fin 4096) (f : Fin 512) : r6 y (ix2 (row b s) f) = y (ix3 b s f) := by
  pointwise [r6]
  rw [row_div, row_mod]
theorem r7_apply (y : FVec Ideal S4x4096x512 .f32) (b : Fin 4) (s : Fin 128) (f : Fin 512) : r7 y (ix3 b s f) = y (ix3 b ⟨3968 + s.val, by omega⟩ f) := by
  pointwise [r7]

end Entries

end Cert.InRef

end
-- ==== Proof.InprojValue.lean ====
/-
  The projection call: each of the eight arrays its grid leaves is the reference's function of the seven arguments.
-/
module

public import proofs.«01_k».proof.Proof.InprojRef
public import Idealize.ShloMosaic.Lib.Pipeline.ValueKit
public import Idealize.ShloMosaic.Lib.Pipeline.Regions

@[expose] public section

set_option maxRecDepth 16384

noncomputable section

namespace Cert.Kernel4Ideal.In

open Cert.Kernel4Ideal Cert.Kernel4Ideal.Gen Cert.Kernel4Ideal.Value
open Idealize.ShloMosaic Idealize.ShloMosaic.TcCoe Idealize.SL.Sem
open Cert.InVal Cert.InRef

variable (m : (ℓ : Loc nD τ sig) → Buf (Elt Ideal) ℓ) (c : Dev nD)

/-! The arguments. -/

abbrev aX : FVec Ideal S16384x1024 .f32 := m ((c : Thread nD τ).loc main_arg0)
abbrev aC : FVec Ideal S4x1x1024 .f32 := m ((c : Thread nD τ).loc main_arg1)
abbrev aH : FVec Ideal S4x1x1024 .f32 := m ((c : Thread nD τ).loc main_arg2)
abbrev aG : FVec Ideal S1024 .f32 := m ((c : Thread nD τ).loc main_arg3)
abbrev aW : FVec Ideal S1024x2560 .f32 := m ((c : Thread nD τ).loc main_arg4)
abbrev aL : FVec Ideal S512 .f32 := m ((c : Thread nD τ).loc main_arg5)
abbrev aB : FVec Ideal S512 .f32 := m ((c : Thread nD τ).loc main_arg6)

/-! What the operations before the call leave in the arrays it reads. -/

theorem V_v0 : V m c main_v0 = (truncf (F := Ideal) .bf16 (aW m c) bitsLt_bf16_f32 : FVec Ideal S1024x2560 .bf16) := by
  unfold V hostOps0; after_results
theorem V_v4 : V m c main_v4 = (transpose S1024x1024 [1, 0] (concatenate S1024x1024 1
      [⟨S1024x512, extractStridedSlice S1024x512 ![0, 0] (truncf (F := Ideal) .bf16 (aW m c) bitsLt_bf16_f32) slices_S1024x2560_S1024x512_0_0⟩,
       ⟨S1024x512, extractStridedSlice S1024x512 ![0, 1024] (truncf (F := Ideal) .bf16 (aW m c) bitsLt_bf16_f32) slices_S1024x2560_S1024x512_0_1024⟩]
      concatenates_S1024x512_S1024x512_S1024x1024_d1) transposes_S1024x1024_S1024x1024_1_0 : FVec Ideal S1024x1024 .bf16) := by
  unfold V hostOps0; after_results
theorem V_v5 : V m c main_v5 = (shapeCast S1x1024 (aG m c) shapeCasts_S1024_S1x1024 : FVec Ideal S1x1024 .f32) := by
  unfold V hostOps0; after_results; rfl
theorem V_v6 : V m c main_v6 = (shapeCast S1x512 (aL m c) shapeCasts_S512_S1x512 : FVec Ideal S1x512 .f32) := by
  unfold V hostOps0; after_results; rfl
theorem V_v7 : V m c main_v7 = (shapeCast S1x512 (aB m c) shapeCasts_S512_S1x512 : FVec Ideal S1x512 .f32) := by
  unfold V hostOps0; after_results; rfl

/-! Which block each window reads or writes at a point. -/

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![(grid0.coords t 0).val / 8, 0, 0] :=
  (by decide +kernel : ∀ t : Fin grid0.N, win0_1.index t = ![(grid0.coords t 0).val / 8, 0, 0])
theorem index2 : ∀ t : Fin cfg0.N, win0_2.index t = ![(grid0.coords t 0).val / 8, 0, 0] :=
  (by decide +kernel : ∀ t : Fin grid0.N, win0_2.index t = ![(grid0.coords t 0).val / 8, 0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![(grid0.coords t 0).val / 8, 0, (grid0.coords t 0).val % 8] :=
  (by decide +kernel : ∀ t : Fin grid0.N, win0_8.index t = ![(grid0.coords t 0).val / 8, 0, (grid0.coords t 0).val % 8])
theorem index9 : ∀ t : Fin cfg0.N, win0_9.index t = ![(grid0.coords t 0).val / 8, 0, (grid0.coords t 0).val % 8] :=
  (by decide +kernel : ∀ t : Fin grid0.N, win0_9.index t = ![(grid0.coords t 0).val / 8, 0, (grid0.coords t 0).val % 8])
theorem index10 : ∀ t : Fin cfg0.N, win0_10.index t = ![(grid0.coords t 0).val / 8, 0, (grid0.coords t 0).val % 8] :=
  (by decide +kernel : ∀ t : Fin grid0.N, win0_10.index t = ![(grid0.coords t 0).val / 8, 0, (grid0.coords t 0).val % 8])
theorem index11 : ∀ t : Fin cfg0.N, win0_11.index t = ![(grid0.coords t 0).val, 0] :=
  (by decide +kernel : ∀ t : Fin grid0.N, win0_11.index t = ![(grid0.coords t 0).val, 0])
theorem index12 : ∀ t : Fin cfg0.N, win0_12.index t = ![(grid0.coords t 0).val / 8, (grid0.coords t 0).val % 8, 0, 0] :=
  (by decide +kernel : ∀ t : Fin grid0.N, win0_12.index t = ![(grid0.coords t 0).val / 8, (grid0.coords t 0).val % 8, 0, 0])
theorem index13 : ∀ t : Fin cfg0.N, win0_13.index t = ![(grid0.coords t 0).val, 0] :=
  (by decide +kernel : ∀ t : Fin grid0.N, win0_13.index t = ![(grid0.coords t 0).val, 0])
theorem index14 : ∀ t : Fin cfg0.N, win0_14.index t = ![(grid0.coords t 0).val, 0] :=
  (by decide +kernel : ∀ t : Fin grid0.N, win0_14.index t = ![(grid0.coords t 0).val, 0])
theorem index15 : ∀ t : Fin cfg0.N, win0_15.index t = ![(grid0.coords t 0).val / 8, 0, 0] :=
  (by decide +kernel : ∀ t : Fin grid0.N, win0_15.index t = ![(grid0.coords t 0).val / 8, 0, 0])
theorem flush15 : ∀ t : Fin cfg0.N, (cfg0.win 15).flush t = true → (grid0.coords t 0).val % 8 = 7 :=
  (by decide +kernel : ∀ t : Fin cfg0.N, (cfg0.win 15).flush t = true → (grid0.coords t 0).val % 8 = 7)

variable (t : Fin cfg0.N)

theorem lt_pts : (grid0.coords t 0).val < 32 := (grid0.coords t 0).isLt
/-- The sequence a point's tile lies in. -/
def bt : Fin 4 := ⟨(grid0.coords t 0).val / 8, by have := lt_pts t; omega⟩
/-- The row of that sequence which row `r` of the tile is. -/
def st (r : Fin 512) : Fin 4096 := ⟨512 * ((grid0.coords t 0).val % 8) + r.val, by omega⟩

/-! The blocks read, entry by entry. -/

theorem blk0 (r : Fin 512) (d : Fin 1024) : iblk m c 0 t (ix2 r d) = aX m c (ix2 (row (bt t) (st t r)) d) := by
  unfold iblk
  show V m c main_arg0 (((cfg0.win 0).blk t).view.emb (ix2 r d : S512x1024.Idx)) = _
  rw [V_main_arg0]
  refine congrArg (aX m c) (funext fun a => Fin.ext ?_)
  have e : (((cfg0.win 0).blk t).view.emb (ix2 r d : S512x1024.Idx) a : ℕ) = win0_0.index t a * (![512, 1024] : Fin 2 → ℕ) a + 1 * ((ix2 r d : S512x1024.Idx) a).val := rfl
  rw [index0] at e
  fin_cases a
  · exact e.trans (by show (grid0.coords t 0).val * 512 + 1 * r.val = 4096 * ((grid0.coords t 0).val / 8) + (512 * ((grid0.coords t 0).val % 8) + r.val); omega)
  · exact e.trans (by show 0 * 1024 + 1 * d.val = d.val; omega)
theorem blk1 (d : Fin 1024) : iblk m c 1 t (ix3 0 0 d) = aC m c (ix3 (bt t) 0 d) := by
  unfold iblk
  show V m c main_arg1 (((cfg0.win 1).blk t).view.emb (ix3 0 0 d : S1x1x1024.Idx)) = _
  rw [V_main_arg1]
  refine congrArg (aC m c) (funext fun a => Fin.ext ?_)
  have e : (((cfg0.win 1).blk t).view.emb (ix3 0 0 d : S1x1x1024.Idx) a : ℕ) = win0_1.index t a * (![1, 1, 1024] : Fin 3 → ℕ) a + 1 * ((ix3 0 0 d : S1x1x1024.Idx) a).val := rfl
  rw [index1] at e
  fin_cases a
  · exact e.trans (by show (grid0.coords t 0).val / 8 * 1 + 1 * 0 = (grid0.coords t 0).val / 8; omega)
  · exact e.trans (by show 0 * 1 + 1 * 0 = 0; omega)
  · exact e.trans (by show 0 * 1024 + 1 * d.val = d.val; omega)
theorem blk2 (d : Fin 1024) : iblk m c 2 t (ix3 0 0 d) = aH m c (ix3 (bt t) 0 d) := by
  unfold iblk
  show V m c main_arg2 (((cfg0.win 2).blk t).view.emb (ix3 0 0 d : S1x1x1024.Idx)) = _
  rw [V_main_arg2]
  refine congrArg (aH m c) (funext fun a => Fin.ext ?_)
  have e : (((cfg0.win 2).blk t).view.emb (ix3 0 0 d : S1x1x1024.Idx) a : ℕ) = win0_2.index t a * (![1, 1, 1024] : Fin 3 → ℕ) a + 1 * ((ix3 0 0 d : S1x1x1024.Idx) a).val := rfl
  rw [index2] at e
  fin_cases a
  · exact e.trans (by show (grid0.coords t 0).val / 8 * 1 + 1 * 0 = (grid0.coords t 0).val / 8; omega)
  · exact e.trans (by show 0 * 1 + 1 * 0 = 0; omega)
  · exact e.trans (by show 0 * 1024 + 1 * d.val = d.val; omega)
theorem blk3 (d : Fin 1024) : iblk m c 3 t (ix2 0 d) = aG m c (ix1 d) := by
  unfold iblk
  show V m c main_v5 (((cfg0.win 3).blk t).view.emb (ix2 0 d : S1x1024.Idx)) = _
  have h : ((cfg0.win 3).blk t).view.emb (ix2 0 d : S1x1024.Idx) = (ix2 0 d : S1x1024.Idx) := by
    refine funext fun a => Fin.ext ?_
    have e : (((cfg0.win 3).blk t).view.emb (ix2 0 d : S1x1024.Idx) a : ℕ) = win0_3.index t a * (![1, 1024] : Fin 2 → ℕ) a + 1 * ((ix2 0 d : S1x1024.Idx) a).val := rfl
    rw [index3] at e
    fin_cases a
    · exact e.trans (by show 0 * 1 + 1 * 0 = 0; omega)
    · exact e.trans (by show 0 * 1024 + 1 * d.val = d.val; omega)
  rw [h, V_v5]
  show shapeCast S1x1024 (aG m c) shapeCasts_S1024_S1x1024 (ix2 0 d) = _
  pointwise
theorem blk6 (d : Fin 512) : iblk m c 6 t (ix2 0 d) = aL m c (ix1 d) := by
  unfold iblk
  show V m c main_v6 (((cfg0.win 6).blk t).view.emb (ix2 0 d : S1x512.Idx)) = _
  have h : ((cfg0.win 6).blk t).view.emb (ix2 0 d : S1x512.Idx) = (ix2 0 d : S1x512.Idx) := by
    refine funext fun a => Fin.ext ?_
    have e : (((cfg0.win 6).blk t).view.emb (ix2 0 d : S1x512.Idx) a : ℕ) = win0_6.index t a * (![1, 512] : Fin 2 → ℕ) a + 1 * ((ix2 0 d : S1x512.Idx) a).val := rfl
    rw [index6] at e
    fin_cases a
    · exact e.trans (by show 0 * 1 + 1 * 0 = 0; omega)
    · exact e.trans (by show 0 * 512 + 1 * d.val = d.val; omega)
  rw [h, V_v6]
  show shapeCast S1x512 (aL m c) shapeCasts_S512_S1x512 (ix2 0 d) = _
  pointwise
theorem blk7 (d : Fin 512) : iblk m c 7 t (ix2 0 d) = aB m c (ix1 d) := by
  unfold iblk
  show V m c main_v7 (((cfg0.win 7).blk t).view.emb (ix2 0 d : S1x512.Idx)) = _
  have h : ((cfg0.win 7).blk t).view.emb (ix2 0 d : S1x512.Idx) = (ix2 0 d : S1x512.Idx) := by
    refine funext fun a => Fin.ext ?_
    have e : (((cfg0.win 7).blk t).view.emb (ix2 0 d : S1x512.Idx) a : ℕ) = win0_7.index t a * (![1, 512] : Fin 2 → ℕ) a + 1 * ((ix2 0 d : S1x512.Idx) a).val := rfl
    rw [index7] at e
    fin_cases a
    · exact e.trans (by show 0 * 1 + 1 * 0 = 0; omega)
    · exact e.trans (by show 0 * 512 + 1 * d.val = d.val; omega)
  rw [h, V_v7]
  show shapeCast S1x512 (aB m c) shapeCasts_S512_S1x512 (ix2 0 d) = _
  pointwise
theorem blk4 (a' : Fin 1024) (k : Fin 2560) : iblk m c 4 t (ix2 a' k) = aW m c (ix2 a' k) := by
  unfold iblk
  show V m c main_v0 (((cfg0.win 4).blk t).view.emb (ix2 a' k : S1024x2560.Idx)) = _
  rw [V_v0]
  refine congrArg (aW m c) (funext fun a => Fin.ext ?_)
  have e : (((cfg0.win 4).blk t).view.emb (ix2 a' k : S1024x2560.Idx) a : ℕ) = win0_4.index t a * (![1024, 2560] : Fin 2 → ℕ) a + 1 * ((ix2 a' k : S1024x2560.Idx) a).val := rfl
  rw [index4] at e
  fin_cases a
  · exact e.trans (by show 0 * 1024 + 1 * a'.val = a'.val; omega)
  · exact e.trans (by show 0 * 2560 + 1 * k.val = k.val; omega)
/-- The transposed weights: rows 0 to 511 are columns 0 to 511, rows 512 to 1023 are columns 1024 to 1535. -/
theorem blk5 (a' k : Fin 1024) : iblk m c 5 t (ix2 a' k) = aW m c (ix2 k ⟨if a'.val < 512 then a'.val else a'.val + 512, by split <;> omega⟩) := by
  unfold iblk
  show V m c main_v4 (((cfg0.win 5).blk t).view.emb (ix2 a' k : S1024x1024.Idx)) = _
  have h : ((cfg0.win 5).blk t).view.emb (ix2 a' k : S1024x1024.Idx) = (ix2 a' k : S1024x1024.Idx) := by
    refine funext fun a => Fin.ext ?_
    have e : (((cfg0.win 5).blk t).view.emb (ix2 a' k : S1024x1024.Idx) a : ℕ) = win0_5.index t a * (![1024, 1024] : Fin 2 → ℕ) a + 1 * ((ix2 a' k : S1024x1024.Idx) a).val := rfl
    rw [index5] at e
    fin_cases a
    · exact e.trans (by show 0 * 1024 + 1 * a'.val = a'.val; omega)
    · exact e.trans (by show 0 * 1024 + 1 * k.val = k.val; omega)
  rw [h, V_v4]
  pointwise
  split_ifs
  · rfl
  · exact congrArg (fun j => aW m c (ix2 k j)) (Fin.ext (by show 1024 + (a'.val - 512) = a'.val + 512; omega))
  · exact congrArg (fun j => aW m c (ix2 k j)) (Fin.ext (by show 1024 + (a'.val - 512) = a'.val + 512; omega))
theorem blk5_lo (f : Fin 512) (k : Fin 1024) : iblk m c 5 t (ix2 ⟨0 + f.val, by omega⟩ k) = aW m c (ix2 k ⟨0 + f.val, by omega⟩) := by
  rw [blk5]
  exact congrArg (fun j => aW m c (ix2 k j)) (Fin.ext (by show (if 0 + f.val < 512 then 0 + f.val else _) = 0 + f.val; rw [if_pos (by omega)]))
theorem blk5_hi (f : Fin 512) (k : Fin 1024) : iblk m c 5 t (ix2 ⟨512 + f.val, by omega⟩ k) = aW m c (ix2 k ⟨1024 + f.val, by omega⟩) := by
  rw [blk5]
  exact congrArg (fun j => aW m c (ix2 k j)) (Fin.ext (by show (if 512 + f.val < 512 then _ else 512 + f.val + 512) = 1024 + f.val; rw [if_neg (by omega)]; omega))

/-- A tile's row against a column of the weights is that row's entry of the projection. -/
theorem tz (r : Fin 512) (k : Fin 2560) :
    tproj (iblk m c 0 t) (iblk m c 1 t) (iblk m c 2 t) (iblk m c 3 t) r (fun e => aW m c (ix2 e k)) = zAt (aX m c) (aC m c) (aH m c) (aG m c) (aW m c) (bt t) (st t r) k := by
  unfold tproj zAt
  simp only [blk0, blk1, blk2, blk3]

/-- The reference's projection of the arguments. -/
abbrev zz := zV (hV (aX m c) (aC m c) (aH m c) (aG m c)) (aW m c)
abbrev ss := sV (zz m c) (aL m c) (aB m c)

theorem parts3 {p q : ℕ} (y : (⟨3, ![1, p, q]⟩ : Shape).Idx) : ∃ (a : Fin p) (b : Fin q), y = ix3 0 a b := by
  refine ⟨y 1, y 2, (eq_ix3 y).trans (congrArg (fun z => ix3 z (y 1) (y 2)) (Fin.ext ?_))⟩
  have h : (y 0).val < 1 := (y 0).isLt
  show (y 0).val = 0; omega
theorem parts4 {p q : ℕ} (y : (⟨4, ![1, 1, p, q]⟩ : Shape).Idx) : ∃ (a : Fin p) (b : Fin q), y = ix4 0 0 a b := by
  refine ⟨y 2, y 3, (eq_ix4 y).trans (congrArg₂ (fun z z' => ix4 z z' (y 2) (y 3)) (Fin.ext ?_) (Fin.ext ?_))⟩
  · have h : (y 0).val < 1 := (y 0).isLt
    show (y 0).val = 0; omega
  · have h : (y 1).val < 1 := (y 1).isLt
    show (y 1).val = 0; omega

/-! The arrays left. -/

theorem arr8 : (dats m 0 c).arrAt 8 cfg0.N = r0 (zz m c) := by
  refine (dats m 0 c).arrAt_eq_of_covers 8 _ (by decide +kernel) fun t hf y => ?_
  show (dats m 0 c).after 8 t y = _
  rw [after0_8]
  have hi := lt_pts t
  obtain ⟨f, r, rfl⟩ : ∃ (f r : Fin 512), y = (ix3 0 f r : S1x512x512.Idx) := parts3 y
  have he : ((cfg0.win 8).blk t).view.emb (ix3 0 f r : S1x512x512.Idx) = (ix3 (bt t) f (st t r) : S4x512x4096.Idx) := by
    refine funext fun a => Fin.ext ?_
    have e : (((cfg0.win 8).blk t).view.emb (ix3 0 f r : S1x512x512.Idx) a : ℕ) = win0_8.index t a * (![1, 512, 512] : Fin 3 → ℕ) a + 1 * ((ix3 0 f r : S1x512x512.Idx) a).val := rfl
    rw [index8] at e
    fin_cases a
    · exact e.trans (by show (grid0.coords t 0).val / 8 * 1 + 1 * 0 = (grid0.coords t 0).val / 8; omega)
    · exact e.trans (by show 0 * 512 + 1 * f.val = f.val; omega)
    · exact e.trans (by show (grid0.coords t 0).val % 8 * 512 + 1 * r.val = 512 * ((grid0.coords t 0).val % 8) + r.val; omega)
  rw [he]
  rw [r0_apply]
  refine (out8_apply _ _ _ _ _ _ _ _ f r).trans ?_
  simp only [blk4, tz]
theorem arr9 : (dats m 0 c).arrAt 9 cfg0.N = r1 (zz m c) := by
  refine (dats m 0 c).arrAt_eq_of_covers 9 _ (by decide +kernel) fun t hf y => ?_
  show (dats m 0 c).after 9 t y = _
  rw [after0_9]
  have hi := lt_pts t
  obtain ⟨f, r, rfl⟩ : ∃ (f r : Fin 512), y = (ix3 0 f r : S1x512x512.Idx) := parts3 y
  have he : ((cfg0.win 9).blk t).view.emb (ix3 0 f r : S1x512x512.Idx) = (ix3 (bt t) f (st t r) : S4x512x4096.Idx) := by
    refine funext fun a => Fin.ext ?_
    have e : (((cfg0.win 9).blk t).view.emb (ix3 0 f r : S1x512x512.Idx) a : ℕ) = win0_9.index t a * (![1, 512, 512] : Fin 3 → ℕ) a + 1 * ((ix3 0 f r : S1x512x512.Idx) a).val := rfl
    rw [index9] at e
    fin_cases a
    · exact e.trans (by show (grid0.coords t 0).val / 8 * 1 + 1 * 0 = (grid0.coords t 0).val / 8; omega)
    · exact e.trans (by show 0 * 512 + 1 * f.val = f.val; omega)
    · exact e.trans (by show (grid0.coords t 0).val % 8 * 512 + 1 * r.val = 512 * ((grid0.coords t 0).val % 8) + r.val; omega)
  rw [he]
  rw [r1_apply]
  refine (out9_apply _ _ _ _ _ _ _ _ f r).trans ?_
  simp only [blk5_hi, tz]
theorem arr10 : (dats m 0 c).arrAt 10 cfg0.N = r2 (zz m c) := by
  refine (dats m 0 c).arrAt_eq_of_covers 10 _ (by decide +kernel) fun t hf y => ?_
  show (dats m 0 c).after 10 t y = _
  rw [after0_10]
  have hi := lt_pts t
  obtain ⟨f, r, rfl⟩ : ∃ (f r : Fin 512), y = (ix3 0 f r : S1x512x512.Idx) := parts3 y
  have he : ((cfg0.win 10).blk t).view.emb (ix3 0 f r : S1x512x512.Idx) = (ix3 (bt t) f (st t r) : S4x512x4096.Idx) := by
    refine funext fun a => Fin.ext ?_
    have e : (((cfg0.win 10).blk t).view.emb (ix3 0 f r : S1x512x512.Idx) a : ℕ) = win0_10.index t a * (![1, 512, 512] : Fin 3 → ℕ) a + 1 * ((ix3 0 f r : S1x512x512.Idx) a).val := rfl
    rw [index10] at e
    fin_cases a
    · exact e.trans (by show (grid0.coords t 0).val / 8 * 1 + 1 * 0 = (grid0.coords t 0).val / 8; omega)
    · exact e.trans (by show 0 * 512 + 1 * f.val = f.val; omega)
    · exact e.trans (by show (grid0.coords t 0).val % 8 * 512 + 1 * r.val = 512 * ((grid0.coords t 0).val % 8) + r.val; omega)
  rw [he]
  rw [r2_apply]
  refine (out10_apply _ _ _ _ _ _ _ _ f r).trans ?_
  simp only [blk5_lo, tz]
theorem arr11 : (dats m 0 c).arrAt 11 cfg0.N = r3 (zz m c) := by
  refine (dats m 0 c).arrAt_eq_of_covers 11 _ (by decide +kernel) fun t hf y => ?_
  show (dats m 0 c).after 11 t y = _
  rw [after0_11]
  have hi := lt_pts t
  obtain ⟨r, f, rfl⟩ : ∃ (r f : Fin 512), y = (ix2 r f : S512x512.Idx) := ⟨y 0, y 1, by funext a; fin_cases a <;> rfl⟩
  have he : ((cfg0.win 11).blk t).view.emb (ix2 r f : S512x512.Idx) = (ix2 (row (bt t) (st t r)) f : S16384x512.Idx) := by
    refine funext fun a => Fin.ext ?_
    have e : (((cfg0.win 11).blk t).view.emb (ix2 r f : S512x512.Idx) a : ℕ) = win0_11.index t a * (![512, 512] : Fin 2 → ℕ) a + 1 * ((ix2 r f : S512x512.Idx) a).val := rfl
    rw [index11] at e
    fin_cases a
    · exact e.trans (by show (grid0.coords t 0).val * 512 + 1 * r.val = 4096 * ((grid0.coords t 0).val / 8) + (512 * ((grid0.coords t 0).val % 8) + r.val); omega)
    · exact e.trans (by show 0 * 512 + 1 * f.val = f.val; omega)
  rw [he]
  rw [r3_apply]
  refine (out11_apply _ _ _ _ _ _ _ _ r f).trans ?_
  simp only [blk4, tz]
theorem arr12 : (dats m 0 c).arrAt 12 cfg0.N = r4 (zz m c) := by
  refine (dats m 0 c).arrAt_eq_of_covers 12 _ (by decide +kernel) fun t hf y => ?_
  show (dats m 0 c).after 12 t y = _
  rw [after0_12]
  have hi := lt_pts t
  obtain ⟨f, r, rfl⟩ : ∃ (f r : Fin 512), y = (ix4 0 0 f r : S1x1x512x512.Idx) := parts4 y
  have he : ((cfg0.win 12).blk t).view.emb (ix4 0 0 f r : S1x1x512x512.Idx) = (ix4 (bt t) ⟨(grid0.coords t 0).val % 8, by omega⟩ f r : S4x8x512x512.Idx) := by
    refine funext fun a => Fin.ext ?_
    have e : (((cfg0.win 12).blk t).view.emb (ix4 0 0 f r : S1x1x512x512.Idx) a : ℕ) = win0_12.index t a * (![1, 1, 512, 512] : Fin 4 → ℕ) a + 1 * ((ix4 0 0 f r : S1x1x512x512.Idx) a).val := rfl
    rw [index12] at e
    fin_cases a
    · exact e.trans (by show (grid0.coords t 0).val / 8 * 1 + 1 * 0 = (grid0.coords t 0).val / 8; omega)
    · exact e.trans (by show (grid0.coords t 0).val % 8 * 1 + 1 * 0 = (grid0.coords t 0).val % 8; omega)
    · exact e.trans (by show 0 * 512 + 1 * f.val = f.val; omega)
    · exact e.trans (by show 0 * 512 + 1 * r.val = r.val; omega)
  rw [he]
  rw [r4_apply]
  refine (out12_apply _ _ _ _ _ _ _ _ f r).trans ?_
  simp only [blk5_hi, tz]
  rfl
theorem arr13 : (dats m 0 c).arrAt 13 cfg0.N = r5 (zz m c) := by
  refine (dats m 0 c).arrAt_eq_of_covers 13 _ (by decide +kernel) fun t hf y => ?_
  show (dats m 0 c).after 13 t y = _
  rw [after0_13]
  have hi := lt_pts t
  obtain ⟨r, f, rfl⟩ : ∃ (r f : Fin 512), y = (ix2 r f : S512x512.Idx) := ⟨y 0, y 1, by funext a; fin_cases a <;> rfl⟩
  have he : ((cfg0.win 13).blk t).view.emb (ix2 r f : S512x512.Idx) = (ix2 (row (bt t) (st t r)) f : S16384x512.Idx) := by
    refine funext fun a => Fin.ext ?_
    have e : (((cfg0.win 13).blk t).view.emb (ix2 r f : S512x512.Idx) a : ℕ) = win0_13.index t a * (![512, 512] : Fin 2 → ℕ) a + 1 * ((ix2 r f : S512x512.Idx) a).val := rfl
    rw [index13] at e
    fin_cases a
    · exact e.trans (by show (grid0.coords t 0).val * 512 + 1 * r.val = 4096 * ((grid0.coords t 0).val / 8) + (512 * ((grid0.coords t 0).val % 8) + r.val); omega)
    · exact e.trans (by show 0 * 512 + 1 * f.val = f.val; omega)
  rw [he]
  rw [r5_apply]
  refine (out13_apply _ _ _ _ _ _ _ _ r f).trans ?_
  simp only [blk4, tz]
theorem arr14 : (dats m 0 c).arrAt 14 cfg0.N = r6 (ss m c) := by
  refine (dats m 0 c).arrAt_eq_of_covers 14 _ (by decide +kernel) fun t hf y => ?_
  show (dats m 0 c).after 14 t y = _
  rw [after0_14]
  have hi := lt_pts t
  obtain ⟨r, f, rfl⟩ : ∃ (r f : Fin 512), y = (ix2 r f : S512x512.Idx) := ⟨y 0, y 1, by funext a; fin_cases a <;> rfl⟩
  have he : ((cfg0.win 14).blk t).view.emb (ix2 r f : S512x512.Idx) = (ix2 (row (bt t) (st t r)) f : S16384x512.Idx) := by
    refine funext fun a => Fin.ext ?_
    have e : (((cfg0.win 14).blk t).view.emb (ix2 r f : S512x512.Idx) a : ℕ) = win0_14.index t a * (![512, 512] : Fin 2 → ℕ) a + 1 * ((ix2 r f : S512x512.Idx) a).val := rfl
    rw [index14] at e
    fin_cases a
    · exact e.trans (by show (grid0.coords t 0).val * 512 + 1 * r.val = 4096 * ((grid0.coords t 0).val / 8) + (512 * ((grid0.coords t 0).val % 8) + r.val); omega)
    · exact e.trans (by show 0 * 512 + 1 * f.val = f.val; omega)
  rw [he]
  rw [r6_apply]
  refine Eq.trans ?_ (sV_apply _ _ _ _ _ _ _ _ _ _).symm
  refine (out14_apply _ _ _ _ _ _ _ _ r f).trans ?_
  simp only [blk4, blk6, blk7, tz]
  rfl
theorem arr15 : (dats m 0 c).arrAt 15 cfg0.N = r7 (ss m c) := by
  refine (dats m 0 c).arrAt_eq_of_covers 15 _ (by decide +kernel) fun t hf y => ?_
  show (dats m 0 c).after 15 t y = _
  rw [after0_15]
  have hi := lt_pts t
  have h7 := flush15 t hf
  obtain ⟨r, f, rfl⟩ : ∃ (r : Fin 128) (f : Fin 512), y = (ix3 0 r f : S1x128x512.Idx) := parts3 y
  have he : ((cfg0.win 15).blk t).view.emb (ix3 0 r f : S1x128x512.Idx) = (ix3 (bt t) r f : S4x128x512.Idx) := by
    refine funext fun a => Fin.ext ?_
    have e : (((cfg0.win 15).blk t).view.emb (ix3 0 r f : S1x128x512.Idx) a : ℕ) = win0_15.index t a * (![1, 128, 512] : Fin 3 → ℕ) a + 1 * ((ix3 0 r f : S1x128x512.Idx) a).val := rfl
    rw [index15] at e
    fin_cases a
    · exact e.trans (by show (grid0.coords t 0).val / 8 * 1 + 1 * 0 = (grid0.coords t 0).val / 8; omega)
    · exact e.trans (by show 0 * 128 + 1 * r.val = r.val; omega)
    · exact e.trans (by show 0 * 512 + 1 * f.val = f.val; omega)
  rw [he]
  rw [r7_apply]
  refine Eq.trans ?_ (sV_apply _ _ _ _ _ _ _ _ _ _).symm
  refine (out15_apply _ _ _ _ _ _ _ _ r f).trans ?_
  simp only [blk4, blk6, blk7, tz]
  have e7 : st t ⟨384 + r.val, by omega⟩ = ⟨3968 + r.val, by omega⟩ := Fin.ext (by show 512 * ((grid0.coords t 0).val % 8) + (384 + r.val) = 3968 + r.val; omega)
  rw [e7]
  rfl

end Cert.Kernel4Ideal.In

end
-- ==== Proof.Inproj.lean ====
/-
The fused projection call: its run over the extended reals, and its run over the bits.
-/
module

public import proofs.«01_k».proof.Proof.InprojValue
public import proofs.«01_k».proof.Proof.Gen.Kernel4
public import Idealize.ShloMosaic.Lib.Pipeline.Regions

@[expose] public section

set_option maxRecDepth 65536
set_option maxHeartbeats 0

noncomputable section

namespace Cert.Kernel4Ideal.In

open Idealize.ShloMosaic Idealize.ShloMosaic.TcCoe Idealize.SL.Sem
open Cert.Kernel4Ideal Cert.Kernel4Ideal.Gen Cert.InRef

/-- The run: the eight result arrays are the reference's eight of the arguments, the arguments are unchanged, every counter is back at zero. -/
theorem run_out (m : (ℓ : Loc nD τ sig) → Buf (Elt Ideal) ℓ) (ρ : Dev nD → PrngReg) : θ_run (defs (F := Ideal)) (onTc (τ := τ) (main (F := Ideal))) ⟨m, fun _ => 0, ρ⟩ (fun r => (∀ c : Dev nD,
      r.2.mem ((c.tc : Thread nD τ).loc main_v8_0) = r0 (zz m c)
      ∧ r.2.mem ((c.tc : Thread nD τ).loc main_v8_1) = r1 (zz m c)
      ∧ r.2.mem ((c.tc : Thread nD τ).loc main_v8_2) = r2 (zz m c)
      ∧ r.2.mem ((c.tc : Thread nD τ).loc main_v8_3) = r3 (zz m c)
      ∧ r.2.mem ((c.tc : Thread nD τ).loc main_v8_4) = r4 (zz m c)
      ∧ r.2.mem ((c.tc : Thread nD τ).loc main_v8_5) = r5 (zz m c)
      ∧ r.2.mem ((c.tc : Thread nD τ).loc main_v8_6) = r6 (ss m c)
      ∧ r.2.mem ((c.tc : Thread nD τ).loc main_v8_7) = r7 (ss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨((h.1 c).1).trans (arr8 m c), ((h.1 c).2.1).trans (arr9 m c), ((h.1 c).2.2.1).trans (arr10 m c), ((h.1 c).2.2.2.1).trans (arr11 m c), ((h.1 c).2.2.2.2.1).trans (arr12 m c), ((h.1 c).2.2.2.2.2.1).trans (arr13 m c), ((h.1 c).2.2.2.2.2.2.1).trans (arr14 m c), ((h.1 c).2.2.2.2.2.2.2.1).trans (arr15 m c), (h.1 c).2.2.2.2.2.2.2.2⟩, h.2⟩)
    (θ_run_and (Value.run_blocks m ρ) ((θ_run defs _ _).mono (fun _ h => h.2) (frame m ρ)))

/-- The run over the bits, said of the idealization's text. -/
def RunIdealText : Prop := ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0)

end Cert.Kernel4Ideal.In

namespace Cert.Kernel4.In

open Idealize.ShloMosaic Idealize.ShloMosaic.TcCoe Idealize.SL.Sem
open Cert.Kernel4 Cert.Kernel4.Gen

/-- The run over the bits, said of the kernel's own text. -/
def RunText : Prop := ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0)

/-- The two texts are one, so the two statements are one. -/
theorem run_same : Cert.Kernel4Ideal.In.RunIdealText = RunText := by
  chain_rfl

/-- The kernel's run over the bits. -/
theorem run_bits : RunText := run_same.mp fun m ρ => Cert.Kernel4Ideal.Gen.frame (F := Bits) m ρ

end Cert.Kernel4.In

end
-- ==== Proof.InprojSTile.lean ====
/-
  The samples' projection call: the body's six results over the idealization's numbers, entry by entry.
-/
module

public import proofs.«01_k».proof.Proof.InprojTile
public import proofs.«01_k».proof.Proof.Gen.Kernel5Ideal.Frame

@[expose] public section

set_option maxRecDepth 16384

noncomputable section

namespace Cert.InValS

open Cert.Kernel5Ideal Cert.Kernel5Ideal.Gen
open Idealize.ShloMosaic
open Cert.InVal (modrow proj gelu mean lnorm z2 z3)

section Payloads
variable (x : Vec Ideal S256x1024 .f32) (g : Vec Ideal S1x1024 .f32) (sc sh : Vec Ideal S1x256x1024 .f32)
  (X : FVec Ideal S256x1024 .bf16) (w : Vec Ideal S1024x512 .bf16)

theorem pay4_apply (r : Fin 256) (d : Fin 1024) :
    k0_pay4 (F := Ideal) x g sc sh (ix2 r d) = modrow (fun e => x (ix2 r e)) (fun e => g (ix2 0 e)) (fun e => sc (ix3 0 r e)) (fun e => sh (ix3 0 r e)) d := by
  pointwise [k0_pay4]
  rfl

theorem pay5_apply (r : Fin 256) (f : Fin 512) :
    k0_pay5 (F := Ideal) x g sc sh w (ix2 r f) = proj (fun e => x (ix2 r e)) (fun e => g (ix2 0 e)) (fun e => sc (ix3 0 r e)) (fun e => sh (ix3 0 r e)) (fun k => w (ix2 k f)) := by
  pointwise [k0_pay5]
  exact Finset.sum_congr rfl fun k _ => congrArg (· * _) (pay4_apply x g sc sh r k)

theorem pay6_apply (r : Fin 256) (f : Fin 512) :
    k0_pay6 (F := Ideal) x g sc sh w (ix2 r f) = proj (fun e => x (ix2 r e)) (fun e => g (ix2 0 e)) (fun e => sc (ix3 0 r e)) (fun e => sh (ix3 0 r e)) (fun k => w (ix2 k f)) * Ideal.ofBits .f32 0x3E8293EE#32 := by
  pointwise [k0_pay6]
  exact congrArg (· * _) (Finset.sum_congr rfl fun k _ => congrArg (· * _) (pay4_apply x g sc sh r k))

theorem pay7_apply (r : Fin 256) (f : Fin 512) :
    k0_pay7 (F := Ideal) X w (ix2 r f) = ∑ k : Fin 1024, X (ix2 r k) * w (ix2 k f) := by
  pointwise [k0_pay7]

theorem pay8_apply (r : Fin 256) (f : Fin 512) :
    k0_pay8 (F := Ideal) X w (ix2 r f) = gelu (∑ k : Fin 1024, X (ix2 r k) * w (ix2 k f)) := by
  pointwise [k0_pay8]
  generalize (∑ k : Fin 1024, X (ix2 r k) * w (ix2 k f)) = z
  unfold gelu
  rw [mul_comm z (z * z)]

theorem pay1_apply (lg lb : Vec Ideal S1x512 .f32) (r : Fin 256) (f : Fin 512) :
    k0_pay1 (F := Ideal) (k0_pay9 X w) (k0_pay10 X w) k0_pay11 lg lb (ix2 r f)
      = lnorm (fun j => gelu (∑ k : Fin 1024, X (ix2 r k) * w (ix2 k j))) (fun j => lg (ix2 0 j)) (fun j => lb (ix2 0 j)) f := by
  pointwise [k0_pay1, k0_pay9, k0_pay10, k0_pay11]
  unfold lnorm mean gelu
  simp only [mul_comm (_ * _) (∑ k : Fin 1024, _)]

theorem pay2_apply (a b d : FVec Ideal S256x512 .f32) (lg lb : Vec Ideal S1x512 .f32) (r : Fin 256) (f : Fin 512) :
    k0_pay2 (F := Ideal) a b d lg lb (ix2 r f) = k0_pay1 (F := Ideal) a b d lg lb (ix2 r f) := by
  pointwise [k0_pay2]
theorem pay3_apply (a b d : FVec Ideal S256x512 .f32) (lg lb : Vec Ideal S1x512 .f32) (r : Fin 256) (f : Fin 512) :
    k0_pay3 (F := Ideal) a b d lg lb (ix3 0 r f) = k0_pay1 (F := Ideal) a b d lg lb (ix2 r f) := by
  pointwise [k0_pay3]

end Payloads

section Outs
variable (x0 : Vec Ideal S256x1024 .f32) (x1 x2 : Vec Ideal S1x256x1024 .f32) (x3 : Vec Ideal S1x1024 .f32) (x4 : Vec Ideal S1024x2560 .bf16) (x5 : Vec Ideal S1024x1024 .bf16)
  (x6 x7 : Vec Ideal S1x512 .f32)

/-- 512 columns of the weights, loaded from column `o` on. -/
theorem ld_cols (o : ℕ) (ho : o + 512 ≤ 2560) (hb : ∀ a, (![0, o] : Fin 2 → ℕ) a + S1024x512.size a ≤ S1024x2560.size a) (k : Fin 1024) (f : Fin 512) :
    View.ld x4 (Rect.unit (s := S1024x2560) ![0, o] S1024x512.size hb) (ix2 k f) = x4 (ix2 k ⟨o + f.val, by omega⟩) := by
  refine congrArg x4 (funext fun a => Fin.ext ?_)
  fin_cases a
  · show 0 + 1 * k.val = k.val; omega
  · show o + 1 * f.val = o + f.val; omega

/-- Row `r` against a column. -/
def tproj (r : Fin 256) (w : Fin 1024 → EReal) : EReal := proj (fun e => x0 (ix2 r e)) (fun e => x3 (ix2 0 e)) (fun e => x1 (ix3 0 r e)) (fun e => x2 (ix3 0 r e)) w

theorem pay12_apply (r : Fin 256) (w : Fin 1024 → EReal) : ∑ k : Fin 1024, k0_pay12 (F := Ideal) x0 x1 x2 x3 x4 x5 x6 x7 (ix2 r k) * w k = tproj x0 x1 x2 x3 r w := by
  unfold k0_pay12 tproj proj
  rw [View.ld_unit_zero z2, View.ld_unit_zero z2, View.ld_unit_zero z3, View.ld_unit_zero z3]
  exact Finset.sum_congr rfl fun k _ => congrArg (· * _) (pay4_apply x0 x3 x1 x2 r k)

theorem out8_apply (r : Fin 256) (f : Fin 512) : out0_8 (F := Ideal) x0 x1 x2 x3 x4 x5 x6 x7 (ix2 r f) = tproj x0 x1 x2 x3 r (fun k => x4 (ix2 k ⟨512 + f.val, by omega⟩)) := by
  unfold out0_8
  rw [View.canon_unit_zero z2, View.ld_unit_zero z2, View.ld_unit_zero z2, View.ld_unit_zero z3, View.ld_unit_zero z3, pay5_apply]
  simp only [ld_cols x4 512 (by decide)]
  rfl
theorem out9_apply (r : Fin 256) (f : Fin 512) : out0_9 (F := Ideal) x0 x1 x2 x3 x4 x5 x6 x7 (ix2 r f) = tproj x0 x1 x2 x3 r (fun k => x4 (ix2 k ⟨1024 + f.val, by omega⟩)) := by
  unfold out0_9
  rw [View.canon_unit_zero z2, pay7_apply]
  simp only [ld_cols x4 1024 (by decide)]
  exact pay12_apply _ _ _ _ _ _ _ _ r _
theorem out10_apply (r : Fin 256) (f : Fin 512) : out0_10 (F := Ideal) x0 x1 x2 x3 x4 x5 x6 x7 (ix2 r f) = tproj x0 x1 x2 x3 r (fun k => x4 (ix2 k ⟨0 + f.val, by omega⟩)) * Ideal.ofBits .f32 0x3E8293EE#32 := by
  unfold out0_10
  rw [View.canon_unit_zero z2, View.ld_unit_zero z2, View.ld_unit_zero z2, View.ld_unit_zero z3, View.ld_unit_zero z3, pay6_apply]
  simp only [ld_cols x4 0 (by decide)]
  rfl
theorem out11_apply (r : Fin 256) (f : Fin 512) : out0_11 (F := Ideal) x0 x1 x2 x3 x4 x5 x6 x7 (ix2 r f) = gelu (tproj x0 x1 x2 x3 r (fun k => x4 (ix2 k ⟨1536 + f.val, by omega⟩))) := by
  unfold out0_11
  rw [View.canon_unit_zero z2, pay8_apply]
  simp only [ld_cols x4 1536 (by decide)]
  exact congrArg gelu (pay12_apply _ _ _ _ _ _ _ _ r _)
theorem pay1_out (lg lb : Vec Ideal S1x512 .f32) (r : Fin 256) (f : Fin 512) :
    k0_pay1 (F := Ideal) (k0_pay13 x0 x1 x2 x3 x4 x5 x6 x7) (k0_pay14 x0 x1 x2 x3 x4 x5 x6 x7) (k0_pay15 x0 x1 x2 x3 x4 x5 x6 x7) lg lb (ix2 r f)
      = lnorm (fun j => gelu (tproj x0 x1 x2 x3 r (fun k => x4 (ix2 k ⟨2048 + j.val, by omega⟩)))) (fun j => lg (ix2 0 j)) (fun j => lb (ix2 0 j)) f := by
  unfold k0_pay13 k0_pay14 k0_pay15
  rw [pay1_apply]
  simp only [ld_cols x4 2048 (by decide), pay12_apply]
theorem out12_apply (r : Fin 256) (f : Fin 512) : out0_12 (F := Ideal) x0 x1 x2 x3 x4 x5 x6 x7 (ix2 r f)
    = lnorm (fun j => gelu (tproj x0 x1 x2 x3 r (fun k => x4 (ix2 k ⟨2048 + j.val, by omega⟩)))) (fun j => x6 (ix2 0 j)) (fun j => x7 (ix2 0 j)) f := by
  unfold out0_12
  rw [View.canon_unit_zero z2, View.ld_unit_zero z2, View.ld_unit_zero z2, pay2_apply, pay1_out]
theorem out13_apply (r : Fin 256) (f : Fin 512) : out0_13 (F := Ideal) x0 x1 x2 x3 x4 x5 x6 x7 (ix3 0 r f)
    = lnorm (fun j => gelu (tproj x0 x1 x2 x3 r (fun k => x4 (ix2 k ⟨2048 + j.val, by omega⟩)))) (fun j => x6 (ix2 0 j)) (fun j => x7 (ix2 0 j)) f := by
  unfold out0_13
  rw [View.canon_unit_zero z3, View.ld_unit_zero z2, View.ld_unit_zero z2, pay3_apply, pay1_out]

end Outs

end Cert.InValS

end
-- ==== Proof.InprojSRef.lean ====
/-
  The reference of the samples' projection over the idealization's numbers, by its stages and entry by entry.
-/
module

public import proofs.«01_k».proof.Proof.InprojTile
public import proofs.«01_k».proof.Proof.Gen.Reference5Ideal.Run

@[expose] public section

set_option maxRecDepth 16384

noncomputable section

namespace Cert.InRefS

open Cert.Reference5Ideal Cert.Reference5Ideal.Gen Cert.Reference5Ideal.Value
open Idealize.ShloMosaic Idealize.ShloMosaic.TcCoe
open Cert.MoeVal (rms)
open Cert.InVal (modrow proj gelu mean lnorm)

/-! ## The reference's stages -/

/-- The rows normed, scaled and modulated. -/
def hV (x : FVec Ideal S32x8x1024 .f32) (sc sh : FVec Ideal S32x1024 .f32) (g : FVec Ideal S1024 .f32) : FVec Ideal S32x8x1024 .f32 :=
  addf (mulf (mulf (mulf x (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf x x) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 g))) (broadcastInDim S32x8x1024 ![0, 1, 2] bcast_S32x1x1024_S32x8x1024_0_1_2 (addf (broadcastInDim S32x1x1024 ![] bcast_S_S32x1x1024 (constant S_ .f32 0x3F800000#32)) (broadcastInDim S32x1x1024 ![0, 2] bcast_S32x1024_S32x1x1024_0_2 sc)))) (broadcastInDim S32x8x1024 ![0, 1, 2] bcast_S32x1x1024_S32x8x1024_0_1_2 (broadcastInDim S32x1x1024 ![0, 2] bcast_S32x1024_S32x1x1024_0_2 sh))
/-- The projection. -/
def zV (h : FVec Ideal S32x8x1024 .f32) (w : FVec Ideal S1024x2560 .f32) : FVec Ideal S32x8x2560 .f32 :=
  Host.dotGeneral dot_S32x8x1024_S1024x2560_S32x8x2560_2_0_01_1_n_n none h w
/-- gelu, entry by entry. -/
def gV (y : FVec Ideal S32x8x512 .f32) : FVec Ideal S32x8x512 .f32 :=
  mulf y (mulf (broadcastInDim S32x8x512 ![] bcast_S_S32x8x512 (constant S_ .f32 0x3F000000#32)) (addf (broadcastInDim S32x8x512 ![] bcast_S_S32x8x512 (constant S_ .f32 0x3F800000#32)) (Host.tanh (mulf (broadcastInDim S32x8x512 ![] bcast_S_S32x8x512 (constant S_ .f32 0x3F4C422A#32)) (addf y (mulf (broadcastInDim S32x8x512 ![] bcast_S_S32x8x512 (constant S_ .f32 0x3D372713#32)) (mulf (mulf y y) y)))))))
/-- Rows with their means taken off. -/
def cV (y : FVec Ideal S32x8x512 .f32) : FVec Ideal S32x8x512 .f32 :=
  subf y (broadcastInDim S32x8x512 ![0, 1, 2] bcast_S32x8x1_S32x8x512_0_1_2 (Host.divf (broadcastInDim S32x8x1 ![0, 1] bcast_S32x8_S32x8x1_0_1 (Host.reduceAdd y (constant S_ .f32 0x00000000#32) reducesTo_S32x8x512_S32x8_d2 h_S_)) (broadcastInDim S32x8x1 ![] bcast_S_S32x8x1 (constant S_ .f32 0x44000000#32))))
/-- Centred rows scaled to unit variance, then by `lg`, and `lb` added. -/
def nV (z : FVec Ideal S32x8x512 .f32) (lg lb : FVec Ideal S512 .f32) : FVec Ideal S32x8x512 .f32 :=
  addf (mulf (mulf z (broadcastInDim S32x8x512 ![0, 1, 2] bcast_S32x8x1_S32x8x512_0_1_2 (Host.rsqrt (addf (Host.divf (broadcastInDim S32x8x1 ![0, 1] bcast_S32x8_S32x8x1_0_1 (Host.reduceAdd (mulf z z) (constant S_ .f32 0x00000000#32) reducesTo_S32x8x512_S32x8_d2 h_S_)) (broadcastInDim S32x8x1 ![] bcast_S_S32x8x1 (constant S_ .f32 0x44000000#32))) (broadcastInDim S32x8x1 ![] bcast_S_S32x8x1 (constant S_ .f32 0x358637BD#32)))))) (broadcastInDim S32x8x512 ![0, 1, 2] bcast_S1x1x512_S32x8x512_0_1_2 (broadcastInDim S1x1x512 ![2] bcast_S512_S1x1x512_2 lg))) (broadcastInDim S32x8x512 ![0, 1, 2] bcast_S1x1x512_S32x8x512_0_1_2 (broadcastInDim S1x1x512 ![2] bcast_S512_S1x1x512_2 lb))

/-! The six results. -/

def r0 (z : FVec Ideal S32x8x2560 .f32) : FVec Ideal S256x512 .f32 := shapeCast _ (extractStridedSlice S32x8x512 ![0, 0, 512] z slices_S32x8x2560_S32x8x512_0_0_512) shapeCasts_S32x8x512_S256x512
def r1 (z : FVec Ideal S32x8x2560 .f32) : FVec Ideal S256x512 .f32 := shapeCast _ (extractStridedSlice S32x8x512 ![0, 0, 1024] z slices_S32x8x2560_S32x8x512_0_0_1024) shapeCasts_S32x8x512_S256x512
def r2 (z : FVec Ideal S32x8x2560 .f32) : FVec Ideal S256x512 .bf16 := truncf .bf16 (mulf (shapeCast _ (extractStridedSlice S32x8x512 ![0, 0, 0] z slices_S32x8x2560_S32x8x512_0_0_0) shapeCasts_S32x8x512_S256x512) (broadcastInDim S256x512 ![] bcast_S_S256x512 (constant S_ .f32 0x3E8293EE#32))) bitsLt_bf16_f32
def r3 (z : FVec Ideal S32x8x2560 .f32) : FVec Ideal S256x512 .bf16 := truncf .bf16 (shapeCast _ (gV (extractStridedSlice S32x8x512 ![0, 0, 1536] z slices_S32x8x2560_S32x8x512_0_0_1536)) shapeCasts_S32x8x512_S256x512) bitsLt_bf16_f32
/-- The layer-normed gelu of the last 512 columns. -/
def sV (z : FVec Ideal S32x8x2560 .f32) (lg lb : FVec Ideal S512 .f32) : FVec Ideal S32x8x512 .f32 := nV (cV (gV (extractStridedSlice S32x8x512 ![0, 0, 2048] z slices_S32x8x2560_S32x8x512_0_0_2048))) lg lb
def r4 (s : FVec Ideal S32x8x512 .f32) : FVec Ideal S256x512 .bf16 := truncf .bf16 (shapeCast _ (s) shapeCasts_S32x8x512_S256x512) bitsLt_bf16_f32
def r5 (s : FVec Ideal S32x8x512 .f32) : FVec Ideal S1x256x512 .f32 := broadcastInDim S1x256x512 ![1, 2] bcast_S256x512_S1x256x512_1_2 (shapeCast _ (s) shapeCasts_S32x8x512_S256x512)

theorem res3_eq (m : (ℓ : Loc nD τ sig) → Buf (Elt Ideal) ℓ) (c : Dev nD) (x : FVec Ideal S32x8x1024 .f32) (sc sh : FVec Ideal S32x1024 .f32) (g : FVec Ideal S1024 .f32) (w : FVec Ideal S1024x2560 .f32) (lg lb : FVec Ideal S512 .f32)
    (h0 : m ((c.tc : Thread nD τ).loc main_arg0) = x) (h1 : m ((c.tc : Thread nD τ).loc main_arg1) = sc) (h2 : m ((c.tc : Thread nD τ).loc main_arg2) = sh) (h3 : m ((c.tc : Thread nD τ).loc main_arg3) = g) (h4 : m ((c.tc : Thread nD τ).loc main_arg4) = w) (h5 : m ((c.tc : Thread nD τ).loc main_arg5) = lg) (h6 : m ((c.tc : Thread nD τ).loc main_arg6) = lb) :
    res_main_v82 (F := Ideal) m c = r3 (zV (hV x sc sh g) w) := by
  subst h0 h1 h2 h3 h4 h5 h6
  chain_rfl
theorem res4_eq (m : (ℓ : Loc nD τ sig) → Buf (Elt Ideal) ℓ) (c : Dev nD) (x : FVec Ideal S32x8x1024 .f32) (sc sh : FVec Ideal S32x1024 .f32) (g : FVec Ideal S1024 .f32) (w : FVec Ideal S1024x2560 .f32) (lg lb : FVec Ideal S512 .f32)
    (h0 : m ((c.tc : Thread nD τ).loc main_arg0) = x) (h1 : m ((c.tc : Thread nD τ).loc main_arg1) = sc) (h2 : m ((c.tc : Thread nD τ).loc main_arg2) = sh) (h3 : m ((c.tc : Thread nD τ).loc main_arg3) = g) (h4 : m ((c.tc : Thread nD τ).loc main_arg4) = w) (h5 : m ((c.tc : Thread nD τ).loc main_arg5) = lg) (h6 : m ((c.tc : Thread nD τ).loc main_arg6) = lb) :
    res_main_v84 (F := Ideal) m c = r4 (sV (zV (hV x sc sh g) w) lg lb) := by
  subst h0 h1 h2 h3 h4 h5 h6
  chain_rfl
theorem res5_eq (m : (ℓ : Loc nD τ sig) → Buf (Elt Ideal) ℓ) (c : Dev nD) (x : FVec Ideal S32x8x1024 .f32) (sc sh : FVec Ideal S32x1024 .f32) (g : FVec Ideal S1024 .f32) (w : FVec Ideal S1024x2560 .f32) (lg lb : FVec Ideal S512 .f32)
    (h0 : m ((c.tc : Thread nD τ).loc main_arg0) = x) (h1 : m ((c.tc : Thread nD τ).loc main_arg1) = sc) (h2 : m ((c.tc : Thread nD τ).loc main_arg2) = sh) (h3 : m ((c.tc : Thread nD τ).loc main_arg3) = g) (h4 : m ((c.tc : Thread nD τ).loc main_arg4) = w) (h5 : m ((c.tc : Thread nD τ).loc main_arg5) = lg) (h6 : m ((c.tc : Thread nD τ).loc main_arg6) = lb) :
    res_main_v86 (F := Ideal) m c = r5 (sV (zV (hV x sc sh g) w) lg lb) := by
  subst h0 h1 h2 h3 h4 h5 h6
  chain_rfl

/-! ## Entry by entry -/

/-- Row `s` of sample `b` among all the rows. -/
def row (b : Fin 32) (s : Fin 8) : Fin 256 := ⟨8 * b.val + s.val, by omega⟩

theorem row_div (b : Fin 32) (s : Fin 8) (h : (row b s).val / 8 < 32) : (⟨(row b s).val / 8, h⟩ : Fin 32) = b :=
  Fin.ext (by show (8 * b.val + s.val) / 8 = b.val; omega)
theorem row_mod (b : Fin 32) (s : Fin 8) (h : (row b s).val % 8 < 8) : (⟨(row b s).val % 8, h⟩ : Fin 8) = s :=
  Fin.ext (by show (8 * b.val + s.val) % 8 = s.val; omega)

section Entries
variable (x : FVec Ideal S32x8x1024 .f32) (sc sh : FVec Ideal S32x1024 .f32) (g : FVec Ideal S1024 .f32) (w : FVec Ideal S1024x2560 .f32) (lg lb : FVec Ideal S512 .f32)

/-- Entry `k` of row `s` of sample `b`, projected. -/
def zAt (b : Fin 32) (s : Fin 8) (k : Fin 2560) : EReal :=
  proj (fun e => x (ix3 b s e)) (fun e => g (ix1 e)) (fun e => sc (ix2 b e)) (fun e => sh (ix2 b e)) (fun e => w (ix2 e k))
/-- Entry `f` of the layer-normed part of that row. -/
def sAt (b : Fin 32) (s : Fin 8) (f : Fin 512) : EReal :=
  lnorm (fun j => gelu (zAt x sc sh g w b s ⟨2048 + j.val, by omega⟩)) (fun j => lg (ix1 j)) (fun j => lb (ix1 j)) f

theorem hV_apply (b : Fin 32) (s : Fin 8) (d : Fin 1024) :
    hV x sc sh g (ix3 b s d) = modrow (fun e => x (ix3 b s e)) (fun e => g (ix1 e)) (fun e => sc (ix2 b e)) (fun e => sh (ix2 b e)) d := by
  pointwise [hV]
  rfl

theorem zV_apply (b : Fin 32) (s : Fin 8) (k : Fin 2560) : zV (hV x sc sh g) w (ix3 b s k) = zAt x sc sh g w b s k := by
  pointwise [zV]
  exact Finset.sum_congr rfl fun e _ => congrArg (· * _) (hV_apply x sc sh g b s e)

theorem gV_apply (y : FVec Ideal S32x8x512 .f32) (i : S32x8x512.Idx) : gV y i = gelu (y i) := by
  pointwise [gV]
  rfl

theorem cV_apply (y : FVec Ideal S32x8x512 .f32) (b : Fin 32) (s : Fin 8) (f : Fin 512) : cV y (ix3 b s f) = y (ix3 b s f) - mean (fun j => y (ix3 b s j)) := by
  pointwise [cV]
  rfl

theorem nV_apply (y : FVec Ideal S32x8x512 .f32) (b : Fin 32) (s : Fin 8) (f : Fin 512) :
    nV (cV y) lg lb (ix3 b s f) = lnorm (fun j => y (ix3 b s j)) (fun j => lg (ix1 j)) (fun j => lb (ix1 j)) f := by
  pointwise [nV]
  simp only [cV_apply]
  rfl

theorem sV_apply (b : Fin 32) (s : Fin 8) (f : Fin 512) : sV (zV (hV x sc sh g) w) lg lb (ix3 b s f) = sAt x sc sh g w lg lb b s f := by
  unfold sV
  rw [nV_apply]
  unfold sAt
  refine congrArg (fun y => lnorm y _ _ f) (funext fun j => ?_)
  rw [gV_apply]
  refine congrArg gelu ?_
  rw [← zV_apply]
  pointwise
theorem r0_apply (b : Fin 32) (s : Fin 8) (f : Fin 512) : r0 (zV (hV x sc sh g) w) (ix2 (row b s) f) = zAt x sc sh g w b s ⟨512 + f.val, by omega⟩ := by
  rw [← zV_apply]
  pointwise [r0]
  rw [row_div, row_mod]
theorem r1_apply (b : Fin 32) (s : Fin 8) (f : Fin 512) : r1 (zV (hV x sc sh g) w) (ix2 (row b s) f) = zAt x sc sh g w b s ⟨1024 + f.val, by omega⟩ := by
  rw [← zV_apply]
  pointwise [r1]
  rw [row_div, row_mod]
theorem r2_apply (b : Fin 32) (s : Fin 8) (f : Fin 512) : r2 (zV (hV x sc sh g) w) (ix2 (row b s) f) = zAt x sc sh g w b s ⟨0 + f.val, by omega⟩ * Ideal.ofBits .f32 0x3E8293EE#32 := by
  rw [← zV_apply]
  pointwise [r2]
  rw [row_div, row_mod]
theorem r3_apply (b : Fin 32) (s : Fin 8) (f : Fin 512) : r3 (zV (hV x sc sh g) w) (ix2 (row b s) f) = gelu (zAt x sc sh g w b s ⟨1536 + f.val, by omega⟩) := by
  rw [← zV_apply]
  pointwise [r3]
  rw [row_div, row_mod, gV_apply]
  refine congrArg gelu ?_
  pointwise
theorem r4_apply (y : FVec Ideal S32x8x512 .f32) (b : Fin 32) (s : Fin 8) (f : Fin 512) : r4 y (ix2 (row b s) f) = y (ix3 b s f) := by
  pointwise [r4]
  rw [row_div, row_mod]
theorem r5_apply (y : FVec Ideal S32x8x512 .f32) (b : Fin 32) (s : Fin 8) (f : Fin 512) : r5 y (ix3 0 (row b s) f) = y (ix3 b s f) := by
  pointwise [r5]
  rw [row_div, row_mod]

end Entries

end Cert.InRefS

end
-- ==== Proof.InprojS.lean ====
/-
  The samples' projection call: each of the six arrays it leaves is the reference's function of the seven arguments, its run over the
  extended reals and its run over the bits.
-/
module

public import proofs.«01_k».proof.Proof.InprojSTile
public import proofs.«01_k».proof.Proof.InprojSRef
public import proofs.«01_k».proof.Proof.Gen.Kernel5
public import proofs.«01_k».proof.Proof.Gen.Kernel5Ideal.Value
public import Idealize.ShloMosaic.Lib.Pipeline.ValueKit
public import Idealize.ShloMosaic.Lib.Pipeline.Regions

@[expose] public section

set_option maxRecDepth 65536

noncomputable section

namespace Cert.Kernel5Ideal.In

open Cert.Kernel5Ideal Cert.Kernel5Ideal.Gen
open Idealize.ShloMosaic Idealize.ShloMosaic.TcCoe Idealize.SL.Sem
open Cert.InVal (modrow proj gelu mean lnorm)
open Cert.InValS Cert.InRefS

variable (m : (ℓ : Loc nD τ sig) → Buf (Elt Ideal) ℓ) (c : Dev nD)

/-! The arguments. -/

abbrev aX : FVec Ideal S32x8x1024 .f32 := m ((c : Thread nD τ).loc main_arg0)
abbrev aC : FVec Ideal S32x1024 .f32 := m ((c : Thread nD τ).loc main_arg1)
abbrev aH : FVec Ideal S32x1024 .f32 := m ((c : Thread nD τ).loc main_arg2)
abbrev aG : FVec Ideal S1024 .f32 := m ((c : Thread nD τ).loc main_arg3)
abbrev aW : FVec Ideal S1024x2560 .f32 := m ((c : Thread nD τ).loc main_arg4)
abbrev aL : FVec Ideal S512 .f32 := m ((c : Thread nD τ).loc main_arg5)
abbrev aB : FVec Ideal S512 .f32 := m ((c : Thread nD τ).loc main_arg6)

/-! What the operations before the call leave in the arrays it reads. -/

theorem V_v0 : V m c main_v0 = (truncf (F := Ideal) .bf16 (aW m c) bitsLt_bf16_f32 : FVec Ideal S1024x2560 .bf16) := by
  unfold V hostOps0; after_results
theorem V_v5 : V m c main_v5 = (shapeCast S256x1024 (aX m c) shapeCasts_S32x8x1024_S256x1024 : FVec Ideal S256x1024 .f32) := by
  unfold V hostOps0; after_results; rfl
theorem V_v8 : V m c main_v8 = (shapeCast S1x256x1024 (shapeCast S256x1024 (broadcastInDim S32x8x1024 ![0, 2] bcast_S32x1024_S32x8x1024_0_2 (aC m c)) shapeCasts_S32x8x1024_S256x1024) shapeCasts_S256x1024_S1x256x1024 : FVec Ideal S1x256x1024 .f32) := by
  unfold V hostOps0; after_results; rfl
theorem V_v11 : V m c main_v11 = (shapeCast S1x256x1024 (shapeCast S256x1024 (broadcastInDim S32x8x1024 ![0, 2] bcast_S32x1024_S32x8x1024_0_2 (aH m c)) shapeCasts_S32x8x1024_S256x1024) shapeCasts_S256x1024_S1x256x1024 : FVec Ideal S1x256x1024 .f32) := by
  unfold V hostOps0; after_results; rfl
theorem V_v12 : V m c main_v12 = (shapeCast S1x1024 (aG m c) shapeCasts_S1024_S1x1024 : FVec Ideal S1x1024 .f32) := by
  unfold V hostOps0; after_results; rfl
theorem V_v13 : V m c main_v13 = (shapeCast S1x512 (aL m c) shapeCasts_S512_S1x512 : FVec Ideal S1x512 .f32) := by
  unfold V hostOps0; after_results; rfl
theorem V_v14 : V m c main_v14 = (shapeCast S1x512 (aB m c) shapeCasts_S512_S1x512 : FVec Ideal S1x512 .f32) := by
  unfold V hostOps0; after_results; rfl

variable (t : Fin cfg0.N)

/-! Every window is its whole array. -/

theorem index0 : ∀ t : Fin cfg0.N, win0_0.index t = ![0, 0] :=
  (by decide +kernel : ∀ t : Fin grid0.N, win0_0.index t = ![0, 0])
theorem emb0 (y : S256x1024.Idx) : ((cfg0.win 0).blk t).view.emb y = y := by
  refine funext fun a => Fin.ext ?_
  have e : (((cfg0.win 0).blk t).view.emb y a : ℕ) = win0_0.index t a * (![256, 1024] : Fin 2 → ℕ) a + 1 * (y a).val := rfl
  rw [index0] at e
  fin_cases a
  · exact e.trans (by show 0 * 256 + 1 * (y 0).val = (y 0).val; omega)
  · exact e.trans (by show 0 * 1024 + 1 * (y 1).val = (y 1).val; omega)
theorem index1 : ∀ t : Fin cfg0.N, win0_1.index t = ![0, 0, 0] :=
  (by decide +kernel : ∀ t : Fin grid0.N, win0_1.index t = ![0, 0, 0])
theorem emb1 (y : S1x256x1024.Idx) : ((cfg0.win 1).blk t).view.emb y = y := by
  refine funext fun a => Fin.ext ?_
  have e : (((cfg0.win 1).blk t).view.emb y a : ℕ) = win0_1.index t a * (![1, 256, 1024] : Fin 3 → ℕ) a + 1 * (y a).val := rfl
  rw [index1] at e
  fin_cases a
  · exact e.trans (by show 0 * 1 + 1 * (y 0).val = (y 0).val; omega)
  · exact e.trans (by show 0 * 256 + 1 * (y 1).val = (y 1).val; omega)
  · exact e.trans (by show 0 * 1024 + 1 * (y 2).val = (y 2).val; omega)
theorem index2 : ∀ t : Fin cfg0.N, win0_2.index t = ![0, 0, 0] :=
  (by decide +kernel : ∀ t : Fin grid0.N, win0_2.index t = ![0, 0, 0])
theorem emb2 (y : S1x256x1024.Idx) : ((cfg0.win 2).blk t).view.emb y = y := by
  refine funext fun a => Fin.ext ?_
  have e : (((cfg0.win 2).blk t).view.emb y a : ℕ) = win0_2.index t a * (![1, 256, 1024] : Fin 3 → ℕ) a + 1 * (y a).val := rfl
  rw [index2] at e
  fin_cases a
  · exact e.trans (by show 0 * 1 + 1 * (y 0).val = (y 0).val; omega)
  · exact e.trans (by show 0 * 256 + 1 * (y 1).val = (y 1).val; omega)
  · exact e.trans (by show 0 * 1024 + 1 * (y 2).val = (y 2).val; omega)
theorem index3 : ∀ t : Fin cfg0.N, win0_3.index t = ![0, 0] :=
  (by decide +kernel : ∀ t : Fin grid0.N, win0_3.index t = ![0, 0])
theorem emb3 (y : S1x1024.Idx) : ((cfg0.win 3).blk t).view.emb y = y := by
  refine funext fun a => Fin.ext ?_
  have e : (((cfg0.win 3).blk t).view.emb y a : ℕ) = win0_3.index t a * (![1, 1024] : Fin 2 → ℕ) a + 1 * (y a).val := rfl
  rw [index3] at e
  fin_cases a
  · exact e.trans (by show 0 * 1 + 1 * (y 0).val = (y 0).val; omega)
  · exact e.trans (by show 0 * 1024 + 1 * (y 1).val = (y 1).val; omega)
theorem index4 : ∀ t : Fin cfg0.N, win0_4.index t = ![0, 0] :=
  (by decide +kernel : ∀ t : Fin grid0.N, win0_4.index t = ![0, 0])
theorem emb4 (y : S1024x2560.Idx) : ((cfg0.win 4).blk t).view.emb y = y := by
  refine funext fun a => Fin.ext ?_
  have e : (((cfg0.win 4).blk t).view.emb y a : ℕ) = win0_4.index t a * (![1024, 2560] : Fin 2 → ℕ) a + 1 * (y a).val := rfl
  rw [index4] at e
  fin_cases a
  · exact e.trans (by show 0 * 1024 + 1 * (y 0).val = (y 0).val; omega)
  · exact e.trans (by show 0 * 2560 + 1 * (y 1).val = (y 1).val; omega)
theorem index6 : ∀ t : Fin cfg0.N, win0_6.index t = ![0, 0] :=
  (by decide +kernel : ∀ t : Fin grid0.N, win0_6.index t = ![0, 0])
theorem emb6 (y : S1x512.Idx) : ((cfg0.win 6).blk t).view.emb y = y := by
  refine funext fun a => Fin.ext ?_
  have e : (((cfg0.win 6).blk t).view.emb y a : ℕ) = win0_6.index t a * (![1, 512] : Fin 2 → ℕ) a + 1 * (y a).val := rfl
  rw [index6] at e
  fin_cases a
  · exact e.trans (by show 0 * 1 + 1 * (y 0).val = (y 0).val; omega)
  · exact e.trans (by show 0 * 512 + 1 * (y 1).val = (y 1).val; omega)
theorem index7 : ∀ t : Fin cfg0.N, win0_7.index t = ![0, 0] :=
  (by decide +kernel : ∀ t : Fin grid0.N, win0_7.index t = ![0, 0])
theorem emb7 (y : S1x512.Idx) : ((cfg0.win 7).blk t).view.emb y = y := by
  refine funext fun a => Fin.ext ?_
  have e : (((cfg0.win 7).blk t).view.emb y a : ℕ) = win0_7.index t a * (![1, 512] : Fin 2 → ℕ) a + 1 * (y a).val := rfl
  rw [index7] at e
  fin_cases a
  · exact e.trans (by show 0 * 1 + 1 * (y 0).val = (y 0).val; omega)
  · exact e.trans (by show 0 * 512 + 1 * (y 1).val = (y 1).val; omega)
theorem index8 : ∀ t : Fin cfg0.N, win0_8.index t = ![0, 0] :=
  (by decide +kernel : ∀ t : Fin grid0.N, win0_8.index t = ![0, 0])
theorem emb8 (y : S256x512.Idx) : ((cfg0.win 8).blk t).view.emb y = y := by
  refine funext fun a => Fin.ext ?_
  have e : (((cfg0.win 8).blk t).view.emb y a : ℕ) = win0_8.index t a * (![256, 512] : Fin 2 → ℕ) a + 1 * (y a).val := rfl
  rw [index8] at e
  fin_cases a
  · exact e.trans (by show 0 * 256 + 1 * (y 0).val = (y 0).val; omega)
  · exact e.trans (by show 0 * 512 + 1 * (y 1).val = (y 1).val; omega)
theorem index9 : ∀ t : Fin cfg0.N, win0_9.index t = ![0, 0] :=
  (by decide +kernel : ∀ t : Fin grid0.N, win0_9.index t = ![0, 0])
theorem emb9 (y : S256x512.Idx) : ((cfg0.win 9).blk t).view.emb y = y := by
  refine funext fun a => Fin.ext ?_
  have e : (((cfg0.win 9).blk t).view.emb y a : ℕ) = win0_9.index t a * (![256, 512] : Fin 2 → ℕ) a + 1 * (y a).val := rfl
  rw [index9] at e
  fin_cases a
  · exact e.trans (by show 0 * 256 + 1 * (y 0).val = (y 0).val; omega)
  · exact e.trans (by show 0 * 512 + 1 * (y 1).val = (y 1).val; omega)
theorem index10 : ∀ t : Fin cfg0.N, win0_10.index t = ![0, 0] :=
  (by decide +kernel : ∀ t : Fin grid0.N, win0_10.index t = ![0, 0])
theorem emb10 (y : S256x512.Idx) : ((cfg0.win 10).blk t).view.emb y = y := by
  refine funext fun a => Fin.ext ?_
  have e : (((cfg0.win 10).blk t).view.emb y a : ℕ) = win0_10.index t a * (![256, 512] : Fin 2 → ℕ) a + 1 * (y a).val := rfl
  rw [index10] at e
  fin_cases a
  · exact e.trans (by show 0 * 256 + 1 * (y 0).val = (y 0).val; omega)
  · exact e.trans (by show 0 * 512 + 1 * (y 1).val = (y 1).val; omega)
theorem index11 : ∀ t : Fin cfg0.N, win0_11.index t = ![0, 0] :=
  (by decide +kernel : ∀ t : Fin grid0.N, win0_11.index t = ![0, 0])
theorem emb11 (y : S256x512.Idx) : ((cfg0.win 11).blk t).view.emb y = y := by
  refine funext fun a => Fin.ext ?_
  have e : (((cfg0.win 11).blk t).view.emb y a : ℕ) = win0_11.index t a * (![256, 512] : Fin 2 → ℕ) a + 1 * (y a).val := rfl
  rw [index11] at e
  fin_cases a
  · exact e.trans (by show 0 * 256 + 1 * (y 0).val = (y 0).val; omega)
  · exact e.trans (by show 0 * 512 + 1 * (y 1).val = (y 1).val; omega)
theorem index12 : ∀ t : Fin cfg0.N, win0_12.index t = ![0, 0] :=
  (by decide +kernel : ∀ t : Fin grid0.N, win0_12.index t = ![0, 0])
theorem emb12 (y : S256x512.Idx) : ((cfg0.win 12).blk t).view.emb y = y := by
  refine funext fun a => Fin.ext ?_
  have e : (((cfg0.win 12).blk t).view.emb y a : ℕ) = win0_12.index t a * (![256, 512] : Fin 2 → ℕ) a + 1 * (y a).val := rfl
  rw [index12] at e
  fin_cases a
  · exact e.trans (by show 0 * 256 + 1 * (y 0).val = (y 0).val; omega)
  · exact e.trans (by show 0 * 512 + 1 * (y 1).val = (y 1).val; omega)
theorem index13 : ∀ t : Fin cfg0.N, win0_13.index t = ![0, 0, 0] :=
  (by decide +kernel : ∀ t : Fin grid0.N, win0_13.index t = ![0, 0, 0])
theorem emb13 (y : S1x256x512.Idx) : ((cfg0.win 13).blk t).view.emb y = y := by
  refine funext fun a => Fin.ext ?_
  have e : (((cfg0.win 13).blk t).view.emb y a : ℕ) = win0_13.index t a * (![1, 256, 512] : Fin 3 → ℕ) a + 1 * (y a).val := rfl
  rw [index13] at e
  fin_cases a
  · exact e.trans (by show 0 * 1 + 1 * (y 0).val = (y 0).val; omega)
  · exact e.trans (by show 0 * 256 + 1 * (y 1).val = (y 1).val; omega)
  · exact e.trans (by show 0 * 512 + 1 * (y 2).val = (y 2).val; omega)

/-! The blocks read, entry by entry. -/

theorem blk0 (b : Fin 32) (s : Fin 8) (d : Fin 1024) : iblk m c 0 t (ix2 (row b s) d) = aX m c (ix3 b s d) := by
  unfold iblk
  show V m c main_v5 (((cfg0.win 0).blk t).view.emb (ix2 (row b s) d : S256x1024.Idx)) = _
  rw [emb0, V_v5]
  show shapeCast S256x1024 (aX m c) shapeCasts_S32x8x1024_S256x1024 (ix2 (row b s) d) = _
  pointwise
  rw [row_div, row_mod]
theorem blk1 (b : Fin 32) (s : Fin 8) (d : Fin 1024) : iblk m c 1 t (ix3 0 (row b s) d) = aC m c (ix2 b d) := by
  unfold iblk
  show V m c main_v8 (((cfg0.win 1).blk t).view.emb (ix3 0 (row b s) d : S1x256x1024.Idx)) = _
  rw [emb1, V_v8]
  show shapeCast S1x256x1024 (shapeCast S256x1024 (broadcastInDim S32x8x1024 ![0, 2] bcast_S32x1024_S32x8x1024_0_2 (aC m c)) shapeCasts_S32x8x1024_S256x1024) shapeCasts_S256x1024_S1x256x1024 (ix3 0 (row b s) d) = _
  pointwise
  rw [row_div]
theorem blk2 (b : Fin 32) (s : Fin 8) (d : Fin 1024) : iblk m c 2 t (ix3 0 (row b s) d) = aH m c (ix2 b d) := by
  unfold iblk
  show V m c main_v11 (((cfg0.win 2).blk t).view.emb (ix3 0 (row b s) d : S1x256x1024.Idx)) = _
  rw [emb2, V_v11]
  show shapeCast S1x256x1024 (shapeCast S256x1024 (broadcastInDim S32x8x1024 ![0, 2] bcast_S32x1024_S32x8x1024_0_2 (aH m c)) shapeCasts_S32x8x1024_S256x1024) shapeCasts_S256x1024_S1x256x1024 (ix3 0 (row b s) d) = _
  pointwise
  rw [row_div]
theorem blk3 (d : Fin 1024) : iblk m c 3 t (ix2 0 d) = aG m c (ix1 d) := by
  unfold iblk
  show V m c main_v12 (((cfg0.win 3).blk t).view.emb (ix2 0 d : S1x1024.Idx)) = _
  rw [emb3, V_v12]
  show shapeCast S1x1024 (aG m c) shapeCasts_S1024_S1x1024 (ix2 0 d) = _
  pointwise
theorem blk6 (d : Fin 512) : iblk m c 6 t (ix2 0 d) = aL m c (ix1 d) := by
  unfold iblk
  show V m c main_v13 (((cfg0.win 6).blk t).view.emb (ix2 0 d : S1x512.Idx)) = _
  rw [emb6, V_v13]
  show shapeCast S1x512 (aL m c) shapeCasts_S512_S1x512 (ix2 0 d) = _
  pointwise
theorem blk7 (d : Fin 512) : iblk m c 7 t (ix2 0 d) = aB m c (ix1 d) := by
  unfold iblk
  show V m c main_v14 (((cfg0.win 7).blk t).view.emb (ix2 0 d : S1x512.Idx)) = _
  rw [emb7, V_v14]
  show shapeCast S1x512 (aB m c) shapeCasts_S512_S1x512 (ix2 0 d) = _
  pointwise
theorem blk4 (a' : Fin 1024) (k : Fin 2560) : iblk m c 4 t (ix2 a' k) = aW m c (ix2 a' k) := by
  unfold iblk
  show V m c main_v0 (((cfg0.win 4).blk t).view.emb (ix2 a' k : S1024x2560.Idx)) = _
  rw [emb4, V_v0]
  rfl

/-- A row against a column of the weights is that row's entry of the projection. -/
theorem tz (b : Fin 32) (s : Fin 8) (k : Fin 2560) :
    tproj (iblk m c 0 t) (iblk m c 1 t) (iblk m c 2 t) (iblk m c 3 t) (row b s) (fun e => aW m c (ix2 e k)) = zAt (aX m c) (aC m c) (aH m c) (aG m c) (aW m c) b s k := by
  unfold tproj zAt
  simp only [blk0, blk1, blk2, blk3]

/-- The reference's projection of the arguments. -/
abbrev zz := zV (hV (aX m c) (aC m c) (aH m c) (aG m c)) (aW m c)
abbrev ss := sV (zz m c) (aL m c) (aB m c)

theorem row_split (r : Fin 256) : ∃ (b : Fin 32) (s : Fin 8), r = row b s :=
  ⟨⟨r.val / 8, by omega⟩, ⟨r.val % 8, by omega⟩, Fin.ext (by show r.val = 8 * (r.val / 8) + r.val % 8; omega)⟩

/-! The arrays left. -/

theorem arr8 : (dats m 0 c).arrAt 8 cfg0.N = r0 (zz m c) := by
  refine (dats m 0 c).arrAt_eq_of_covers 8 _ (by decide +kernel) fun t hf y => ?_
  show (dats m 0 c).after 8 t y = _
  rw [after0_8]
  obtain ⟨r, f, rfl⟩ : ∃ (r : Fin 256) (f : Fin 512), y = (ix2 r f : S256x512.Idx) := ⟨y 0, y 1, by funext a; fin_cases a <;> rfl⟩
  obtain ⟨b, s, rfl⟩ := row_split r
  rw [emb8 t (ix2 (row b s) f : S256x512.Idx), r0_apply]
  refine (out8_apply _ _ _ _ _ _ _ _ _ f).trans ?_
  simp only [blk4, tz]
theorem arr9 : (dats m 0 c).arrAt 9 cfg0.N = r1 (zz m c) := by
  refine (dats m 0 c).arrAt_eq_of_covers 9 _ (by decide +kernel) fun t hf y => ?_
  show (dats m 0 c).after 9 t y = _
  rw [after0_9]
  obtain ⟨r, f, rfl⟩ : ∃ (r : Fin 256) (f : Fin 512), y = (ix2 r f : S256x512.Idx) := ⟨y 0, y 1, by funext a; fin_cases a <;> rfl⟩
  obtain ⟨b, s, rfl⟩ := row_split r
  rw [emb9 t (ix2 (row b s) f : S256x512.Idx), r1_apply]
  refine (out9_apply _ _ _ _ _ _ _ _ _ f).trans ?_
  simp only [blk4, tz]
theorem arr10 : (dats m 0 c).arrAt 10 cfg0.N = r2 (zz m c) := by
  refine (dats m 0 c).arrAt_eq_of_covers 10 _ (by decide +kernel) fun t hf y => ?_
  show (dats m 0 c).after 10 t y = _
  rw [after0_10]
  obtain ⟨r, f, rfl⟩ : ∃ (r : Fin 256) (f : Fin 512), y = (ix2 r f : S256x512.Idx) := ⟨y 0, y 1, by funext a; fin_cases a <;> rfl⟩
  obtain ⟨b, s, rfl⟩ := row_split r
  rw [emb10 t (ix2 (row b s) f : S256x512.Idx), r2_apply]
  refine (out10_apply _ _ _ _ _ _ _ _ _ f).trans ?_
  simp only [blk4, tz]
theorem arr11 : (dats m 0 c).arrAt 11 cfg0.N = r3 (zz m c) := by
  refine (dats m 0 c).arrAt_eq_of_covers 11 _ (by decide +kernel) fun t hf y => ?_
  show (dats m 0 c).after 11 t y = _
  rw [after0_11]
  obtain ⟨r, f, rfl⟩ : ∃ (r : Fin 256) (f : Fin 512), y = (ix2 r f : S256x512.Idx) := ⟨y 0, y 1, by funext a; fin_cases a <;> rfl⟩
  obtain ⟨b, s, rfl⟩ := row_split r
  rw [emb11 t (ix2 (row b s) f : S256x512.Idx), r3_apply]
  refine (out11_apply _ _ _ _ _ _ _ _ _ f).trans ?_
  simp only [blk4, tz]
theorem arr12 : (dats m 0 c).arrAt 12 cfg0.N = r4 (ss m c) := by
  refine (dats m 0 c).arrAt_eq_of_covers 12 _ (by decide +kernel) fun t hf y => ?_
  show (dats m 0 c).after 12 t y = _
  rw [after0_12]
  obtain ⟨r, f, rfl⟩ : ∃ (r : Fin 256) (f : Fin 512), y = (ix2 r f : S256x512.Idx) := ⟨y 0, y 1, by funext a; fin_cases a <;> rfl⟩
  obtain ⟨b, s, rfl⟩ := row_split r
  rw [emb12 t (ix2 (row b s) f : S256x512.Idx), r4_apply]
  refine Eq.trans ?_ (sV_apply _ _ _ _ _ _ _ _ _ _).symm
  refine (out12_apply _ _ _ _ _ _ _ _ _ f).trans ?_
  simp only [blk4, blk6, blk7, tz]
  rfl
theorem parts3 {p q : ℕ} (y : (⟨3, ![1, p, q]⟩ : Shape).Idx) : ∃ (a : Fin p) (b : Fin q), y = ix3 0 a b := by
  refine ⟨y 1, y 2, (eq_ix3 y).trans (congrArg (fun z => ix3 z (y 1) (y 2)) (Fin.ext ?_))⟩
  have h : (y 0).val < 1 := (y 0).isLt
  show (y 0).val = 0; omega
theorem arr13 : (dats m 0 c).arrAt 13 cfg0.N = r5 (ss m c) := by
  refine (dats m 0 c).arrAt_eq_of_covers 13 _ (by decide +kernel) fun t hf y => ?_
  show (dats m 0 c).after 13 t y = _
  rw [after0_13]
  obtain ⟨r, f, rfl⟩ : ∃ (r : Fin 256) (f : Fin 512), y = (ix3 0 r f : S1x256x512.Idx) := parts3 y
  obtain ⟨b, s, rfl⟩ := row_split r
  rw [emb13 t (ix3 0 (row b s) f : S1x256x512.Idx), r5_apply]
  refine Eq.trans ?_ (sV_apply _ _ _ _ _ _ _ _ _ _).symm
  refine (out13_apply _ _ _ _ _ _ _ _ _ f).trans ?_
  simp only [blk4, blk6, blk7, tz]
  rfl

set_option maxHeartbeats 0 in
/-- The run: the six result arrays are the reference's six of the arguments, the arguments are unchanged, every counter is back at zero. -/
theorem run_out (m : (ℓ : Loc nD τ sig) → Buf (Elt Ideal) ℓ) (ρ : Dev nD → PrngReg) : θ_run (defs (F := Ideal)) (onTc (τ := τ) (main (F := Ideal))) ⟨m, fun _ => 0, ρ⟩ (fun r => (∀ c : Dev nD,
      r.2.mem ((c.tc : Thread nD τ).loc main_v15_0) = r0 (zz m c)
      ∧ r.2.mem ((c.tc : Thread nD τ).loc main_v15_1) = r1 (zz m c)
      ∧ r.2.mem ((c.tc : Thread nD τ).loc main_v15_2) = r2 (zz m c)
      ∧ r.2.mem ((c.tc : Thread nD τ).loc main_v15_3) = r3 (zz m c)
      ∧ r.2.mem ((c.tc : Thread nD τ).loc main_v15_4) = r4 (ss m c)
      ∧ r.2.mem ((c.tc : Thread nD τ).loc main_v15_5) = r5 (ss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨((h.1 c).1).trans (arr8 m c), ((h.1 c).2.1).trans (arr9 m c), ((h.1 c).2.2.1).trans (arr10 m c), ((h.1 c).2.2.2.1).trans (arr11 m c), ((h.1 c).2.2.2.2.1).trans (arr12 m c), ((h.1 c).2.2.2.2.2.1).trans (arr13 m c), (h.1 c).2.2.2.2.2.2⟩, h.2⟩)
    (θ_run_and (Value.run_blocks m ρ) ((θ_run defs _ _).mono (fun _ h => h.2) (frame m ρ)))

/-- The run over the bits, said of the idealization's text. -/
def RunIdealText : Prop := ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0)

end Cert.Kernel5Ideal.In

namespace Cert.Kernel5.In

open Idealize.ShloMosaic Idealize.ShloMosaic.TcCoe Idealize.SL.Sem
open Cert.Kernel5 Cert.Kernel5.Gen

/-- The run over the bits, said of the kernel's own text. -/
def RunText : Prop := ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0)

set_option maxHeartbeats 0 in
/-- The two texts are one, so the two statements are one. -/
theorem run_same : Cert.Kernel5Ideal.In.RunIdealText = RunText := by
  chain_rfl

/-- The kernel's run over the bits. -/
theorem run_bits : RunText := run_same.mp fun m ρ => Cert.Kernel5Ideal.Gen.frame (F := Bits) m ρ

end Cert.Kernel5.In

end
-- ==== Proof.MoeSTile.lean ====
module

public import proofs.«01_k».proof.Proof.Gen.Kernel6Ideal.Value
public import proofs.«01_k».proof.Proof.InprojTile
public import proofs.«01_k».proof.Proof.MoeTile
public import Idealize.ShloMosaic.Lib.Pipeline.ValueKit

@[expose] public section

set_option maxRecDepth 65536

noncomputable section

namespace Cert.Kernel6Ideal.MoeS

open Cert.Kernel6Ideal Cert.Kernel6Ideal.Gen
open Idealize.ShloMosaic Idealize.ShloMosaic.TcCoe Idealize.SL.Sem
open Cert.InVal (z2 z3)
variable {F : FTy → Type} [FloatOps F]

/-- What a visit to the grid leaves in the running sum: the group's four experts added to what it held. -/
def accOf (i : grid0.Coords) (x0 : Vec F S256x1024 .bf16) (x1 : Vec F S256x16 .f32) (x5 x6 : Vec F S4x1024x512 .bf16) (x7 : Vec F S4x512x1024 .bf16) (prev : Vec F S256x1024 .f32) : FVec F S256x1024 .f32 :=
  k0_pay1
    (k0_pay8 (BitVec.ofNat 32 (i 1).val) (iota .tc S256x16 32 [1] iota_S256x16_d1_w32)
      (k0_pay6 (BitVec.ofNat 32 (i 1).val) (k0_pay4 x0) (iota .tc S256x16 32 [1] iota_S256x16_d1_w32)
        (k0_pay5 i x0 (View.ld x5 (Rect.unit ![0, 0, 0] S1x1024x512.size inb_S4x1024x512_S1x1024x512_0_0_0)) (View.ld x6 (Rect.unit ![0, 0, 0] S1x1024x512.size inb_S4x1024x512_S1x1024x512_0_0_0)) x1 (View.ld x7 (Rect.unit ![0, 0, 0] S1x512x1024.size inb_S4x512x1024_S1x512x1024_0_0_0)))
        (View.ld x5 (Rect.unit ![1, 0, 0] S1x1024x512.size inb_S4x1024x512_S1x1024x512_1_0_0)) (View.ld x6 (Rect.unit ![1, 0, 0] S1x1024x512.size inb_S4x1024x512_S1x1024x512_1_0_0)) x1 (View.ld x7 (Rect.unit ![1, 0, 0] S1x512x1024.size inb_S4x512x1024_S1x512x1024_1_0_0)))
      (k0_pay7 (k0_pay4 x0) (View.ld x5 (Rect.unit ![2, 0, 0] S1x1024x512.size inb_S4x1024x512_S1x1024x512_2_0_0)) (View.ld x6 (Rect.unit ![2, 0, 0] S1x1024x512.size inb_S4x1024x512_S1x1024x512_2_0_0))) 4#32 x1 (View.ld x7 (Rect.unit ![2, 0, 0] S1x512x1024.size inb_S4x512x1024_S1x512x1024_2_0_0)))
    (k0_pay9 (k0_pay4 x0) (View.ld x5 (Rect.unit ![3, 0, 0] S1x1024x512.size inb_S4x1024x512_S1x1024x512_3_0_0)) (View.ld x6 (Rect.unit ![3, 0, 0] S1x1024x512.size inb_S4x1024x512_S1x1024x512_3_0_0)))
    (k0_pay10 (BitVec.ofNat 32 (i 1).val) (iota .tc S256x16 32 [1] iota_S256x16_d1_w32) x1)
    (View.ld x7 (Rect.unit ![3, 0, 0] S1x512x1024.size inb_S4x512x1024_S1x512x1024_3_0_0)) prev

/-- The whole of the sum's array. -/
abbrev rS : Rect S256x1024 := Rect.unit ![0, 0] ![256, 1024] inb_S256x1024_S256x1024_0_0

/-- A load of a whole array is the array. -/
theorem ldA {e : EltTy} (x : Vec F S256x1024 e) : View.ld x (Rect.unit ![0, 0] ![256, 1024] inb_S256x1024_S256x1024_0_0) = x := View.ld_unit_zero z2 _ _
theorem ldB {e : EltTy} (x : Vec F S256x16 e) : View.ld x (Rect.unit ![0, 0] ![256, 16] inb_S256x16_S256x16_0_0) = x := View.ld_unit_zero z2 _ _
theorem ldC {e : EltTy} (x : Vec F S1x1024 e) : View.ld x (Rect.unit ![0, 0] ![1, 1024] inb_S1x1024_S1x1024_0_0) = x := View.ld_unit_zero z2 _ _
theorem ldD {e : EltTy} (x : Vec F S1x256x1024 e) : View.ld x (Rect.unit ![0, 0, 0] ![1, 256, 1024] inb_S1x256x1024_S1x256x1024_0_0_0) = x := View.ld_unit_zero z3 _ _

section Runs
variable (c : Dev nD) (i : grid0.Coords) (arg2 : Memref sig .tc .vmem S256x1024 .bf16) (harg2 : arg2.IsWhole) (arg3 : Memref sig .tc .vmem S256x16 .f32) (harg3 : arg3.IsWhole) (arg4 : Memref sig .tc .vmem S256x1024 .f32) (harg4 : arg4.IsWhole) (arg5 : Memref sig .tc .vmem S1x256x1024 .f32) (harg5 : arg5.IsWhole) (arg6 : Memref sig .tc .vmem S1x1024 .f32) (harg6 : arg6.IsWhole) (arg7 : Memref sig .tc .vmem S4x1024x512 .bf16) (harg7 : arg7.IsWhole) (arg8 : Memref sig .tc .vmem S4x1024x512 .bf16) (harg8 : arg8.IsWhole) (arg9 : Memref sig .tc .vmem S4x512x1024 .bf16) (harg9 : arg9.IsWhole) (arg10 : Memref sig .tc .vmem S256x1024 .f32) (harg10 : arg10.IsWhole) (arg11 : Memref sig .tc .vmem S256x1024 .f32) (harg11 : arg11.IsWhole)
    (x0 : Vec F S256x1024 .bf16) (x1 : Vec F S256x16 .f32) (x2 : Vec F S256x1024 .f32) (x3 : Vec F S1x256x1024 .f32) (x4 : Vec F S1x1024 .f32) (x5 : Vec F S4x1024x512 .bf16) (x6 : Vec F S4x1024x512 .bf16) (x7 : Vec F S4x512x1024 .bf16) (xs0 : Vec F S256x1024 .f32)

theorem sumB (hc0 : ¬cond0_0 i) (hc1 : ¬cond0_1 i) : (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).2.1 = [⟨rS, accOf i x0 x1 x5 x6 x7 xs0⟩] := by
  unfold kernelRun0_B
  dsimp only
  simp only [kernelRun0_B.sl.r_4, kernelRun0_B.sl.r_5, kernelRun0_B.sl.r_6, kernelRun0_B.sl.r_3, kernelRun0_B.sl.r_2, kernelRun0_B.sl.r_1, kernelRun0_B.sl.r, kernelRun0_B.sl.v5]
  simp only [View.readAt_eq_ld, harg2.read_unread, harg3.read_unread, harg4.read_unread, harg5.read_unread, harg6.read_unread, harg7.read_unread, harg8.read_unread, harg9.read_unread, harg11.read_unread, ldA, ldB]
  rfl

theorem sumC (hc0 : ¬cond0_0 i) (hc1 : cond0_1 i) : (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1 = [⟨rS, accOf i x0 x1 x5 x6 x7 xs0⟩] := by
  unfold kernelRun0_C
  dsimp only
  simp only [kernelRun0_C.sl.r_4, kernelRun0_C.sl.r_5, kernelRun0_C.sl.r_6, kernelRun0_C.sl.r_3, kernelRun0_C.sl.r_2, kernelRun0_C.sl.r_1, kernelRun0_C.sl.r, kernelRun0_C.sl.v5, kernelRun0_C.sl.HS0_1, kernelRun0_C.sl.v118]
  simp only [View.readAt_eq_ld, harg2.read_unread, harg3.read_unread, harg4.read_unread, harg5.read_unread, harg6.read_unread, harg7.read_unread, harg8.read_unread, harg9.read_unread, harg11.read_unread, ldA, ldB]
  rfl

theorem sumA (hc0 : cond0_0 i) (hc1 : ¬cond0_1 i) : (kernelRun0_A c i arg2 harg2 arg3 harg3 arg4 harg4 arg5 harg5 arg6 harg6 arg7 harg7 arg8 harg8 arg9 harg9 arg10 harg10 arg11 harg11 hc0 hc1 x0 x1 x2 x3 x4 x5 x6 x7).2.1 = [⟨rS, accOf i x0 x1 x5 x6 x7 (k0_pay3 (F := F))⟩, ⟨rS, k0_pay3 (F := F)⟩] := by
  unfold kernelRun0_A
  dsimp only
  simp only [kernelRun0_A.sl.r_4, kernelRun0_A.sl.r_5, kernelRun0_A.sl.r_6, kernelRun0_A.sl.r_3, kernelRun0_A.sl.r_2, kernelRun0_A.sl.r_1, kernelRun0_A.sl.r, kernelRun0_A.sl.v5, kernelRun0_A.sl.HS0_1, kernelRun0_A.sl.v107]
  simp only [View.readAt_eq_ld, harg2.read_unread, harg3.read_unread, harg4.read_unread, harg5.read_unread, harg6.read_unread, harg7.read_unread, harg8.read_unread, harg9.read_unread, harg11.read_unread, ldA, ldB, View.readCov_cons_toLoadRect]
  rfl

theorem outC (hc0 : ¬cond0_0 i) (hc1 : cond0_1 i) : (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1 = [⟨rS, k0_pay2 x2 x3 (accOf i x0 x1 x5 x6 x7 xs0) x4⟩] := by
  unfold kernelRun0_C
  dsimp only
  simp only [kernelRun0_C.sl.r_4, kernelRun0_C.sl.r_5, kernelRun0_C.sl.r_6, kernelRun0_C.sl.r_3, kernelRun0_C.sl.r_2, kernelRun0_C.sl.r_1, kernelRun0_C.sl.r, kernelRun0_C.sl.v5, kernelRun0_C.sl.HS0_1, kernelRun0_C.sl.v118]
  simp only [View.readAt_eq_ld, harg2.read_unread, harg3.read_unread, harg4.read_unread, harg5.read_unread, harg6.read_unread, harg7.read_unread, harg8.read_unread, harg9.read_unread, harg11.read_unread, ldA, ldB, ldC, ldD, View.readCov_cons_toLoadRect]
  rfl

end Runs

section Entries

open Cert.MoeVal (silu expert rms mix lane_word)

/-- The lane of a row that a comparison with its number picks out. -/
theorem pick16 (G : Fin 16 → EReal) (n : Nat) (hn : n < 16) (w : BitVec 32) (hw : w = BitVec.ofNat 32 n) :
    ∑ x : Fin 16, Scalar.select (IntOp.cmpi CmpIPredicate.eq (BitVec.ofNat 32 x.val) w) (G x) 0 = G ⟨n, hn⟩ := by
  subst hw
  rw [Finset.sum_eq_single (⟨n, hn⟩ : Fin 16)]
  · simp [IntOp.cmpi, Scalar.select]
  · intro b _ hb
    have hne : BitVec.ofNat 32 b.val ≠ BitVec.ofNat 32 n := by
      intro h
      have := congrArg BitVec.toNat h
      rw [BitVec.toNat_ofNat, BitVec.toNat_ofNat, Nat.mod_eq_of_lt (by omega), Nat.mod_eq_of_lt (by omega)] at this
      exact hb (Fin.ext this)
    simp only [IntOp.cmpi, Scalar.select, beq_eq_false_iff_ne.mpr hne]; rfl
  · intro h; exact absurd (Finset.mem_univ _) h

/-- The lane of expert `k` of group `g`. -/
theorem lane16 (g : Nat) (hg : g < 4) (k : Nat) (hk : k < 4) : Scalar.addi (Scalar.muli (BitVec.ofNat 32 g) 4#32) (BitVec.ofNat 32 k) = BitVec.ofNat 32 (4 * g + k) := by
  have h : (BitVec.ofNat 32 g).toNat = g := by rw [BitVec.toNat_ofNat]; omega
  rw [lane_word _ (by omega) k hk, h]

variable (i : grid0.Coords) (X : Vec Ideal S256x1024 .bf16) (G : Vec Ideal S256x16 .f32)

theorem lt4 : (i 1).val < 4 := (i 1).isLt

theorem pay5_apply (wg wu : Vec Ideal S1x1024x512 .bf16) (wd : Vec Ideal S1x512x1024 .bf16) (r : Fin 256) (d : Fin 1024) :
    k0_pay5 (F := Ideal) i X wg wu G wd (ix2 r d)
      = G (ix2 r ⟨4 * (i 1).val + 0, by have := lt4 i; omega⟩) * expert (fun k => X (ix2 r k)) (fun k f => wg (ix3 0 k f)) (fun k f => wu (ix3 0 k f)) (fun f e => wd (ix3 0 f e)) d := by
  pointwise [k0_pay5, k0_pay4]
  rw [pick16 (fun l => G (ix2 r l)) _ (by have := lt4 i; omega) _ (lane16 (i 1).val (lt4 i) 0 (by decide))]
  rfl

theorem pay6_apply (X : FVec Ideal S256x1024 .bf16) (Y : FVec Ideal S256x1024 .f32) (wg wu : Vec Ideal S1x1024x512 .bf16) (wd : Vec Ideal S1x512x1024 .bf16) (r : Fin 256) (d : Fin 1024) :
    k0_pay6 (F := Ideal) (BitVec.ofNat 32 (i 1).val) X (iota .tc S256x16 32 [1] iota_S256x16_d1_w32) Y wg wu G wd (ix2 r d)
      = Y (ix2 r d) + G (ix2 r ⟨4 * (i 1).val + 1, by have := lt4 i; omega⟩) * expert (fun k => X (ix2 r k)) (fun k f => wg (ix3 0 k f)) (fun k f => wu (ix3 0 k f)) (fun f e => wd (ix3 0 f e)) d := by
  pointwise [k0_pay6]
  rw [pick16 (fun l => G (ix2 r l)) _ (by have := lt4 i; omega) _ (lane16 (i 1).val (lt4 i) 1 (by decide))]
  rfl

theorem pay8_apply (X : FVec Ideal S256x1024 .bf16) (Y : FVec Ideal S256x1024 .f32) (wg wu : Vec Ideal S1x1024x512 .bf16) (wd : Vec Ideal S1x512x1024 .bf16) (r : Fin 256) (d : Fin 1024) :
    k0_pay8 (F := Ideal) (BitVec.ofNat 32 (i 1).val) (iota .tc S256x16 32 [1] iota_S256x16_d1_w32) Y (k0_pay7 X wg wu) 4#32 G wd (ix2 r d)
      = Y (ix2 r d) + G (ix2 r ⟨4 * (i 1).val + 2, by have := lt4 i; omega⟩) * expert (fun k => X (ix2 r k)) (fun k f => wg (ix3 0 k f)) (fun k f => wu (ix3 0 k f)) (fun f e => wd (ix3 0 f e)) d := by
  pointwise [k0_pay8, k0_pay7]
  rw [pick16 (fun l => G (ix2 r l)) _ (by have := lt4 i; omega) _ (lane16 (i 1).val (lt4 i) 2 (by decide))]
  rfl

theorem pay1_apply (X : FVec Ideal S256x1024 .bf16) (Y : FVec Ideal S256x1024 .f32) (wg wu : Vec Ideal S1x1024x512 .bf16) (wd : Vec Ideal S1x512x1024 .bf16) (P : Vec Ideal S256x1024 .f32) (r : Fin 256) (d : Fin 1024) :
    k0_pay1 (F := Ideal) Y (k0_pay9 X wg wu) (k0_pay10 (BitVec.ofNat 32 (i 1).val) (iota .tc S256x16 32 [1] iota_S256x16_d1_w32) G) wd P (ix2 r d)
      = P (ix2 r d) + (Y (ix2 r d) + G (ix2 r ⟨4 * (i 1).val + 3, by have := lt4 i; omega⟩) * expert (fun k => X (ix2 r k)) (fun k f => wg (ix3 0 k f)) (fun k f => wu (ix3 0 k f)) (fun f e => wd (ix3 0 f e)) d) := by
  pointwise [k0_pay1, k0_pay9, k0_pay10]
  rw [pick16 (fun l => G (ix2 r l)) _ (by have := lt4 i; omega) _ (lane16 (i 1).val (lt4 i) 3 (by decide))]
  rfl

theorem pay4_apply (r : Fin 256) (d : Fin 1024) : k0_pay4 (F := Ideal) X (ix2 r d) = X (ix2 r d) := by
  pointwise [k0_pay4]
theorem pay3_apply (r : Fin 256) (d : Fin 1024) : k0_pay3 (F := Ideal) (ix2 r d) = (0 : EReal) := by
  pointwise [k0_pay3]

theorem pay2_apply (x2 : Vec Ideal S256x1024 .f32) (x3 : Vec Ideal S1x256x1024 .f32) (Y : Vec Ideal S256x1024 .f32) (x4 : Vec Ideal S1x1024 .f32) (r : Fin 256) (d : Fin 1024) :
    k0_pay2 (F := Ideal) x2 x3 Y x4 (ix2 r d) = x2 (ix2 r d) + x3 (ix3 0 r d) * rms (fun e => Y (ix2 r e)) (fun e => x4 (ix2 0 e)) d := by
  pointwise [k0_pay2]
  rfl

/-- Expert `k` of a block of four, row by row. -/
theorem ldW (k : Nat) (hk : k < 4) (x : Vec Ideal S4x1024x512 .bf16) (inb : ∀ a, (![k, 0, 0] : Fin 3 → ℕ) a + (![1, 1024, 512] : Fin 3 → ℕ) a ≤ S4x1024x512.size a) (a : Fin 1024) (b : Fin 512) :
    View.ld x (Rect.unit (s := S4x1024x512) ![k, 0, 0] ![1, 1024, 512] inb) (ix3 0 a b : S1x1024x512.Idx) = x (ix3 ⟨k, hk⟩ a b) := by
  refine congrArg x (funext fun q => Fin.ext ?_)
  fin_cases q
  · show k + 1 * 0 = k; omega
  · show 0 + 1 * a.val = a.val; omega
  · show 0 + 1 * b.val = b.val; omega
theorem ldV (k : Nat) (hk : k < 4) (x : Vec Ideal S4x512x1024 .bf16) (inb : ∀ a, (![k, 0, 0] : Fin 3 → ℕ) a + (![1, 512, 1024] : Fin 3 → ℕ) a ≤ S4x512x1024.size a) (a : Fin 512) (b : Fin 1024) :
    View.ld x (Rect.unit (s := S4x512x1024) ![k, 0, 0] ![1, 512, 1024] inb) (ix3 0 a b : S1x512x1024.Idx) = x (ix3 ⟨k, hk⟩ a b) := by
  refine congrArg x (funext fun q => Fin.ext ?_)
  fin_cases q
  · show k + 1 * 0 = k; omega
  · show 0 + 1 * a.val = a.val; omega
  · show 0 + 1 * b.val = b.val; omega

theorem expert_congr {x x' : Fin 1024 → EReal} {g g' u u' : Fin 1024 → Fin 512 → EReal} {w w' : Fin 512 → Fin 1024 → EReal} (hx : ∀ k, x k = x' k) (hg : ∀ k f, g k f = g' k f) (hu : ∀ k f, u k f = u' k f) (hw : ∀ f k, w f k = w' f k) (d : Fin 1024) :
    expert x g u w d = expert x' g' u' w' d := by
  rw [funext hx, funext₂ hg, funext₂ hu, funext₂ hw]

/-- A visit's new sum at an entry: the old one and the group's four experts, each with its gate. -/
theorem acc_apply (wg wu : Vec Ideal S4x1024x512 .bf16) (wd : Vec Ideal S4x512x1024 .bf16) (P : Vec Ideal S256x1024 .f32) (r : Fin 256) (d : Fin 1024) :
    accOf (F := Ideal) i X G wg wu wd P (ix2 r d)
      = P (ix2 r d) + mix (fun k => G (ix2 r ⟨4 * (i 1).val + k.val, by have := lt4 i; omega⟩)) (fun k => X (ix2 r k)) (fun e k f => wg (ix3 e k f)) (fun e k f => wu (ix3 e k f)) (fun e f k => wd (ix3 e f k)) d := by
  unfold accOf
  rw [pay1_apply, pay8_apply, pay6_apply, pay5_apply]
  refine congrArg (P (ix2 r d) + ·) ?_
  exact congrArg₂ (· + ·) (congrArg₂ (· + ·) (congrArg₂ (· + ·) (congrArg₂ (· * ·) rfl (expert_congr (x' := fun k => X (ix2 r k)) (g' := fun a b => wg (ix3 0 a b)) (u' := fun a b => wu (ix3 0 a b)) (w' := fun a b => wd (ix3 0 a b)) (fun _ => rfl) (ldW 0 (by decide) wg _) (ldW 0 (by decide) wu _) (ldV 0 (by decide) wd _) d))
    (congrArg₂ (· * ·) rfl (expert_congr (x' := fun k => X (ix2 r k)) (g' := fun a b => wg (ix3 1 a b)) (u' := fun a b => wu (ix3 1 a b)) (w' := fun a b => wd (ix3 1 a b)) (pay4_apply X r) (ldW 1 (by decide) wg _) (ldW 1 (by decide) wu _) (ldV 1 (by decide) wd _) d)))
    (congrArg₂ (· * ·) rfl (expert_congr (x' := fun k => X (ix2 r k)) (g' := fun a b => wg (ix3 2 a b)) (u' := fun a b => wu (ix3 2 a b)) (w' := fun a b => wd (ix3 2 a b)) (pay4_apply X r) (ldW 2 (by decide) wg _) (ldW 2 (by decide) wu _) (ldV 2 (by decide) wd _) d)))
    (congrArg₂ (· * ·) rfl (expert_congr (x' := fun k => X (ix2 r k)) (g' := fun a b => wg (ix3 3 a b)) (u' := fun a b => wu (ix3 3 a b)) (w' := fun a b => wd (ix3 3 a b)) (pay4_apply X r) (ldW 3 (by decide) wg _) (ldW 3 (by decide) wu _) (ldV 3 (by decide) wd _) d))

end Entries

end Cert.Kernel6Ideal.MoeS

end
-- ==== Proof.MoeSRef.lean ====
/-
  The samples' experts as the reference states them: the stages, and each entry.
-/
module

public import proofs.«01_k».proof.Proof.Gen.Reference6Ideal.Run
public import proofs.«01_k».proof.Proof.MoeTile
public import proofs.«01_k».proof.Proof.InprojSRef

@[expose] public section

set_option maxRecDepth 65536

noncomputable section

namespace Cert.MoeSRef

open Cert.Reference6Ideal Cert.Reference6Ideal.Gen Cert.Reference6Ideal.Value
open Idealize.ShloMosaic Idealize.ShloMosaic.TcCoe
open Cert.MoeVal (silu expert rms mix)
open Cert.InRefS (row row_div row_mod)

/-- One hidden projection, all experts. -/
def hV (w : FVec Ideal S16x1024x512 .f32) (x : FVec Ideal S256x1024 .f32) : FVec Ideal S16x256x512 .f32 :=
  transpose S16x256x512 [0, 2, 1] (Host.dotGeneral dot_S16x1024x512_S256x1024_S16x512x256_1_1_02_0_n_n none w x) transposes_S16x512x256_S16x256x512_0_2_1
/-- The hidden activations. -/
def actV (h u : FVec Ideal S16x256x512 .f32) : FVec Ideal S16x256x512 .f32 :=
  mulf (mulf h (Host.divf (broadcastInDim S16x256x512 ![] bcast_S_S16x256x512 (constant S_ .f32 0x3F800000#32)) (addf (broadcastInDim S16x256x512 ![] bcast_S_S16x256x512 (constant S_ .f32 0x3F800000#32)) (Host.exp (Host.negf h))))) u
/-- The weighted sum over the experts. -/
def yV (g : FVec Ideal S256x16 .f32) (a : FVec Ideal S16x256x512 .f32) (wd : FVec Ideal S16x512x1024 .f32) : FVec Ideal S256x1024 .f32 :=
  Host.reduceAdd (mulf (broadcastInDim S16x256x1024 ![0, 1, 2] bcast_S16x256x1_S16x256x1024_0_1_2 (broadcastInDim S16x256x1 ![0, 1] bcast_S16x256_S16x256x1_0_1 (transpose S16x256 [1, 0] g transposes_S256x16_S16x256_1_0))) (Host.dotGeneral dot_S16x256x512_S16x512x1024_S16x256x1024_2_1_1_2_0_0 none a wd)) (constant S_ .f32 0x00000000#32) reducesTo_S16x256x1024_S256x1024_d0 h_S_
/-- The normed sum, scaled sample by sample and added to the rows. -/
def outV (y : FVec Ideal S256x1024 .f32) (x1 : FVec Ideal S256x1024 .f32) (ga : FVec Ideal S32x1024 .f32) (gp : FVec Ideal S1024 .f32) : FVec Ideal S256x1024 .f32 :=
  shapeCast _ (addf (shapeCast _ x1 shapeCasts_S256x1024_S32x8x1024) (mulf (broadcastInDim S32x8x1024 ![0, 1, 2] bcast_S32x1x1024_S32x8x1024_0_1_2 (broadcastInDim S32x1x1024 ![0, 2] bcast_S32x1024_S32x1x1024_0_2 ga)) (shapeCast _ (mulf (mulf y (broadcastInDim S256x1024 ![0, 1] bcast_S256x1_S256x1024_0_1 (Host.rsqrt (addf (Host.divf (broadcastInDim S256x1 ![0] bcast_S256_S256x1_0 (Host.reduceAdd (mulf y y) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 gp))) shapeCasts_S256x1024_S32x8x1024))) shapeCasts_S32x8x1024_S256x1024

/-- The reference's result by its stages. -/
theorem res_eq (m : (ℓ : Loc nD τ sig) → Buf (Elt Ideal) ℓ) (c : Dev nD) (x : FVec Ideal S256x1024 .f32) (g : FVec Ideal S256x16 .f32) (x1 : FVec Ideal S256x1024 .f32) (ga : FVec Ideal S32x1024 .f32)
    (gp : FVec Ideal S1024 .f32) (wg wu : FVec Ideal S16x1024x512 .f32) (wd : FVec Ideal S16x512x1024 .f32)
    (h0 : m ((c.tc : Thread nD τ).loc main_arg0) = x) (h1 : m ((c.tc : Thread nD τ).loc main_arg1) = g) (h2 : m ((c.tc : Thread nD τ).loc main_arg2) = x1)
    (h3 : m ((c.tc : Thread nD τ).loc main_arg3) = ga) (h4 : m ((c.tc : Thread nD τ).loc main_arg4) = gp) (h5 : m ((c.tc : Thread nD τ).loc main_arg5) = wg)
    (h6 : m ((c.tc : Thread nD τ).loc main_arg6) = wu) (h7 : m ((c.tc : Thread nD τ).loc main_arg7) = wd) :
    res_main_v31 (F := Ideal) m c = outV (yV g (actV (hV wg x) (hV wu x)) wd) x1 ga gp := by
  subst h0 h1 h2 h3 h4 h5 h6 h7
  chain_rfl

theorem hV_apply (w : FVec Ideal S16x1024x512 .f32) (x : FVec Ideal S256x1024 .f32) (e : Fin 16) (N : Fin 256) (f : Fin 512) :
    hV w x (ix3 e N f) = ∑ k : Fin 1024, x (ix2 N k) * w (ix3 e k f) := by
  pointwise [hV]
  exact Finset.sum_congr rfl fun k _ => mul_comm _ _

theorem actV_apply (h u : FVec Ideal S16x256x512 .f32) (j : S16x256x512.Idx) : actV h u j = silu (h j) * u j := by
  pointwise [actV]
  rfl

theorem yV_apply (g : FVec Ideal S256x16 .f32) (a : FVec Ideal S16x256x512 .f32) (wd : FVec Ideal S16x512x1024 .f32) (N : Fin 256) (d : Fin 1024) :
    yV g a wd (ix2 N d) = ∑ e : Fin 16, g (ix2 N e) * ∑ f : Fin 512, a (ix3 e N f) * wd (ix3 e f d) := by
  pointwise [yV]

theorem outV_apply (y x1 : FVec Ideal S256x1024 .f32) (ga : FVec Ideal S32x1024 .f32) (gp : FVec Ideal S1024 .f32) (b : Fin 32) (s : Fin 8) (d : Fin 1024) :
    outV y x1 ga gp (ix2 (row b s) d) = x1 (ix2 (row b s) d) + ga (ix2 b d) * rms (fun e => y (ix2 (row b s) e)) (fun e => gp (ix1 e)) d := by
  have key : ∀ (b' : Fin 32) (N : Fin 256), b' = b → N = row b s →
      x1 (ix2 N d) + ga (ix2 b' d) * rms (fun e => y (ix2 N e)) (fun e => gp (ix1 e)) d
        = x1 (ix2 (row b s) d) + ga (ix2 b d) * rms (fun e => y (ix2 (row b s) e)) (fun e => gp (ix1 e)) d := by
    rintro _ _ rfl rfl; rfl
  have hb : (row b s).val = 8 * b.val + s.val := rfl
  pointwise [outV]
  first
    | exact key _ _ (Fin.ext (by show (row b s).val / 8 = b.val; omega)) (Fin.ext (by show (row b s).val / 8 * 8 + (row b s).val % 8 = (row b s).val; omega))
    | exact key _ _ (Fin.ext (by show (row b s).val / 8 = b.val; omega)) rfl

/-- The experts' weighted sum at an entry, expert by expert. -/
theorem y_apply (g : FVec Ideal S256x16 .f32) (x : FVec Ideal S256x1024 .f32) (wg wu : FVec Ideal S16x1024x512 .f32) (wd : FVec Ideal S16x512x1024 .f32) (N : Fin 256) (d : Fin 1024) :
    yV g (actV (hV wg x) (hV wu x)) wd (ix2 N d)
      = ∑ e : Fin 16, g (ix2 N e) * expert (fun k => x (ix2 N k)) (fun k f => wg (ix3 e k f)) (fun k f => wu (ix3 e k f)) (fun f k => wd (ix3 e f k)) d := by
  rw [yV_apply]
  simp only [actV_apply, hV_apply]
  rfl

/-- Sixteen terms added four at a time, from zero. -/
theorem sum16 (f : Fin 16 → EReal) (M : (g : Nat) → g < 4 → EReal)
    (hM : ∀ (g : Nat) (hg : g < 4), M g hg = f ⟨4 * g + 0, by omega⟩ + f ⟨4 * g + 1, by omega⟩ + f ⟨4 * g + 2, by omega⟩ + f ⟨4 * g + 3, by omega⟩) :
    0 + M 0 (by decide) + M 1 (by decide) + M 2 (by decide) + M 3 (by decide) = ∑ e : Fin 16, f e := by
  simp only [hM]
  rw [Finset.sum_fin_eq_sum_range]
  simp only [Finset.sum_range_succ, Finset.sum_range_zero, zero_add, add_assoc]
  rfl

end Cert.MoeSRef

end
-- ==== Proof.MoeS.lean ====
/-
  The samples' experts: the sum over the visits, the array the grid leaves, the run over the extended reals and the run over the bits.
-/
module

public import proofs.«01_k».proof.Proof.Gen.Kernel6
public import proofs.«01_k».proof.Proof.MoeSTile
public import proofs.«01_k».proof.Proof.MoeSRef
public import Idealize.ShloMosaic.Lib.Pipeline.ValueKit
public import Idealize.ShloMosaic.Lib.Pipeline.Regions

@[expose] public section

set_option maxRecDepth 65536

noncomputable section

namespace Cert.Kernel6Ideal.MoeS

open Cert.Kernel6Ideal Cert.Kernel6Ideal.Gen
open Idealize.ShloMosaic Idealize.ShloMosaic.TcCoe Idealize.SL.Sem
open Cert.MoeSRef
open Cert.MoeVal (silu expert rms mix)
open Cert.InRefS (row row_div row_mod)
open Cert.InVal (z2 z3)

variable (m : (ℓ : Loc nD τ sig) → Buf (Elt Ideal) ℓ) (c : Dev nD)

abbrev aX : FVec Ideal S256x1024 .f32 := m ((c : Thread nD τ).loc main_arg0)
abbrev aG : FVec Ideal S256x16 .f32 := m ((c : Thread nD τ).loc main_arg1)
abbrev aR : FVec Ideal S256x1024 .f32 := m ((c : Thread nD τ).loc main_arg2)
abbrev aA : FVec Ideal S32x1024 .f32 := m ((c : Thread nD τ).loc main_arg3)
abbrev aS : FVec Ideal S1024 .f32 := m ((c : Thread nD τ).loc main_arg4)
abbrev aP : FVec Ideal S16x1024x512 .f32 := m ((c : Thread nD τ).loc main_arg5)
abbrev aU : FVec Ideal S16x1024x512 .f32 := m ((c : Thread nD τ).loc main_arg6)
abbrev aD : FVec Ideal S16x512x1024 .f32 := m ((c : Thread nD τ).loc main_arg7)
/-- The experts' weighted sum. -/
abbrev yy := yV (aG m c) (actV (hV (aP m c) (aX m c)) (hV (aU m c) (aX m c))) (aD m c)

theorem V_v0 : V m c main_v0 = (truncf (F := Ideal) .bf16 (aP m c) bitsLt_bf16_f32 : FVec Ideal S16x1024x512 .bf16) := by
  unfold V hostOps0; after_results
theorem V_v1 : V m c main_v1 = (truncf (F := Ideal) .bf16 (aU m c) bitsLt_bf16_f32 : FVec Ideal S16x1024x512 .bf16) := by
  unfold V hostOps0; after_results
theorem V_v2 : V m c main_v2 = (truncf (F := Ideal) .bf16 (aD m c) bitsLt_bf16_f32 : FVec Ideal S16x512x1024 .bf16) := by
  unfold V hostOps0; after_results
theorem V_v3 : V m c main_v3 = (truncf (F := Ideal) .bf16 (aX m c) bitsLt_bf16_f32 : FVec Ideal S256x1024 .bf16) := by
  unfold V hostOps0; after_results
theorem V_v6 : V m c main_v6 = (shapeCast S1x256x1024 (shapeCast S256x1024 (broadcastInDim S32x8x1024 ![0, 2] bcast_S32x1024_S32x8x1024_0_2 (aA m c)) shapeCasts_S32x8x1024_S256x1024) shapeCasts_S256x1024_S1x256x1024 : FVec Ideal S1x256x1024 .f32) := by
  unfold V hostOps0; after_results; rfl
theorem V_v7 : V m c main_v7 = (shapeCast S1x1024 (aS m c) shapeCasts_S1024_S1x1024 : FVec Ideal S1x1024 .f32) := by
  unfold V hostOps0; after_results; rfl

section Blocks
variable (t : Fin cfg0.N)

theorem pt_lt : (grid0.coords t 1).val < 4 := (grid0.coords t 1).isLt

/-! The windows that hold their whole arrays. -/

theorem index0 : ∀ t : Fin cfg0.N, win0_0.index t = ![0, 0] :=
  (by decide +kernel : ∀ t : Fin grid0.N, win0_0.index t = ![0, 0])
theorem emb0 (y : S256x1024.Idx) : ((cfg0.win 0).blk t).view.emb y = y := by
  refine funext fun a => Fin.ext ?_
  have e : (((cfg0.win 0).blk t).view.emb y a : ℕ) = win0_0.index t a * (![256, 1024] : Fin 2 → ℕ) a + 1 * (y a).val := rfl
  rw [index0] at e
  fin_cases a
  · exact e.trans (by show 0 * 256 + 1 * (y 0).val = (y 0).val; omega)
  · exact e.trans (by show 0 * 1024 + 1 * (y 1).val = (y 1).val; omega)

theorem index1 : ∀ t : Fin cfg0.N, win0_1.index t = ![0, 0] :=
  (by decide +kernel : ∀ t : Fin grid0.N, win0_1.index t = ![0, 0])
theorem emb1 (y : S256x16.Idx) : ((cfg0.win 1).blk t).view.emb y = y := by
  refine funext fun a => Fin.ext ?_
  have e : (((cfg0.win 1).blk t).view.emb y a : ℕ) = win0_1.index t a * (![256, 16] : Fin 2 → ℕ) a + 1 * (y a).val := rfl
  rw [index1] at e
  fin_cases a
  · exact e.trans (by show 0 * 256 + 1 * (y 0).val = (y 0).val; omega)
  · exact e.trans (by show 0 * 16 + 1 * (y 1).val = (y 1).val; omega)

theorem index2 : ∀ t : Fin cfg0.N, win0_2.index t = ![0, 0] :=
  (by decide +kernel : ∀ t : Fin grid0.N, win0_2.index t = ![0, 0])
theorem emb2 (y : S256x1024.Idx) : ((cfg0.win 2).blk t).view.emb y = y := by
  refine funext fun a => Fin.ext ?_
  have e : (((cfg0.win 2).blk t).view.emb y a : ℕ) = win0_2.index t a * (![256, 1024] : Fin 2 → ℕ) a + 1 * (y a).val := rfl
  rw [index2] at e
  fin_cases a
  · exact e.trans (by show 0 * 256 + 1 * (y 0).val = (y 0).val; omega)
  · exact e.trans (by show 0 * 1024 + 1 * (y 1).val = (y 1).val; omega)

theorem index3 : ∀ t : Fin cfg0.N, win0_3.index t = ![0, 0, 0] :=
  (by decide +kernel : ∀ t : Fin grid0.N, win0_3.index t = ![0, 0, 0])
theorem emb3 (y : S1x256x1024.Idx) : ((cfg0.win 3).blk t).view.emb y = y := by
  refine funext fun a => Fin.ext ?_
  have e : (((cfg0.win 3).blk t).view.emb y a : ℕ) = win0_3.index t a * (![1, 256, 1024] : Fin 3 → ℕ) a + 1 * (y a).val := rfl
  rw [index3] at e
  fin_cases a
  · exact e.trans (by show 0 * 1 + 1 * (y 0).val = (y 0).val; omega)
  · exact e.trans (by show 0 * 256 + 1 * (y 1).val = (y 1).val; omega)
  · exact e.trans (by show 0 * 1024 + 1 * (y 2).val = (y 2).val; omega)

theorem index4 : ∀ t : Fin cfg0.N, win0_4.index t = ![0, 0] :=
  (by decide +kernel : ∀ t : Fin grid0.N, win0_4.index t = ![0, 0])
theorem emb4 (y : S1x1024.Idx) : ((cfg0.win 4).blk t).view.emb y = y := by
  refine funext fun a => Fin.ext ?_
  have e : (((cfg0.win 4).blk t).view.emb y a : ℕ) = win0_4.index t a * (![1, 1024] : Fin 2 → ℕ) a + 1 * (y a).val := rfl
  rw [index4] at e
  fin_cases a
  · exact e.trans (by show 0 * 1 + 1 * (y 0).val = (y 0).val; omega)
  · exact e.trans (by show 0 * 1024 + 1 * (y 1).val = (y 1).val; omega)

/-! The windows that hold a group's four experts. -/

theorem index5 : ∀ t : Fin cfg0.N, win0_5.index t = ![(grid0.coords t 1).val, 0, 0] :=
  (by decide +kernel : ∀ t : Fin grid0.N, win0_5.index t = ![(grid0.coords t 1).val, 0, 0])
theorem emb5 (q : Fin 4) (a : Fin 1024) (b : Fin 512) : ((cfg0.win 5).blk t).view.emb (ix3 q a b : S4x1024x512.Idx) = (ix3 ⟨4 * (grid0.coords t 1).val + q.val, by have := pt_lt t; omega⟩ a b : S16x1024x512.Idx) := by
  refine funext fun x => Fin.ext ?_
  have e : (((cfg0.win 5).blk t).view.emb (ix3 q a b : S4x1024x512.Idx) x : ℕ) = win0_5.index t x * (![4, 1024, 512] : Fin 3 → ℕ) x + 1 * ((ix3 q a b : S4x1024x512.Idx) x).val := rfl
  rw [index5] at e
  fin_cases x
  · exact e.trans (by show (grid0.coords t 1).val * 4 + 1 * q.val = 4 * (grid0.coords t 1).val + q.val; omega)
  · exact e.trans (by show 0 * 1024 + 1 * a.val = a.val; omega)
  · exact e.trans (by show 0 * 512 + 1 * b.val = b.val; omega)

theorem index6 : ∀ t : Fin cfg0.N, win0_6.index t = ![(grid0.coords t 1).val, 0, 0] :=
  (by decide +kernel : ∀ t : Fin grid0.N, win0_6.index t = ![(grid0.coords t 1).val, 0, 0])
theorem emb6 (q : Fin 4) (a : Fin 1024) (b : Fin 512) : ((cfg0.win 6).blk t).view.emb (ix3 q a b : S4x1024x512.Idx) = (ix3 ⟨4 * (grid0.coords t 1).val + q.val, by have := pt_lt t; omega⟩ a b : S16x1024x512.Idx) := by
  refine funext fun x => Fin.ext ?_
  have e : (((cfg0.win 6).blk t).view.emb (ix3 q a b : S4x1024x512.Idx) x : ℕ) = win0_6.index t x * (![4, 1024, 512] : Fin 3 → ℕ) x + 1 * ((ix3 q a b : S4x1024x512.Idx) x).val := rfl
  rw [index6] at e
  fin_cases x
  · exact e.trans (by show (grid0.coords t 1).val * 4 + 1 * q.val = 4 * (grid0.coords t 1).val + q.val; omega)
  · exact e.trans (by show 0 * 1024 + 1 * a.val = a.val; omega)
  · exact e.trans (by show 0 * 512 + 1 * b.val = b.val; omega)

theorem index7 : ∀ t : Fin cfg0.N, win0_7.index t = ![(grid0.coords t 1).val, 0, 0] :=
  (by decide +kernel : ∀ t : Fin grid0.N, win0_7.index t = ![(grid0.coords t 1).val, 0, 0])
theorem emb7 (q : Fin 4) (a : Fin 512) (b : Fin 1024) : ((cfg0.win 7).blk t).view.emb (ix3 q a b : S4x512x1024.Idx) = (ix3 ⟨4 * (grid0.coords t 1).val + q.val, by have := pt_lt t; omega⟩ a b : S16x512x1024.Idx) := by
  refine funext fun x => Fin.ext ?_
  have e : (((cfg0.win 7).blk t).view.emb (ix3 q a b : S4x512x1024.Idx) x : ℕ) = win0_7.index t x * (![4, 512, 1024] : Fin 3 → ℕ) x + 1 * ((ix3 q a b : S4x512x1024.Idx) x).val := rfl
  rw [index7] at e
  fin_cases x
  · exact e.trans (by show (grid0.coords t 1).val * 4 + 1 * q.val = 4 * (grid0.coords t 1).val + q.val; omega)
  · exact e.trans (by show 0 * 512 + 1 * a.val = a.val; omega)
  · exact e.trans (by show 0 * 1024 + 1 * b.val = b.val; omega)

/-! The blocks read, entry by entry. -/

theorem blk0 (r : Fin 256) (d : Fin 1024) : iblk m c 0 t (ix2 r d) = aX m c (ix2 r d) := by
  unfold iblk
  show V m c main_v3 (((cfg0.win 0).blk t).view.emb (ix2 r d : S256x1024.Idx)) = _
  rw [emb0, V_v3]
  rfl
theorem blk1 (r : Fin 256) (d : Fin 16) : iblk m c 1 t (ix2 r d) = aG m c (ix2 r d) := by
  unfold iblk
  show V m c main_arg1 (((cfg0.win 1).blk t).view.emb (ix2 r d : S256x16.Idx)) = _
  rw [emb1, V_main_arg1]
theorem blk2 (r : Fin 256) (d : Fin 1024) : iblk m c 2 t (ix2 r d) = aR m c (ix2 r d) := by
  unfold iblk
  show V m c main_arg2 (((cfg0.win 2).blk t).view.emb (ix2 r d : S256x1024.Idx)) = _
  rw [emb2, V_main_arg2]
theorem blk3 (b : Fin 32) (s : Fin 8) (d : Fin 1024) : iblk m c 3 t (ix3 0 (row b s) d) = aA m c (ix2 b d) := by
  unfold iblk
  show V m c main_v6 (((cfg0.win 3).blk t).view.emb (ix3 0 (row b s) d : S1x256x1024.Idx)) = _
  rw [emb3, V_v6]
  show shapeCast S1x256x1024 (shapeCast S256x1024 (broadcastInDim S32x8x1024 ![0, 2] bcast_S32x1024_S32x8x1024_0_2 (aA m c)) shapeCasts_S32x8x1024_S256x1024) shapeCasts_S256x1024_S1x256x1024 (ix3 0 (row b s) d) = _
  pointwise
  rw [row_div]
theorem blk4 (d : Fin 1024) : iblk m c 4 t (ix2 0 d) = aS m c (ix1 d) := by
  unfold iblk
  show V m c main_v7 (((cfg0.win 4).blk t).view.emb (ix2 0 d : S1x1024.Idx)) = _
  rw [emb4, V_v7]
  show shapeCast S1x1024 (aS m c) shapeCasts_S1024_S1x1024 (ix2 0 d) = _
  pointwise
theorem blk5 (q : Fin 4) (a : Fin 1024) (b : Fin 512) : iblk m c 5 t (ix3 q a b) = aP m c (ix3 ⟨4 * (grid0.coords t 1).val + q.val, by have := pt_lt t; omega⟩ a b) := by
  unfold iblk
  show V m c main_v0 (((cfg0.win 5).blk t).view.emb (ix3 q a b : S4x1024x512.Idx)) = _
  rw [emb5, V_v0]
  rfl
theorem blk6 (q : Fin 4) (a : Fin 1024) (b : Fin 512) : iblk m c 6 t (ix3 q a b) = aU m c (ix3 ⟨4 * (grid0.coords t 1).val + q.val, by have := pt_lt t; omega⟩ a b) := by
  unfold iblk
  show V m c main_v1 (((cfg0.win 6).blk t).view.emb (ix3 q a b : S4x1024x512.Idx)) = _
  rw [emb6, V_v1]
  rfl
theorem blk7 (q : Fin 4) (a : Fin 512) (b : Fin 1024) : iblk m c 7 t (ix3 q a b) = aD m c (ix3 ⟨4 * (grid0.coords t 1).val + q.val, by have := pt_lt t; omega⟩ a b) := by
  unfold iblk
  show V m c main_v2 (((cfg0.win 7).blk t).view.emb (ix3 q a b : S4x512x1024.Idx)) = _
  rw [emb7, V_v2]
  rfl

/-- A group's four experts on one row, each with its gate. -/
def grp (r : Fin 256) (d : Fin 1024) (g : Nat) (hg : g < 4) : EReal :=
  mix (fun k => aG m c (ix2 r ⟨4 * g + k.val, by omega⟩)) (fun k => aX m c (ix2 r k))
    (fun e k f => aP m c (ix3 ⟨4 * g + e.val, by omega⟩ k f)) (fun e k f => aU m c (ix3 ⟨4 * g + e.val, by omega⟩ k f)) (fun e f k => aD m c (ix3 ⟨4 * g + e.val, by omega⟩ f k)) d

/-- What a visit adds at an entry. -/
theorem acc_grp (P : Vec Ideal S256x1024 .f32) (r : Fin 256) (d : Fin 1024) (g : Nat) (hg : g < 4) (h : (grid0.coords t 1).val = g) :
    accOf (F := Ideal) (grid0.coords t) (iblk m c 0 t) (iblk m c 1 t) (iblk m c 5 t) (iblk m c 6 t) (iblk m c 7 t) P (ix2 r d) = P (ix2 r d) + grp m c r d g hg := by
  subst h
  rw [acc_apply]
  simp only [blk0, blk1, blk5, blk6, blk7]
  rfl

end Blocks

/-! ## What each visit leaves -/

theorem coord1 : ∀ t : Fin cfg0.N, (grid0.coords t 1).val = t.val :=
  (by decide +kernel : ∀ t : Fin grid0.N, (grid0.coords t 1).val = t.val)

theorem sum_A (t : Fin cfg0.N) (h0 : t.val % 4 = 0) (h1 : ¬t.val % 4 = 3) :
    (outsAt0 m c t.val t.isLt).2 = accOf (F := Ideal) (grid0.coords t) (iblk m c 0 t) (iblk m c 1 t) (iblk m c 5 t) (iblk m c 6 t) (iblk m c 7 t) (k0_pay3 (F := Ideal)) := by
  refine (congrArg Prod.snd (outsAt0_A m c t h0 h1)).trans ?_
  dsimp only
  unfold sout0_A_0
  rw [View.read_writes_junk_eq_canon, sumA]
  exact View.canon_cons_unit_zero z2 _ _ _

theorem sum_B (t : Fin cfg0.N) (h0 : ¬t.val % 4 = 0) (h1 : ¬t.val % 4 = 3) :
    (outsAt0 m c t.val t.isLt).2 = accOf (F := Ideal) (grid0.coords t) (iblk m c 0 t) (iblk m c 1 t) (iblk m c 5 t) (iblk m c 6 t) (iblk m c 7 t) (outsAt0 m c (t.val - 1) (Nat.lt_of_le_of_lt (Nat.sub_le _ _) t.isLt)).2 := by
  refine (congrArg Prod.snd (outsAt0_B m c t h0 h1)).trans ?_
  dsimp only
  unfold sout0_B_0
  rw [View.read_writes_junk_eq_canon, sumB]
  exact View.canon_cons_unit_zero z2 _ _ _

theorem out_C (t : Fin cfg0.N) (h0 : ¬t.val % 4 = 0) (h1 : t.val % 4 = 3) :
    (outsAt0 m c t.val t.isLt).1 = k0_pay2 (F := Ideal) (iblk m c 2 t) (iblk m c 3 t) (accOf (F := Ideal) (grid0.coords t) (iblk m c 0 t) (iblk m c 1 t) (iblk m c 5 t) (iblk m c 6 t) (iblk m c 7 t) (outsAt0 m c (t.val - 1) (Nat.lt_of_le_of_lt (Nat.sub_le _ _) t.isLt)).2) (iblk m c 4 t) := by
  refine (congrArg Prod.fst (outsAt0_C m c t h0 h1)).trans ?_
  dsimp only
  unfold out0_C_8
  rw [View.read_writes_junk_eq_canon, outC]
  exact View.canon_cons_unit_zero z2 _ _ _

theorem lt_N (n : Nat) (h : n < 4) : n < cfg0.N := lt_of_lt_of_eq h N_0.symm

theorem sum0 (r : Fin 256) (d : Fin 1024) : (outsAt0 m c 0 (lt_N 0 (by decide))).2 (ix2 r d) = 0 + grp m c r d 0 (by decide) := by
  refine (congrFun (sum_A m c ⟨0, lt_N 0 (by decide)⟩ (by decide) (by decide)) (ix2 r d)).trans ?_
  rw [acc_grp m c _ _ r d 0 (by decide) (coord1 _), pay3_apply]
theorem sum1 (r : Fin 256) (d : Fin 1024) : (outsAt0 m c 1 (lt_N 1 (by decide))).2 (ix2 r d) = 0 + grp m c r d 0 (by decide) + grp m c r d 1 (by decide) := by
  refine (congrFun (sum_B m c ⟨1, lt_N 1 (by decide)⟩ (by decide) (by decide)) (ix2 r d)).trans ?_
  rw [acc_grp m c _ _ r d 1 (by decide) (coord1 _)]
  exact congrArg (· + grp m c r d 1 (by decide)) (sum0 m c r d)
theorem sum2 (r : Fin 256) (d : Fin 1024) : (outsAt0 m c 2 (lt_N 2 (by decide))).2 (ix2 r d) = 0 + grp m c r d 0 (by decide) + grp m c r d 1 (by decide) + grp m c r d 2 (by decide) := by
  refine (congrFun (sum_B m c ⟨2, lt_N 2 (by decide)⟩ (by decide) (by decide)) (ix2 r d)).trans ?_
  rw [acc_grp m c _ _ r d 2 (by decide) (coord1 _)]
  exact congrArg (· + grp m c r d 2 (by decide)) (sum1 m c r d)

/-- The sum after the last visit is the reference's. -/
theorem sum3 (r : Fin 256) (d : Fin 1024) (t : Fin cfg0.N) (ht : t.val = 3) (P : Vec Ideal S256x1024 .f32) (hP : P (ix2 r d) = (outsAt0 m c 2 (lt_N 2 (by decide))).2 (ix2 r d)) :
    accOf (F := Ideal) (grid0.coords t) (iblk m c 0 t) (iblk m c 1 t) (iblk m c 5 t) (iblk m c 6 t) (iblk m c 7 t) P (ix2 r d) = yy m c (ix2 r d) := by
  rw [acc_grp m c t P r d 3 (by decide) ((coord1 t).trans ht), hP, sum2]
  refine Eq.trans ?_ (y_apply _ _ _ _ _ r d).symm
  exact sum16 (fun e => aG m c (ix2 r e) * expert (fun k => aX m c (ix2 r k)) (fun k f => aP m c (ix3 e k f)) (fun k f => aU m c (ix3 e k f)) (fun f k => aD m c (ix3 e f k)) d) (grp m c r d) (fun g hg => rfl)

theorem row_parts (r : Fin 256) : ∃ (b : Fin 32) (s : Fin 8), r = row b s :=
  ⟨⟨r.val / 8, by omega⟩, ⟨r.val % 8, by omega⟩, Fin.ext (by show r.val = 8 * (r.val / 8) + r.val % 8; omega)⟩

/-- The array the call leaves is the reference's function of the arguments. -/
theorem arr8 : (dats m 0 c).arrAt 8 cfg0.N = outV (yy m c) (aR m c) (aA m c) (aS m c) := by
  refine (Value.final8 m c).trans ((Value.G8_last m c).trans ((congrArg Prod.fst (Value.outsAt0_sweep m c 3 (lt_N 3 (by decide))).symm).trans ?_))
  refine (out_C m c ⟨3, lt_N 3 (by decide)⟩ (by decide) (by decide)).trans ?_
  funext y
  obtain ⟨r, d, rfl⟩ : ∃ (r : Fin 256) (d : Fin 1024), y = (ix2 r d : S256x1024.Idx) := ⟨y 0, y 1, by funext a; fin_cases a <;> rfl⟩
  obtain ⟨b, s, rfl⟩ := row_parts r
  refine (pay2_apply _ _ _ _ (row b s) d).trans (Eq.trans ?_ (outV_apply _ _ _ _ b s d).symm)
  simp only [blk2, blk3, blk4]
  exact congrArg (fun Y => aR m c (ix2 (row b s) d) + aA m c (ix2 b d) * rms Y (fun e => aS m c (ix1 e)) d) (funext fun e => sum3 m c (row b s) e ⟨3, lt_N 3 (by decide)⟩ rfl _ rfl)

set_option maxHeartbeats 0 in
/-- The run: the result array is the reference's result of the arguments, the arguments are unchanged, every counter is back at zero. -/
theorem run_out (m : (ℓ : Loc nD τ sig) → Buf (Elt Ideal) ℓ) (ρ : Dev nD → PrngReg) : θ_run (defs (F := Ideal)) (onTc (τ := τ) (main (F := Ideal))) ⟨m, fun _ => 0, ρ⟩ (fun r => (∀ c : Dev nD,
      r.2.mem ((c.tc : Thread nD τ).loc main_v8) = outV (yy m c) (aR m c) (aA m c) (aS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨((h.1 c).1).trans (arr8 m c), (h.1 c).2⟩, h.2⟩)
    (θ_run_and (Value.run_blocks m ρ) ((θ_run defs _ _).mono (fun _ h => h.2) (frame m ρ)))

/-- The run over the bits, said of the idealization's text. -/
def RunIdealText : Prop := ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0)

end Cert.Kernel6Ideal.MoeS

namespace Cert.Kernel6.MoeS

open Idealize.ShloMosaic Idealize.ShloMosaic.TcCoe Idealize.SL.Sem
open Cert.Kernel6 Cert.Kernel6.Gen

/-- The run over the bits, said of the kernel's own text. -/
def RunText : Prop := ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0)

set_option maxHeartbeats 0 in
/-- The two texts are one, so the two statements are one. -/
theorem run_same : Cert.Kernel6Ideal.MoeS.RunIdealText = RunText := by
  chain_rfl

/-- The kernel's run over the bits. -/
theorem run_bits : RunText := run_same.mp fun m ρ => Cert.Kernel6Ideal.Gen.frame (F := Bits) m ρ

end Cert.Kernel6.MoeS

end
-- ==== Proof.Ada.lean ====
/-
  The modulation call: each entry of the array its grid leaves, its run over the extended reals and its run over the bits.
-/
module

public import proofs.«01_k».proof.Proof.Gen.Kernel7
public import proofs.«01_k».proof.Proof.Gen.Kernel7Ideal.Value
public import proofs.«01_k».proof.Proof.Gen.Reference7Ideal.Run
public import proofs.«01_k».proof.Proof.InprojTile
public import Idealize.ShloMosaic.Lib.Pipeline.ValueKit
public import Idealize.ShloMosaic.Lib.Pipeline.Regions

@[expose] public section

set_option maxRecDepth 65536

noncomputable section

namespace Cert.AdaRef

open Cert.Reference7Ideal Cert.Reference7Ideal.Gen
open Idealize.ShloMosaic Idealize.ShloMosaic.TcCoe

/-- A number times its logistic. -/
def swish (x : EReal) : EReal := x * Ideal.div 1 (1 + Ideal.exp (-x))

/-- The conditions' swish, projected and shifted. -/
def oV (C : FVec Ideal S36x1024 .f32) (w : FVec Ideal S1024x6144 .f32) (b : FVec Ideal S6144 .f32) : FVec Ideal S36x6144 .f32 :=
  addf (Host.dotGeneral dot_S36x1024_S1024x6144_S36x6144_1_0_0_1_n_n none (mulf C (Host.divf (broadcastInDim S36x1024 ![] bcast_S_S36x1024 (constant S_ .f32 0x3F800000#32)) (addf (broadcastInDim S36x1024 ![] bcast_S_S36x1024 (constant S_ .f32 0x3F800000#32)) (Host.exp (Host.negf C))))) w) (broadcastInDim S36x6144 ![0, 1] bcast_S1x6144_S36x6144_0_1 (broadcastInDim S1x6144 ![1] bcast_S6144_S1x6144_1 b))
/-- The conditions of the prompts, then those of the samples. -/
abbrev cV (a : FVec Ideal S4x1024 .f32) (b : FVec Ideal S32x1024 .f32) : FVec Ideal S36x1024 .f32 :=
  concatenate S36x1024 0 [⟨S4x1024, a⟩, ⟨S32x1024, b⟩] concatenates_S4x1024_S32x1024_S36x1024_d0

theorem oV_apply (C : FVec Ideal S36x1024 .f32) (w : FVec Ideal S1024x6144 .f32) (b : FVec Ideal S6144 .f32) (r : Fin 36) (j : Fin 6144) :
    oV C w b (ix2 r j) = (∑ k : Fin 1024, swish (C (ix2 r k)) * w (ix2 k j)) + b (ix1 j) := by
  pointwise [oV]
  rfl

end Cert.AdaRef

namespace Cert.Kernel7Ideal.Ada

open Cert.Kernel7Ideal Cert.Kernel7Ideal.Gen
open Idealize.ShloMosaic Idealize.ShloMosaic.TcCoe Idealize.SL.Sem
open Cert.AdaRef
open Cert.InVal (z2)

theorem pay1_apply (x : Vec Ideal S36x1024 .f32) (w : Vec Ideal S1024x1024 .f32) (b : Vec Ideal S1x1024 .f32) (r : Fin 36) (j : Fin 1024) :
    k0_pay1 (F := Ideal) x w b (ix2 r j) = (∑ k : Fin 1024, swish (x (ix2 r k)) * w (ix2 k j)) + b (ix2 0 j) := by
  pointwise [k0_pay1]
  rfl

variable (m : (ℓ : Loc nD τ sig) → Buf (Elt Ideal) ℓ) (c : Dev nD)

abbrev aP : FVec Ideal S4x1024 .f32 := m ((c : Thread nD τ).loc main_arg0)
abbrev aS : FVec Ideal S32x1024 .f32 := m ((c : Thread nD τ).loc main_arg1)
abbrev aW : FVec Ideal S1024x6144 .f32 := m ((c : Thread nD τ).loc main_arg2)
abbrev aB : FVec Ideal S6144 .f32 := m ((c : Thread nD τ).loc main_arg3)
/-- All the conditions. -/
abbrev cc := cV (aP m c) (aS m c)

theorem V_v0 : V m c main_v0 = (cc m c : FVec Ideal S36x1024 .f32) := by
  unfold V hostOps0; after_results
theorem V_v1 : V m c main_v1 = (shapeCast S1x6144 (aB m c) shapeCasts_S6144_S1x6144 : FVec Ideal S1x6144 .f32) := by
  unfold V hostOps0; after_results; rfl

theorem index0 : ∀ t : Fin cfg0.N, win0_0.index t = ![0, 0] :=
  (by decide +kernel : ∀ t : Fin grid0.N, win0_0.index t = ![0, 0])
theorem index1 : ∀ t : Fin cfg0.N, win0_1.index t = ![0, (grid0.coords t 0).val] :=
  (by decide +kernel : ∀ t : Fin grid0.N, win0_1.index t = ![0, (grid0.coords t 0).val])
theorem index2 : ∀ t : Fin cfg0.N, win0_2.index t = ![0, (grid0.coords t 0).val] :=
  (by decide +kernel : ∀ t : Fin grid0.N, win0_2.index t = ![0, (grid0.coords t 0).val])
theorem index3 : ∀ t : Fin cfg0.N, win0_3.index t = ![0, (grid0.coords t 0).val] :=
  (by decide +kernel : ∀ t : Fin grid0.N, win0_3.index t = ![0, (grid0.coords t 0).val])

variable (t : Fin cfg0.N)

theorem lt_pts : (grid0.coords t 0).val < 6 := (grid0.coords t 0).isLt
/-- Column `j` of a point's block among all the columns. -/
def col (j : Fin 1024) : Fin 6144 := ⟨(grid0.coords t 0).val * 1024 + j.val, by have := lt_pts t; omega⟩

theorem emb0 (r : Fin 36) (j : Fin 1024) : ((cfg0.win 0).blk t).view.emb (ix2 r j : S36x1024.Idx) = (ix2 r j : S36x1024.Idx) := by
  refine funext fun a => Fin.ext ?_
  have e : (((cfg0.win 0).blk t).view.emb (ix2 r j : S36x1024.Idx) a : ℕ) = win0_0.index t a * (![36, 1024] : Fin 2 → ℕ) a + 1 * ((ix2 r j : S36x1024.Idx) a).val := rfl
  rw [index0] at e
  fin_cases a
  · exact e.trans (by show 0 * 36 + 1 * r.val = r.val; omega)
  · exact e.trans (by show 0 * 1024 + 1 * j.val = j.val; omega)
theorem emb1 (r : Fin 1024) (j : Fin 1024) : ((cfg0.win 1).blk t).view.emb (ix2 r j : S1024x1024.Idx) = (ix2 r (col t j) : S1024x6144.Idx) := by
  refine funext fun a => Fin.ext ?_
  have e : (((cfg0.win 1).blk t).view.emb (ix2 r j : S1024x1024.Idx) a : ℕ) = win0_1.index t a * (![1024, 1024] : Fin 2 → ℕ) a + 1 * ((ix2 r j : S1024x1024.Idx) a).val := rfl
  rw [index1] at e
  fin_cases a
  · exact e.trans (by show 0 * 1024 + 1 * r.val = r.val; omega)
  · exact e.trans (by show (grid0.coords t 0).val * 1024 + 1 * j.val = (grid0.coords t 0).val * 1024 + j.val; omega)
theorem emb2 (r : Fin 1) (j : Fin 1024) : ((cfg0.win 2).blk t).view.emb (ix2 r j : S1x1024.Idx) = (ix2 r (col t j) : S1x6144.Idx) := by
  refine funext fun a => Fin.ext ?_
  have e : (((cfg0.win 2).blk t).view.emb (ix2 r j : S1x1024.Idx) a : ℕ) = win0_2.index t a * (![1, 1024] : Fin 2 → ℕ) a + 1 * ((ix2 r j : S1x1024.Idx) a).val := rfl
  rw [index2] at e
  fin_cases a
  · exact e.trans (by show 0 * 1 + 1 * r.val = r.val; omega)
  · exact e.trans (by show (grid0.coords t 0).val * 1024 + 1 * j.val = (grid0.coords t 0).val * 1024 + j.val; omega)
theorem emb3 (r : Fin 36) (j : Fin 1024) : ((cfg0.win 3).blk t).view.emb (ix2 r j : S36x1024.Idx) = (ix2 r (col t j) : S36x6144.Idx) := by
  refine funext fun a => Fin.ext ?_
  have e : (((cfg0.win 3).blk t).view.emb (ix2 r j : S36x1024.Idx) a : ℕ) = win0_3.index t a * (![36, 1024] : Fin 2 → ℕ) a + 1 * ((ix2 r j : S36x1024.Idx) a).val := rfl
  rw [index3] at e
  fin_cases a
  · exact e.trans (by show 0 * 36 + 1 * r.val = r.val; omega)
  · exact e.trans (by show (grid0.coords t 0).val * 1024 + 1 * j.val = (grid0.coords t 0).val * 1024 + j.val; omega)

theorem blk0 (r : Fin 36) (k : Fin 1024) : iblk m c 0 t (ix2 r k) = cc m c (ix2 r k) := by
  unfold iblk
  show V m c main_v0 (((cfg0.win 0).blk t).view.emb (ix2 r k : S36x1024.Idx)) = _
  rw [emb0, V_v0]
theorem blk1 (k j : Fin 1024) : iblk m c 1 t (ix2 k j) = aW m c (ix2 k (col t j)) := by
  unfold iblk
  show V m c main_arg2 (((cfg0.win 1).blk t).view.emb (ix2 k j : S1024x1024.Idx)) = _
  rw [emb1, V_main_arg2]
theorem blk2 (j : Fin 1024) : iblk m c 2 t (ix2 0 j) = aB m c (ix1 (col t j)) := by
  unfold iblk
  show V m c main_v1 (((cfg0.win 2).blk t).view.emb (ix2 0 j : S1x1024.Idx)) = _
  rw [emb2, V_v1]
  show shapeCast S1x6144 (aB m c) shapeCasts_S6144_S1x6144 (ix2 0 (col t j)) = _
  pointwise

theorem arr3 : (dats m 0 c).arrAt 3 cfg0.N = oV (cc m c) (aW m c) (aB m c) := by
  refine (dats m 0 c).arrAt_eq_of_covers 3 _ (by decide +kernel) fun t hf y => ?_
  show (dats m 0 c).after 3 t y = _
  rw [after0_3]
  obtain ⟨r, j, rfl⟩ : ∃ (r : Fin 36) (j : Fin 1024), y = (ix2 r j : S36x1024.Idx) := ⟨y 0, y 1, by funext a; fin_cases a <;> rfl⟩
  rw [emb3, oV_apply]
  unfold out0_3
  rw [View.canon_unit_zero z2, View.ld_unit_zero z2, View.ld_unit_zero z2, View.ld_unit_zero z2]
  refine (pay1_apply _ _ _ r j).trans ?_
  simp only [blk0, blk1, blk2]

set_option maxHeartbeats 0 in
/-- The run: the result array is the reference's result of the arguments, the arguments are unchanged, every counter is back at zero. -/
theorem run_out (m : (ℓ : Loc nD τ sig) → Buf (Elt Ideal) ℓ) (ρ : Dev nD → PrngReg) : θ_run (defs (F := Ideal)) (onTc (τ := τ) (main (F := Ideal))) ⟨m, fun _ => 0, ρ⟩ (fun r => (∀ c : Dev nD,
      r.2.mem ((c.tc : Thread nD τ).loc main_v2) = oV (cc m c) (aW m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1).trans (arr3 m c), (h.1 c).2⟩, h.2⟩)
    (θ_run_and (Value.run_blocks m ρ) ((θ_run defs _ _).mono (fun _ h => h.2) (frame m ρ)))

/-- The run over the bits, said of the idealization's text. -/
def RunIdealText : Prop := ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0)

end Cert.Kernel7Ideal.Ada

namespace Cert.Kernel7.Ada

open Idealize.ShloMosaic Idealize.ShloMosaic.TcCoe Idealize.SL.Sem
open Cert.Kernel7 Cert.Kernel7.Gen

/-- The run over the bits, said of the kernel's own text. -/
def RunText : Prop := ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0)

set_option maxHeartbeats 0 in
/-- The two texts are one, so the two statements are one. -/
theorem run_same : Cert.Kernel7Ideal.Ada.RunIdealText = RunText := by
  chain_rfl

/-- The kernel's run over the bits. -/
theorem run_bits : RunText := run_same.mp fun m ρ => Cert.Kernel7Ideal.Gen.frame (F := Bits) m ρ

end Cert.Kernel7.Ada

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_pos_names_rows
public import Idealize.ShloMosaic.Adequacy
public import Idealize.ShloMosaic.Init
public import proofs.«01_k».proof.Proof.Value
public import proofs.«01_k».proof.Proof.Ref
public import proofs.«01_k».proof.Proof.Gen.Kernel2Ideal.Launch
public import proofs.«01_k».proof.Proof.Gen.Kernel2Ideal.Skeleton
public import proofs.«01_k».proof.Proof.Gen.Kernel2
public import proofs.«01_k».proof.Proof.Gen.Reference2Ideal.Run
public import proofs.«01_k».proof.Proof.Gen.Pre_tiles_name_groups
public import proofs.«01_k».proof.Proof.MoeFrame
public import proofs.«01_k».proof.Proof.MoeValue
public import proofs.«01_k».proof.Proof.Resid
public import proofs.«01_k».proof.Proof.Inproj
public import proofs.«01_k».proof.Proof.InprojS
public import proofs.«01_k».proof.Proof.MoeS
public import proofs.«01_k».proof.Proof.Ada

@[expose] public section

noncomputable section

namespace Cert.Proof

open Idealize.ShloMosaic Idealize.SL.Sem Cert.Kernel

/-- The gather over the bits: its arguments unchanged, every counter back at zero. -/
theorem frame_Kernel : Cert.quiescent_Kernel := fun m g hpre =>
  (θ_run Cert.KernelIdeal.defs _ _).mono (fun _ h => ⟨fun c => ⟨(h.1 c).1, (h.1 c).2.1⟩, h.2⟩)
    (Gather.run_main (F := Bits) m g (Gather.ok_of_rows m fun d => Gather.rows_of_pre (F := Bits) _ _ (hpre d)))

/-- The gather over the extended reals: the same. -/
theorem frame_KernelIdeal : Cert.quiescent_KernelIdeal := fun m g hpre =>
  (θ_run Cert.KernelIdeal.defs _ _).mono (fun _ h => ⟨fun c => ⟨(h.1 c).1, (h.1 c).2.1⟩, h.2⟩)
    (Gather.run_main (F := Ideal) m g (Gather.ok_of_rows m fun d => Gather.rows_of_pre (F := Ideal) _ _ (hpre d)))

/-- The reference over the extended reals: its arguments unchanged, every counter at zero. -/
theorem frame_ReferenceIdeal : Cert.quiescent_ReferenceIdeal := fun m g _ =>
  (θ_run Cert.ReferenceIdeal.defs _ _).mono (fun _ h => ⟨fun c => (h.1 c).2, h.2⟩) (Ref.run_main (F := Ideal) m g)
theorem frame_ReferenceIdeal_pre : Cert.quiescent_ReferenceIdeal_pre_pos_names_rows := fun m g _ =>
  (θ_run Cert.ReferenceIdeal.defs _ _).mono (fun _ h => ⟨fun c => (h.1 c).2, h.2⟩) (Ref.run_main (F := Ideal) m g)
/-- The reference over the bits: the same. -/
theorem frame_Reference : Cert.quiescent_Reference := fun m g _ =>
  (θ_run Cert.ReferenceIdeal.defs _ _).mono (fun _ h => ⟨fun c => (h.1 c).2, h.2⟩) (Ref.run_main (F := Bits) m g)

/-- What the reference computes is what the gather leaves, where every entry of `pos` names a row. -/
theorem out_eq {F : FTy → Type} [FloatOps F] (m : (ℓ : Loc Cert.KernelIdeal.nD Cert.KernelIdeal.τ Cert.KernelIdeal.sig) → Buf (Elt F) ℓ) (c : Dev Cert.KernelIdeal.nD)
    (h : Gather.RowsOK (m (Gather.bLoc c))) : Ref.outT (F := F) (m (Gather.aLoc c)) (m (Gather.bLoc c)) = Gather.Gv m c := by
  show _ = Gather.rowsOf (F := F) (Gather.Xv m c) (Gather.Iv m c)
  rw [Gather.Xv_eq, Gather.Iv_eq]
  exact Gather.ref_eq _ _ _ _ _ h _ _ (fun _ => rfl)

/-- Over the extended reals, the gather and the reference leave one result. -/
theorem algebraic : Cert.algebraic_KernelIdeal_ReferenceIdeal := by
  intro m g m' g' hpre hagree
  have hrows := fun d => Gather.rows_of_pre (F := Ideal) _ _ (hpre d)
  refine ⟨Gather.Gv m, (θ_run Cert.KernelIdeal.defs _ _).mono (fun _ h => fun c => ⟨(h.1 c).2.2, (h.1 c).1, (h.1 c).2.1⟩)
    (Gather.run_main (F := Ideal) m g (Gather.ok_of_rows m hrows)), ?_⟩
  refine (θ_run Cert.ReferenceIdeal.defs _ _).mono (fun _ h => fun c => ⟨(h.1 c).1.trans ?_, (h.1 c).2⟩) (Ref.run_main (F := Ideal) m' g')
  exact (congrArg₂ (Ref.outT (F := Ideal)) (hagree c).1 (hagree c).2).trans (out_eq m c (hrows c))

/-- Bit for bit, the gather and the reference leave one result. -/
theorem bitexact : Cert.bitexact_Kernel_Reference := by
  intro m g m' g' hpre hagree
  have hrows := fun d => Gather.rows_of_pre (F := Bits) _ _ (hpre d)
  refine ⟨Gather.Gv m, (θ_run Cert.KernelIdeal.defs _ _).mono (fun _ h => fun c => ⟨(h.1 c).2.2, (h.1 c).1, (h.1 c).2.1⟩)
    (Gather.run_main (F := Bits) m g (Gather.ok_of_rows m hrows)), ?_⟩
  refine (θ_run Cert.ReferenceIdeal.defs _ _).mono (fun _ h => fun c => ⟨(h.1 c).1.trans ?_, (h.1 c).2⟩) (Ref.run_main (F := Bits) m' g')
  exact (congrArg₂ (Ref.outT (F := Bits)) (hagree c).1 (hagree c).2).trans (out_eq m c (hrows c))

/-- The reference of the grouped experts over the extended reals: its arguments unchanged, every counter at zero. -/
theorem frame_Reference2Ideal : Cert.quiescent_Reference2Ideal := fun m g _ =>
  (θ_run Cert.Reference2Ideal.defs _ _).mono (fun r h => ⟨fun c => (h c).2, sem_eq_zero_of_no_sems (by decide) r.2⟩) (Cert.Reference2Ideal.Value.run (F := Ideal) m g)
theorem frame_Reference2Ideal_pre [Cert.Pre_tiles_name_groups.Facts] : Cert.quiescent_Reference2Ideal_pre_tiles_name_groups := fun m g _ =>
  (θ_run Cert.Reference2Ideal.defs _ _).mono (fun r h => ⟨fun c => (h c).2, sem_eq_zero_of_no_sems (by decide) r.2⟩) (Cert.Reference2Ideal.Value.run (F := Ideal) m g)

/-- The grouped experts over the extended reals: what the tiles leave is the reference's result, entry for entry. -/
theorem algebraic_moe [Cert.Pre_tiles_name_groups.Facts] : Cert.algebraic_Kernel2Ideal_Reference2Ideal := by
  intro m g m' g' hpre hagree
  have hg := fun d => Kernel2Ideal.Moe.groups_of_pre (F := Ideal) _ _ _ _ _ _ _ (hpre d)
  have hO := Kernel2Ideal.Moe.ok_of_pre m hg
  refine ⟨Kernel2Ideal.Moe.outAt m hO, (θ_run Cert.Kernel2Ideal.defs _ _).mono (fun _ h => h.1) (Kernel2Ideal.Moe.run_out (F := Ideal) m g hO), ?_⟩
  refine (θ_run Cert.Reference2Ideal.defs _ _).mono (fun _ h => fun c => ⟨(h c).1.trans ?_, (h c).2⟩) (Cert.Reference2Ideal.Value.run (F := Ideal) m' g')
  obtain ⟨h0, h1, h2, h3, h4, h5, h6⟩ := hagree c
  exact (MoeRef.res_eq m' c _ _ _ _ _ _ _ h0 h1 h2 h3 h4 h5 h6).trans (Kernel2Ideal.Moe.out_eq_ref m hO c (hg c)).symm

/-- The residual call over the bits: its arguments unchanged, every counter back at zero. -/
theorem frame_Kernel3 : Cert.quiescent_Kernel3 := fun m g _ =>
  (θ_run Cert.Kernel3.defs _ _).mono (fun _ h => ⟨fun c => (h.1 c).2, h.2⟩) (Cert.Kernel3.Resid.run_bits m g)
/-- The same over the extended reals. -/
theorem frame_Kernel3Ideal : Cert.quiescent_Kernel3Ideal := fun m g _ =>
  (θ_run Cert.Kernel3Ideal.defs _ _).mono (fun _ h => ⟨fun c => (h.1 c).2, h.2⟩) (Kernel3Ideal.Resid.run_out (F := Ideal) m g)
/-- Its reference over the extended reals: the same. -/
theorem frame_Reference3Ideal : Cert.quiescent_Reference3Ideal := fun m g _ =>
  (θ_run Cert.Reference3Ideal.defs _ _).mono (fun r h => ⟨fun c => (h c).2, sem_eq_zero_of_no_sems (by decide) r.2⟩) (Cert.Reference3Ideal.Value.run (F := Ideal) m g)
/-- Its reference over the bits: the same. -/
theorem frame_Reference3 : Cert.quiescent_Reference3 := fun m g _ =>
  (θ_run Cert.Reference3Ideal.defs _ _).mono (fun r h => ⟨fun c => (h c).2, sem_eq_zero_of_no_sems (by decide) r.2⟩) (Cert.Reference3Ideal.Value.run (F := Bits) m g)

/-- Over the extended reals, the residual call and its reference leave one result. -/
theorem algebraic_resid : Cert.algebraic_Kernel3Ideal_Reference3Ideal := by
  intro m g m' g' _ hagree
  refine ⟨fun c => _, (θ_run Cert.Kernel3Ideal.defs _ _).mono (fun _ h => h.1) (Kernel3Ideal.Resid.run_out (F := Ideal) m g), ?_⟩
  refine (θ_run Cert.Reference3Ideal.defs _ _).mono (fun _ h => fun c => ⟨(h c).1.trans ?_, (h c).2⟩) (Cert.Reference3Ideal.Value.run (F := Ideal) m' g')
  obtain ⟨h0, h1, h2⟩ := hagree c
  rw [h0, h1, h2]
  exact Kernel3Ideal.Resid.ref_eq (F := Ideal) _ _ _ _ _ _ _ _

/-- Bit for bit, the residual call and its reference leave one result. -/
theorem bitexact_resid : Cert.bitexact_Kernel3_Reference3 := by
  intro m g m' g' _ hagree
  refine ⟨fun c => _, (θ_run Cert.Kernel3.defs _ _).mono (fun _ h => h.1) (Cert.Kernel3.Resid.run_bits m g), ?_⟩
  refine (θ_run Cert.Reference3Ideal.defs _ _).mono (fun _ h => fun c => ⟨(h c).1.trans ?_, (h c).2⟩) (Cert.Reference3Ideal.Value.run (F := Bits) m' g')
  obtain ⟨h0, h1, h2⟩ := hagree c
  rw [h0, h1, h2]
  exact Kernel3Ideal.Resid.ref_eq (F := Bits) _ _ _ _ _ _ _ _

/-- The fused projection over the bits: its arguments unchanged, every counter back at zero. -/
theorem frame_Kernel4 : Cert.quiescent_Kernel4 := fun m g _ => Cert.Kernel4.In.run_bits m g
/-- The same over the extended reals. -/
theorem frame_Kernel4Ideal : Cert.quiescent_Kernel4Ideal := fun m g _ => Cert.Kernel4Ideal.Gen.frame (F := Ideal) m g
/-- Its reference over the extended reals: the same. -/
theorem frame_Reference4Ideal : Cert.quiescent_Reference4Ideal := fun m g _ =>
  (θ_run Cert.Reference4Ideal.defs _ _).mono (fun r h => ⟨fun c => (h c).2.2.2.2.2.2.2.2, sem_eq_zero_of_no_sems (by decide) r.2⟩) (Cert.Reference4Ideal.Value.run (F := Ideal) m g)

/-- Over the extended reals, the fused projection and its reference leave the same eight results. -/
theorem algebraic_inproj : Cert.algebraic_Kernel4Ideal_Reference4Ideal := by
  intro m g m' g' _ hagree
  refine ⟨fun c => InRef.r0 (Kernel4Ideal.In.zz m c), fun c => InRef.r1 (Kernel4Ideal.In.zz m c), fun c => InRef.r2 (Kernel4Ideal.In.zz m c), fun c => InRef.r3 (Kernel4Ideal.In.zz m c), fun c => InRef.r4 (Kernel4Ideal.In.zz m c), fun c => InRef.r5 (Kernel4Ideal.In.zz m c), fun c => InRef.r6 (Kernel4Ideal.In.ss m c), fun c => InRef.r7 (Kernel4Ideal.In.ss m c),
    (θ_run Cert.Kernel4Ideal.defs _ _).mono (fun _ h => h.1) (Kernel4Ideal.In.run_out m g), ?_⟩
  refine (θ_run Cert.Reference4Ideal.defs _ _).mono (fun _ h => fun c => ?_) (Cert.Reference4Ideal.Value.run (F := Ideal) m' g')
  obtain ⟨h0, h1, h2, h3, h4, h5, h6⟩ := hagree c
  obtain ⟨e0, e1, e2, e3, e4, e5, e6, e7, ea⟩ := h c
  rw [h0, h1, h2, h3, h4] at e0 e1 e2 e3 e4
  exact ⟨e0, e1, e2, e3, e4, e5.trans (InRef.res5_eq m' c _ _ _ _ _ _ _ h0 h1 h2 h3 h4 h5 h6),
    e6.trans (InRef.res6_eq m' c _ _ _ _ _ _ _ h0 h1 h2 h3 h4 h5 h6), e7.trans (InRef.res7_eq m' c _ _ _ _ _ _ _ h0 h1 h2 h3 h4 h5 h6), ea⟩

/-- The samples' fused projection over the bits: its arguments unchanged, every counter back at zero. -/
theorem frame_Kernel5 : Cert.quiescent_Kernel5 := fun m g _ => Cert.Kernel5.In.run_bits m g
/-- The same over the extended reals. -/
theorem frame_Kernel5Ideal : Cert.quiescent_Kernel5Ideal := fun m g _ => Cert.Kernel5Ideal.Gen.frame (F := Ideal) m g
/-- Its reference over the extended reals: the same. -/
theorem frame_Reference5Ideal : Cert.quiescent_Reference5Ideal := fun m g _ =>
  (θ_run Cert.Reference5Ideal.defs _ _).mono (fun r h => ⟨fun c => (h c).2.2.2.2.2.2, sem_eq_zero_of_no_sems (by decide) r.2⟩) (Cert.Reference5Ideal.Value.run (F := Ideal) m g)

/-- Over the extended reals, the samples' projection and its reference leave the same six results. -/
theorem algebraic_inproj_s : Cert.algebraic_Kernel5Ideal_Reference5Ideal := by
  intro m g m' g' _ hagree
  refine ⟨fun c => InRefS.r0 (Kernel5Ideal.In.zz m c), fun c => InRefS.r1 (Kernel5Ideal.In.zz m c), fun c => InRefS.r2 (Kernel5Ideal.In.zz m c), fun c => InRefS.r3 (Kernel5Ideal.In.zz m c), fun c => InRefS.r4 (Kernel5Ideal.In.ss m c), fun c => InRefS.r5 (Kernel5Ideal.In.ss m c),
    (θ_run Cert.Kernel5Ideal.defs _ _).mono (fun _ h => h.1) (Kernel5Ideal.In.run_out m g), ?_⟩
  refine (θ_run Cert.Reference5Ideal.defs _ _).mono (fun _ h => fun c => ?_) (Cert.Reference5Ideal.Value.run (F := Ideal) m' g')
  obtain ⟨h0, h1, h2, h3, h4, h5, h6⟩ := hagree c
  obtain ⟨e0, e1, e2, e3, e4, e5, ea⟩ := h c
  rw [h0, h1, h2, h3, h4] at e0 e1 e2
  exact ⟨e0, e1, e2, e3.trans (InRefS.res3_eq m' c _ _ _ _ _ _ _ h0 h1 h2 h3 h4 h5 h6),
    e4.trans (InRefS.res4_eq m' c _ _ _ _ _ _ _ h0 h1 h2 h3 h4 h5 h6), e5.trans (InRefS.res5_eq m' c _ _ _ _ _ _ _ h0 h1 h2 h3 h4 h5 h6), ea⟩

/-- The samples' experts over the bits: its arguments unchanged, every counter back at zero. -/
theorem frame_Kernel6 : Cert.quiescent_Kernel6 := fun m g _ => Cert.Kernel6.MoeS.run_bits m g
/-- The same over the extended reals. -/
theorem frame_Kernel6Ideal : Cert.quiescent_Kernel6Ideal := fun m g _ => Cert.Kernel6Ideal.Gen.frame (F := Ideal) m g
/-- Its reference over the extended reals: the same. -/
theorem frame_Reference6Ideal : Cert.quiescent_Reference6Ideal := fun m g _ =>
  (θ_run Cert.Reference6Ideal.defs _ _).mono (fun r h => ⟨fun c => (h c).2, sem_eq_zero_of_no_sems (by decide) r.2⟩) (Cert.Reference6Ideal.Value.run (F := Ideal) m g)

/-- Over the extended reals, the samples' experts and their reference leave one result. -/
theorem algebraic_moe_s : Cert.algebraic_Kernel6Ideal_Reference6Ideal := by
  intro m g m' g' _ hagree
  refine ⟨fun c => MoeSRef.outV (Kernel6Ideal.MoeS.yy m c) (Kernel6Ideal.MoeS.aR m c) (Kernel6Ideal.MoeS.aA m c) (Kernel6Ideal.MoeS.aS m c),
    (θ_run Cert.Kernel6Ideal.defs _ _).mono (fun _ h => h.1) (Kernel6Ideal.MoeS.run_out m g), ?_⟩
  refine (θ_run Cert.Reference6Ideal.defs _ _).mono (fun _ h => fun c => ⟨(h c).1.trans ?_, (h c).2⟩) (Cert.Reference6Ideal.Value.run (F := Ideal) m' g')
  obtain ⟨h0, h1, h2, h3, h4, h5, h6, h7⟩ := hagree c
  exact MoeSRef.res_eq m' c _ _ _ _ _ _ _ _ h0 h1 h2 h3 h4 h5 h6 h7

/-- The modulation over the bits: its arguments unchanged, every counter back at zero. -/
theorem frame_Kernel7 : Cert.quiescent_Kernel7 := fun m g _ => Cert.Kernel7.Ada.run_bits m g
/-- The same over the extended reals. -/
theorem frame_Kernel7Ideal : Cert.quiescent_Kernel7Ideal := fun m g _ => Cert.Kernel7Ideal.Gen.frame (F := Ideal) m g
/-- Its reference over the extended reals: the same. -/
theorem frame_Reference7Ideal : Cert.quiescent_Reference7Ideal := fun m g _ =>
  (θ_run Cert.Reference7Ideal.defs _ _).mono (fun r h => ⟨fun c => (h c).2, sem_eq_zero_of_no_sems (by decide) r.2⟩) (Cert.Reference7Ideal.Value.run (F := Ideal) m g)

/-- Over the extended reals, the modulation's product and its reference leave one result. -/
theorem algebraic_ada : Cert.algebraic_Kernel7Ideal_Reference7Ideal := by
  intro m g m' g' _ hagree
  refine ⟨fun c => AdaRef.oV (Kernel7Ideal.Ada.cc m c) (Kernel7Ideal.Ada.aW m c) (Kernel7Ideal.Ada.aB m c),
    (θ_run Cert.Kernel7Ideal.defs _ _).mono (fun _ h => h.1) (Kernel7Ideal.Ada.run_out m g), ?_⟩
  refine (θ_run Cert.Reference7Ideal.defs _ _).mono (fun _ h => fun c => ?_) (Cert.Reference7Ideal.Value.run (F := Ideal) m' g')
  obtain ⟨h0, h1, h2, h3⟩ := hagree c
  obtain ⟨e0, ea⟩ := h c
  rw [h0, h1, h2, h3] at e0
  exact ⟨e0, ea⟩

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Reference3.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_pos_names_rows.Gen.facts, Cert.Pre_tiles_name_groups.Gen.facts,
  frame_Kernel, frame_KernelIdeal, frame_ReferenceIdeal, frame_ReferenceIdeal_pre, frame_Reference, frame_Kernel2, frame_Kernel2Ideal, frame_Reference2Ideal, frame_Reference2Ideal_pre,
  frame_Kernel3, frame_Kernel3Ideal, frame_Reference3Ideal, frame_Reference3,
  frame_Kernel4, frame_Kernel4Ideal, frame_Reference4Ideal,
  frame_Kernel5, frame_Kernel5Ideal, frame_Reference5Ideal,
  frame_Kernel6, frame_Kernel6Ideal, frame_Reference6Ideal,
  frame_Kernel7, frame_Kernel7Ideal, frame_Reference7Ideal,
  trivial, algebraic, bitexact, trivial, algebraic_moe, trivial, algebraic_resid, bitexact_resid, trivial, algebraic_inproj,
  trivial, algebraic_inproj_s, trivial, algebraic_moe_s, trivial, algebraic_ada⟩

end Cert.Proof

end
